-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_partials_small_KernelIdeal [hPre_partials_small_KernelIdeal : Cert.Pre_partials_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_partials_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_partials_small_ReferenceIdeal [hPre_partials_small_ReferenceIdeal : Cert.Pre_partials_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_partials_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_partials_small_KernelIdeal [hKernelIdeal : Cert.KernelIdeal.Facts] [hPre_partials_small_KernelIdeal : Cert.Pre_partials_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_partials_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_partials_small_ReferenceIdeal [hReferenceIdeal : Cert.ReferenceIdeal.Facts] [hPre_partials_small_ReferenceIdeal : Cert.Pre_partials_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_partials_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_partials_small_KernelIdeal [hKernelIdeal : Cert.KernelIdeal.Facts] [hReferenceIdeal : Cert.ReferenceIdeal.Facts] [hPre_partials_small_KernelIdeal : Cert.Pre_partials_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_partials_small_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_partials_small_KernelIdeal : Cert.Pre_partials_small_KernelIdeal.Facts) (hPre_partials_small_ReferenceIdeal : Cert.Pre_partials_small_ReferenceIdeal.Facts),
    quiescent_Kernel (hKernel := hKernel)
    ∧ quiescent_KernelIdeal (hKernelIdeal := hKernelIdeal)
    ∧ quiescent_KernelIdeal_pre_partials_small_KernelIdeal (hKernelIdeal := hKernelIdeal) (hPre_partials_small_KernelIdeal := hPre_partials_small_KernelIdeal)
    ∧ quiescent_ReferenceIdeal (hReferenceIdeal := hReferenceIdeal)
    ∧ quiescent_ReferenceIdeal_pre_partials_small_ReferenceIdeal (hReferenceIdeal := hReferenceIdeal) (hPre_partials_small_ReferenceIdeal := hPre_partials_small_ReferenceIdeal)
    ∧ preserves_Kernel_KernelIdeal
    ∧ algebraic_KernelIdeal_ReferenceIdeal_pre_partials_small_KernelIdeal (hKernelIdeal := hKernelIdeal) (hReferenceIdeal := hReferenceIdeal) (hPre_partials_small_KernelIdeal := hPre_partials_small_KernelIdeal)
-- ==== Pre_partials_small_KernelIdeal.lean ====
abbrev S4096x512 : Shape := ⟨2, ![4096, 512]⟩
abbrev S512x2048 : Shape := ⟨2, ![512, 2048]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x512_S512x2048_S4096x2048_1_0_0_1_n_n_wf : DotDims.WF S4096x512 S512x2048 S4096x2048 [1] [0] [0] [1] [] []

variable [Facts]

def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def fn {F : FTy → Type} [FloatOps F] (main_arg0 : FVec F S4096x512 .f32) (main_arg1 : FVec F S512x2048 .f32) : IVec S_ 1 :=
  let main_v0 : FVec F S4096x2048 .f32 := (fun l r => Host.dotGeneral dot_S4096x512_S512x2048_S4096x2048_1_0_0_1_n_n none l r) main_arg0 main_arg1
  let main_v1 : FVec F S4096x2048 .f32 := Host.absf main_v0
  let main_cst : FVec F S_ .f32 := constant S_ .f32 0x40F00000#32
  let main_v2 : FVec F S4096x2048 .f32 := broadcastInDim S4096x2048 ![] bcast_S_S4096x2048 main_cst
  let main_v3 : IVec S4096x2048 1 := cmpf .ole main_v1 main_v2
  let main_c : IVec S_ 1 := constantI S_ 1 1#1
  let main_v4 : IVec S_ 1 := (fun x v => Host.reduce IntOp.andi x v reducesTo_S4096x2048_S_d0_1 h_S_) main_v3 main_c
  main_v4
-- ==== Pre_partials_small_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S_ 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x40F00000#32
  let main_v2 : FVec F S4096x2048 .f32 := broadcastInDim S4096x2048 ![] bcast_S_S4096x2048 main_cst
  let main_v3 : IVec S4096x2048 1 := cmpf .ole main_v1 main_v2
  let main_c : IVec S_ 1 := constantI S_ 1 1#1
  let main_v4 : IVec S_ 1 := (fun x v => Host.reduce IntOp.andi x v reducesTo_S4096x2048_S_d0_1 h_S_) main_v3 main_c
  main_v4
-- ==== Kernel.lean ====
abbrev S4096x512 : Shape := ⟨2, ![4096, 512]⟩
abbrev S512x2048 : Shape := ⟨2, ![512, 2048]⟩
abbrev S5x512x384 : Shape := ⟨3, ![5, 512, 384]⟩
abbrev S4x512x384 : Shape := ⟨3, ![4, 512, 384]⟩
abbrev S4x512x512 : Shape := ⟨3, ![4, 512, 512]⟩
abbrev S3x512x256 : Shape := ⟨3, ![3, 512, 256]⟩
abbrev S4x3 : Shape := ⟨2, ![4, 3]⟩
abbrev S4 : Shape := ⟨1, ![4]⟩
abbrev S2x3 : Shape := ⟨2, ![2, 3]⟩
abbrev S2 : Shape := ⟨1, ![2]⟩
abbrev S_ : Shape := ⟨0, ![]⟩
abbrev S512x512 : Shape := ⟨2, ![512, 512]⟩
abbrev S512x384 : Shape := ⟨2, ![512, 384]⟩
abbrev S1x512x384 : Shape := ⟨3, ![1, 512, 384]⟩
abbrev S1x1 : Shape := ⟨2, ![1, 1]⟩
abbrev S1x512x512 : Shape := ⟨3, ![1, 512, 512]⟩
abbrev S1 : Shape := ⟨1, ![1]⟩
abbrev S512x768 : Shape := ⟨2, ![512, 768]⟩
abbrev S512x256 : Shape := ⟨2, ![512, 256]⟩
abbrev S1x512x256 : Shape := ⟨3, ![1, 512, 256]⟩

abbrev nBuf : Space → Nat
  | .hbm => 3
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .f32⟩
  | .local _ .vmem, ⟨3, _⟩ => ⟨S5x512x384, .f32⟩
  | .local _ .vmem, ⟨4, _⟩ => ⟨S5x512x384, .f32⟩
  | .local _ .vmem, ⟨5, _⟩ => ⟨S5x512x384, .f32⟩
  | .local _ .vmem, ⟨6, _⟩ => ⟨S5x512x384, .f32⟩
  | .local _ .vmem, ⟨7, _⟩ => ⟨S4x512x384, .f32⟩
  | .local _ .vmem, ⟨8, _⟩ => ⟨S4x512x512, .f32⟩
  | .local _ .vmem, ⟨9, _⟩ => ⟨S4x512x512, .f32⟩
  | .local _ .vmem, ⟨10, _⟩ => ⟨S3x512x256, .f32⟩
  | .local _ .vmem, ⟨11, _⟩ => ⟨S3x512x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => true
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 8 55 bufScoped semScoped dmaSemScoped tileCredit tileCredit_eq_zero tileCredit_pos).withBarriers [(0, 6)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 6

abbrev nD : Nat := 8
abbrev τ : Topo := Topo.v7x

variable {F : FTy → Type} [FloatOps F]

abbrev grid0 : Pipeline.Grid := .none

def k0_dev1 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_37 : BitVec 32 := 1#32
  let v71 : BitVec 32 := Scalar.muli v55 c1_i32_37
  let v72 : BitVec 32 := Scalar.addi c0_i32_38 v71
  v72.toNat
def k0_dev2 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_40 : BitVec 32 := 1#32
  let v73 : BitVec 32 := Scalar.muli v42 c1_i32_40
  let v74 : BitVec 32 := Scalar.addi c0_i32_41 v73
  v74.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_43 : BitVec 32 := 1#32
  let v75 : BitVec 32 := Scalar.muli v66 c1_i32_43
  let v76 : BitVec 32 := Scalar.addi c0_i32_44 v75
  v76.toNat
def k0_off1 (d0 : Dev nD) (c3_i32_65 : BitVec 32) (c0_i32_66 : BitVec 32) : Fin 2 → Nat :=
  let c4_i32_34 : BitVec 32 := 4#32
  let c1_i32_33 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v67 : BitVec 32 := Scalar.subi c1_i32_33 v19
  let v68 : BitVec 32 := Scalar.muli c4_i32_34 v67
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v110 : BitVec 32 := Scalar.addi v29 c3_i32_65
  let v111 : BitVec 32 := Scalar.subi v110 c0_i32_66
  let c4_i32_67 : BitVec 32 := 4#32
  let c0_i32_68 : BitVec 32 := 0#32
  let v112 : BitVec 1 := Scalar.cmpi .eq c4_i32_67 c0_i32_68
  let c1_i32_69 : BitVec 32 := 1#32
  let v113 : BitVec 32 := Scalar.select v112 c1_i32_69 c4_i32_67
  let v114 : BitVec 32 := Scalar.remsi v111 v113
  let c0_i32_71 : BitVec 32 := 0#32
  let v116 : BitVec 1 := Scalar.cmpi .slt v114 c0_i32_71
  let c0_i32_72 : BitVec 32 := 0#32
  let v117 : BitVec 1 := Scalar.cmpi .slt v113 c0_i32_72
  let v118 : BitVec 1 := Scalar.xori v116 v117
  let c0_i32_70 : BitVec 32 := 0#32
  let v115 : BitVec 1 := Scalar.cmpi .ne v114 c0_i32_70
  let v119 : BitVec 1 := Scalar.andi v118 v115
  let v120 : BitVec 32 := Scalar.addi v114 v113
  let v121 : BitVec 32 := Scalar.select v119 v120 v114
  let v122 : BitVec 32 := Scalar.addi v68 v121
  let c512_i32 : BitVec 32 := 512#32
  let v123 : BitVec 32 := Scalar.muli v122 c512_i32
  let v124 : Index := Scalar.indexCast v123
  let c0 : Index := 0#32
  ![v124.toNat, 0]
def k0_off1_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off2 (d0 : Dev nD) (c1_i32_78 : BitVec 32) (c0_i32_79 : BitVec 32) : Fin 2 → Nat :=
  let c4_i32_34 : BitVec 32 := 4#32
  let c1_i32_33 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v67 : BitVec 32 := Scalar.subi c1_i32_33 v19
  let v68 : BitVec 32 := Scalar.muli c4_i32_34 v67
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v133 : BitVec 32 := Scalar.addi v29 c1_i32_78
  let v134 : BitVec 32 := Scalar.addi v133 c0_i32_79
  let c4_i32_80 : BitVec 32 := 4#32
  let c0_i32_81 : BitVec 32 := 0#32
  let v135 : BitVec 1 := Scalar.cmpi .eq c4_i32_80 c0_i32_81
  let c1_i32_82 : BitVec 32 := 1#32
  let v136 : BitVec 32 := Scalar.select v135 c1_i32_82 c4_i32_80
  let v137 : BitVec 32 := Scalar.remsi v134 v136
  let c0_i32_84 : BitVec 32 := 0#32
  let v139 : BitVec 1 := Scalar.cmpi .slt v137 c0_i32_84
  let c0_i32_85 : BitVec 32 := 0#32
  let v140 : BitVec 1 := Scalar.cmpi .slt v136 c0_i32_85
  let v141 : BitVec 1 := Scalar.xori v139 v140
  let c0_i32_83 : BitVec 32 := 0#32
  let v138 : BitVec 1 := Scalar.cmpi .ne v137 c0_i32_83
  let v142 : BitVec 1 := Scalar.andi v141 v138
  let v143 : BitVec 32 := Scalar.addi v137 v136
  let v144 : BitVec 32 := Scalar.select v142 v143 v137
  let v145 : BitVec 32 := Scalar.addi v68 v144
  let c512_i32_86 : BitVec 32 := 512#32
  let v146 : BitVec 32 := Scalar.muli v145 c512_i32_86
  let v147 : Index := Scalar.indexCast v146
  let c0_87 : Index := 0#32
  ![v147.toNat, 0]
def k0_off2_at (r : Fin 4) : BitVec 32 × BitVec 32 :=
  if r.val < 2 then
    if r.val < 1 then
      (1#32, 0#32)
    else
      (2#32, 0#32)
  else
    if r.val < 3 then
      (2#32, 1#32)
    else
      (2#32, 2#32)
def k0_dev4 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_130 : BitVec 32 := 1#32
  let v202 : BitVec 32 := Scalar.muli v42 c1_i32_130
  let v203 : BitVec 32 := Scalar.addi c0_i32_131 v202
  v203.toNat
def k0_dev5 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_142 : BitVec 32 := 1#32
  let v212 : BitVec 32 := Scalar.muli v55 c1_i32_142
  let v213 : BitVec 32 := Scalar.addi c0_i32_143 v212
  v213.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_154 : BitVec 32 := 1#32
  let v222 : BitVec 32 := Scalar.muli v42 c1_i32_154
  let v223 : BitVec 32 := Scalar.addi c0_i32_155 v222
  v223.toNat
def k0_dev7 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_166 : BitVec 32 := 1#32
  let v232 : BitVec 32 := Scalar.muli v55 c1_i32_166
  let v233 : BitVec 32 := Scalar.addi c0_i32_167 v232
  v233.toNat
def k0_off3 (d0 : Dev nD) (c3_i32_45 : BitVec 32) : Fin 2 → Nat :=
  let c4_i32_34 : BitVec 32 := 4#32
  let c1_i32_33 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v67 : BitVec 32 := Scalar.subi c1_i32_33 v19
  let v68 : BitVec 32 := Scalar.muli c4_i32_34 v67
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v77 : BitVec 32 := Scalar.addi v29 c3_i32_45
  let c4_i32_46 : BitVec 32 := 4#32
  let c0_i32_47 : BitVec 32 := 0#32
  let v78 : BitVec 1 := Scalar.cmpi .eq c4_i32_46 c0_i32_47
  let c1_i32_48 : BitVec 32 := 1#32
  let v79 : BitVec 32 := Scalar.select v78 c1_i32_48 c4_i32_46
  let v80 : BitVec 32 := Scalar.remsi v77 v79
  let c0_i32_50 : BitVec 32 := 0#32
  let v82 : BitVec 1 := Scalar.cmpi .slt v80 c0_i32_50
  let c0_i32_51 : BitVec 32 := 0#32
  let v83 : BitVec 1 := Scalar.cmpi .slt v79 c0_i32_51
  let v84 : BitVec 1 := Scalar.xori v82 v83
  let c0_i32_49 : BitVec 32 := 0#32
  let v81 : BitVec 1 := Scalar.cmpi .ne v80 c0_i32_49
  let v85 : BitVec 1 := Scalar.andi v84 v81
  let v86 : BitVec 32 := Scalar.addi v80 v79
  let v87 : BitVec 32 := Scalar.select v85 v86 v80
  let v242 : BitVec 32 := Scalar.addi v68 v87
  let c512_i32_172 : BitVec 32 := 512#32
  let v243 : BitVec 32 := Scalar.muli v242 c512_i32_172
  let v244 : Index := Scalar.indexCast v243
  let c0_173 : Index := 0#32
  ![v244.toNat, 0]
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_183 : BitVec 32 := 1#32
  let v253 : BitVec 32 := Scalar.muli v66 c1_i32_183
  let v254 : BitVec 32 := Scalar.addi c0_i32_184 v253
  v254.toNat
def k0_dev9 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_200 : BitVec 32 := 1#32
  let v274 : BitVec 32 := Scalar.muli v66 c1_i32_200
  let v275 : BitVec 32 := Scalar.addi c0_i32_201 v274
  v275.toNat
def k0_dev10 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_217 : BitVec 32 := 1#32
  let v295 : BitVec 32 := Scalar.muli v66 c1_i32_217
  let v296 : BitVec 32 := Scalar.addi c0_i32_218 v295
  v296.toNat
def k0_off4 (d0 : Dev nD) : Fin 2 → Nat :=
  let c4_i32_34 : BitVec 32 := 4#32
  let c1_i32_33 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v67 : BitVec 32 := Scalar.subi c1_i32_33 v19
  let v68 : BitVec 32 := Scalar.muli c4_i32_34 v67
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v305 : BitVec 32 := Scalar.addi v68 v29
  let c512_i32_223 : BitVec 32 := 512#32
  let v306 : BitVec 32 := Scalar.muli v305 c512_i32_223
  let v307 : Index := Scalar.indexCast v306
  let c0_224 : Index := 0#32
  ![v307.toNat, 0]
def k0_dev11 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_234 : BitVec 32 := 1#32
  let v316 : BitVec 32 := Scalar.muli v66 c1_i32_234
  let v317 : BitVec 32 := Scalar.addi c0_i32_235 v316
  v317.toNat
def k0_dev12 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_291 : BitVec 32 := 1#32
  let v386 : BitVec 32 := Scalar.muli v55 c1_i32_291
  let v387 : BitVec 32 := Scalar.addi c0_i32_292 v386
  v387.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_305 : BitVec 32 := 1#32
  let v394 : BitVec 32 := Scalar.muli v42 c1_i32_305
  let v395 : BitVec 32 := Scalar.addi c0_i32_306 v394
  v395.toNat
def k0_dev14 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_336 : BitVec 32 := 1#32
  let v420 : BitVec 32 := Scalar.muli v42 c1_i32_336
  let v421 : BitVec 32 := Scalar.addi c0_i32_337 v420
  v421.toNat
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_350 : BitVec 32 := 1#32
  let v428 : BitVec 32 := Scalar.muli v55 c1_i32_350
  let v429 : BitVec 32 := Scalar.addi c0_i32_351 v428
  v429.toNat
def k0_dev16 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_381 : BitVec 32 := 1#32
  let v454 : BitVec 32 := Scalar.muli v55 c1_i32_381
  let v455 : BitVec 32 := Scalar.addi c0_i32_382 v454
  v455.toNat
def k0_dev17 (d0 : Dev nD) : Nat :=
  let c0_i32_396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_395 : BitVec 32 := 1#32
  let v462 : BitVec 32 := Scalar.muli v42 c1_i32_395
  let v463 : BitVec 32 := Scalar.addi c0_i32_396 v462
  v463.toNat
def k0_dev18 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_426 : BitVec 32 := 1#32
  let v488 : BitVec 32 := Scalar.muli v42 c1_i32_426
  let v489 : BitVec 32 := Scalar.addi c0_i32_427 v488
  v489.toNat
def k0_dev19 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_440 : BitVec 32 := 1#32
  let v496 : BitVec 32 := Scalar.muli v55 c1_i32_440
  let v497 : BitVec 32 := Scalar.addi c0_i32_441 v496
  v497.toNat
def k0_off5 (d0 : Dev nD) (c3_i32_472 : BitVec 32) (c0_i32_473 : BitVec 32) : Fin 2 → Nat :=
  let c4_i32_35 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v69 : BitVec 32 := Scalar.muli c4_i32_35 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v550 : BitVec 32 := Scalar.addi v29 c3_i32_472
  let v551 : BitVec 32 := Scalar.subi v550 c0_i32_473
  let c4_i32_474 : BitVec 32 := 4#32
  let c0_i32_475 : BitVec 32 := 0#32
  let v552 : BitVec 1 := Scalar.cmpi .eq c4_i32_474 c0_i32_475
  let c1_i32_476 : BitVec 32 := 1#32
  let v553 : BitVec 32 := Scalar.select v552 c1_i32_476 c4_i32_474
  let v554 : BitVec 32 := Scalar.remsi v551 v553
  let c0_i32_478 : BitVec 32 := 0#32
  let v556 : BitVec 1 := Scalar.cmpi .slt v554 c0_i32_478
  let c0_i32_479 : BitVec 32 := 0#32
  let v557 : BitVec 1 := Scalar.cmpi .slt v553 c0_i32_479
  let v558 : BitVec 1 := Scalar.xori v556 v557
  let c0_i32_477 : BitVec 32 := 0#32
  let v555 : BitVec 1 := Scalar.cmpi .ne v554 c0_i32_477
  let v559 : BitVec 1 := Scalar.andi v558 v555
  let v560 : BitVec 32 := Scalar.addi v554 v553
  let v561 : BitVec 32 := Scalar.select v559 v560 v554
  let v562 : BitVec 32 := Scalar.addi v69 v561
  let c512_i32_480 : BitVec 32 := 512#32
  let v563 : BitVec 32 := Scalar.muli v562 c512_i32_480
  let v564 : Index := Scalar.indexCast v563
  let c0_481 : Index := 0#32
  ![v564.toNat, 0]
def k0_off5_at (r : Fin 4) : BitVec 32 × BitVec 32 :=
  if r.val < 2 then
    if r.val < 1 then
      (3#32, 0#32)
    else
      (2#32, 0#32)
  else
    if r.val < 3 then
      (2#32, 1#32)
    else
      (2#32, 2#32)
def k0_off6 (d0 : Dev nD) (c1_i32_487 : BitVec 32) (c0_i32_488 : BitVec 32) : Fin 2 → Nat :=
  let c4_i32_35 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v69 : BitVec 32 := Scalar.muli c4_i32_35 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v573 : BitVec 32 := Scalar.addi v29 c1_i32_487
  let v574 : BitVec 32 := Scalar.addi v573 c0_i32_488
  let c4_i32_489 : BitVec 32 := 4#32
  let c0_i32_490 : BitVec 32 := 0#32
  let v575 : BitVec 1 := Scalar.cmpi .eq c4_i32_489 c0_i32_490
  let c1_i32_491 : BitVec 32 := 1#32
  let v576 : BitVec 32 := Scalar.select v575 c1_i32_491 c4_i32_489
  let v577 : BitVec 32 := Scalar.remsi v574 v576
  let c0_i32_493 : BitVec 32 := 0#32
  let v579 : BitVec 1 := Scalar.cmpi .slt v577 c0_i32_493
  let c0_i32_494 : BitVec 32 := 0#32
  let v580 : BitVec 1 := Scalar.cmpi .slt v576 c0_i32_494
  let v581 : BitVec 1 := Scalar.xori v579 v580
  let c0_i32_492 : BitVec 32 := 0#32
  let v578 : BitVec 1 := Scalar.cmpi .ne v577 c0_i32_492
  let v582 : BitVec 1 := Scalar.andi v581 v578
  let v583 : BitVec 32 := Scalar.addi v577 v576
  let v584 : BitVec 32 := Scalar.select v582 v583 v577
  let v585 : BitVec 32 := Scalar.addi v69 v584
  let c512_i32_495 : BitVec 32 := 512#32
  let v586 : BitVec 32 := Scalar.muli v585 c512_i32_495
  let v587 : Index := Scalar.indexCast v586
  let c0_496 : Index := 0#32
  ![v587.toNat, 0]
def k0_off6_at (r : Fin 4) : BitVec 32 × BitVec 32 :=
  if r.val < 2 then
    if r.val < 1 then
      (1#32, 0#32)
    else
      (2#32, 0#32)
  else
    if r.val < 3 then
      (2#32, 1#32)
    else
      (2#32, 2#32)
def k0_dev20 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_560 : BitVec 32 := 1#32
  let v658 : BitVec 32 := Scalar.muli v55 c1_i32_560
  let v659 : BitVec 32 := Scalar.addi c0_i32_561 v658
  v659.toNat
def k0_dev21 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_574 : BitVec 32 := 1#32
  let v666 : BitVec 32 := Scalar.muli v42 c1_i32_574
  let v667 : BitVec 32 := Scalar.addi c0_i32_575 v666
  v667.toNat
def k0_dev22 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_605 : BitVec 32 := 1#32
  let v692 : BitVec 32 := Scalar.muli v42 c1_i32_605
  let v693 : BitVec 32 := Scalar.addi c0_i32_606 v692
  v693.toNat
def k0_dev23 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_619 : BitVec 32 := 1#32
  let v700 : BitVec 32 := Scalar.muli v55 c1_i32_619
  let v701 : BitVec 32 := Scalar.addi c0_i32_620 v700
  v701.toNat
def k0_dev24 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_650 : BitVec 32 := 1#32
  let v726 : BitVec 32 := Scalar.muli v55 c1_i32_650
  let v727 : BitVec 32 := Scalar.addi c0_i32_651 v726
  v727.toNat
def k0_dev25 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_664 : BitVec 32 := 1#32
  let v734 : BitVec 32 := Scalar.muli v42 c1_i32_664
  let v735 : BitVec 32 := Scalar.addi c0_i32_665 v734
  v735.toNat
def k0_dev26 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_695 : BitVec 32 := 1#32
  let v760 : BitVec 32 := Scalar.muli v42 c1_i32_695
  let v761 : BitVec 32 := Scalar.addi c0_i32_696 v760
  v761.toNat
def k0_dev27 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_709 : BitVec 32 := 1#32
  let v768 : BitVec 32 := Scalar.muli v55 c1_i32_709
  let v769 : BitVec 32 := Scalar.addi c0_i32_710 v768
  v769.toNat
def k0_dev28 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_750 : BitVec 32 := 1#32
  let v812 : BitVec 32 := Scalar.muli v42 c1_i32_750
  let v813 : BitVec 32 := Scalar.addi c0_i32_751 v812
  v813.toNat
def k0_dev29 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_789 : BitVec 32 := 1#32
  let v856 : BitVec 32 := Scalar.muli v55 c1_i32_789
  let v857 : BitVec 32 := Scalar.addi c0_i32_790 v856
  v857.toNat
def k0_dev30 (d0 : Dev nD) : Nat :=
  let c0_i32_847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_846 : BitVec 32 := 1#32
  let v926 : BitVec 32 := Scalar.muli v55 c1_i32_846
  let v927 : BitVec 32 := Scalar.addi c0_i32_847 v926
  v927.toNat
def k0_dev31 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_858 : BitVec 32 := 1#32
  let v934 : BitVec 32 := Scalar.muli v66 c1_i32_858
  let v935 : BitVec 32 := Scalar.addi c0_i32_859 v934
  v935.toNat
def k0_dev32 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_873 : BitVec 32 := 1#32
  let v946 : BitVec 32 := Scalar.muli v42 c1_i32_873
  let v947 : BitVec 32 := Scalar.addi c0_i32_874 v946
  v947.toNat
def k0_dev33 (d0 : Dev nD) : Nat :=
  let c0_i32_905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_904 : BitVec 32 := 1#32
  let v972 : BitVec 32 := Scalar.muli v42 c1_i32_904
  let v973 : BitVec 32 := Scalar.addi c0_i32_905 v972
  v973.toNat
def k0_dev34 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_916 : BitVec 32 := 1#32
  let v980 : BitVec 32 := Scalar.muli v66 c1_i32_916
  let v981 : BitVec 32 := Scalar.addi c0_i32_917 v980
  v981.toNat
def k0_dev35 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_931 : BitVec 32 := 1#32
  let v992 : BitVec 32 := Scalar.muli v55 c1_i32_931
  let v993 : BitVec 32 := Scalar.addi c0_i32_932 v992
  v993.toNat
def k0_dev36 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_962 : BitVec 32 := 1#32
  let v1018 : BitVec 32 := Scalar.muli v55 c1_i32_962
  let v1019 : BitVec 32 := Scalar.addi c0_i32_963 v1018
  v1019.toNat
def k0_dev37 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_974 : BitVec 32 := 1#32
  let v1026 : BitVec 32 := Scalar.muli v66 c1_i32_974
  let v1027 : BitVec 32 := Scalar.addi c0_i32_975 v1026
  v1027.toNat
def k0_dev38 (d0 : Dev nD) : Nat :=
  let c0_i32_990 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_989 : BitVec 32 := 1#32
  let v1038 : BitVec 32 := Scalar.muli v42 c1_i32_989
  let v1039 : BitVec 32 := Scalar.addi c0_i32_990 v1038
  v1039.toNat
def k0_dev39 (d0 : Dev nD) : Nat :=
  let c0_i32_1021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1020 : BitVec 32 := 1#32
  let v1064 : BitVec 32 := Scalar.muli v42 c1_i32_1020
  let v1065 : BitVec 32 := Scalar.addi c0_i32_1021 v1064
  v1065.toNat
def k0_dev40 (d0 : Dev nD) : Nat :=
  let c0_i32_1033 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_1032 : BitVec 32 := 1#32
  let v1072 : BitVec 32 := Scalar.muli v66 c1_i32_1032
  let v1073 : BitVec 32 := Scalar.addi c0_i32_1033 v1072
  v1073.toNat
def k0_dev41 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1047 : BitVec 32 := 1#32
  let v1084 : BitVec 32 := Scalar.muli v55 c1_i32_1047
  let v1085 : BitVec 32 := Scalar.addi c0_i32_1048 v1084
  v1085.toNat
def k0_dev42 (d0 : Dev nD) : Nat :=
  let c0_i32_1118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1117 : BitVec 32 := 1#32
  let v1160 : BitVec 32 := Scalar.muli v42 c1_i32_1117
  let v1161 : BitVec 32 := Scalar.addi c0_i32_1118 v1160
  v1161.toNat
def k0_dev43 (d0 : Dev nD) : Nat :=
  let c0_i32_1162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1161 : BitVec 32 := 1#32
  let v1192 : BitVec 32 := Scalar.muli v55 c1_i32_1161
  let v1193 : BitVec 32 := Scalar.addi c0_i32_1162 v1192
  v1193.toNat
def k0_dev44 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1205 : BitVec 32 := 1#32
  let v1224 : BitVec 32 := Scalar.muli v42 c1_i32_1205
  let v1225 : BitVec 32 := Scalar.addi c0_i32_1206 v1224
  v1225.toNat
def k0_dev45 (d0 : Dev nD) : Nat :=
  let c0_i32_1250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1249 : BitVec 32 := 1#32
  let v1256 : BitVec 32 := Scalar.muli v55 c1_i32_1249
  let v1257 : BitVec 32 := Scalar.addi c0_i32_1250 v1256
  v1257.toNat
def k0_dev46 (d0 : Dev nD) : Nat :=
  let c0_i32_1281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1280 : BitVec 32 := 1#32
  let v1282 : BitVec 32 := Scalar.muli v55 c1_i32_1280
  let v1283 : BitVec 32 := Scalar.addi c0_i32_1281 v1282
  v1283.toNat
def k0_dev47 (d0 : Dev nD) : Nat :=
  let c0_i32_1321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1320 : BitVec 32 := 1#32
  let v1321 : BitVec 32 := Scalar.muli v42 c1_i32_1320
  let v1322 : BitVec 32 := Scalar.addi c0_i32_1321 v1321
  v1322.toNat
def k0_dev48 (d0 : Dev nD) : Nat :=
  let c0_i32_1352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1351 : BitVec 32 := 1#32
  let v1347 : BitVec 32 := Scalar.muli v42 c1_i32_1351
  let v1348 : BitVec 32 := Scalar.addi c0_i32_1352 v1347
  v1348.toNat
def k0_dev49 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1381 : BitVec 32 := 1#32
  let v1378 : BitVec 32 := Scalar.muli v55 c1_i32_1381
  let v1379 : BitVec 32 := Scalar.addi c0_i32_1382 v1378
  v1379.toNat
def k0_dev50 (d0 : Dev nD) : Nat :=
  let c0_i32_1452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1451 : BitVec 32 := 1#32
  let v1454 : BitVec 32 := Scalar.muli v42 c1_i32_1451
  let v1455 : BitVec 32 := Scalar.addi c0_i32_1452 v1454
  v1455.toNat
def k0_dev51 (d0 : Dev nD) : Nat :=
  let c0_i32_1496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1495 : BitVec 32 := 1#32
  let v1486 : BitVec 32 := Scalar.muli v55 c1_i32_1495
  let v1487 : BitVec 32 := Scalar.addi c0_i32_1496 v1486
  v1487.toNat
def k0_dev52 (d0 : Dev nD) : Nat :=
  let c0_i32_1540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1539 : BitVec 32 := 1#32
  let v1518 : BitVec 32 := Scalar.muli v42 c1_i32_1539
  let v1519 : BitVec 32 := Scalar.addi c0_i32_1540 v1518
  v1519.toNat
def k0_dev53 (d0 : Dev nD) : Nat :=
  let c0_i32_1584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1583 : BitVec 32 := 1#32
  let v1550 : BitVec 32 := Scalar.muli v55 c1_i32_1583
  let v1551 : BitVec 32 := Scalar.addi c0_i32_1584 v1550
  v1551.toNat
def k0_dev54 (d0 : Dev nD) : Nat :=
  let c0_i32_1644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1643 : BitVec 32 := 1#32
  let v1605 : BitVec 32 := Scalar.muli v42 c1_i32_1643
  let v1606 : BitVec 32 := Scalar.addi c0_i32_1644 v1605
  v1606.toNat
def k0_dev55 (d0 : Dev nD) : Nat :=
  let c0_i32_1704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_1703 : BitVec 32 := 1#32
  let v1660 : BitVec 32 := Scalar.muli v55 c1_i32_1703
  let v1661 : BitVec 32 := Scalar.addi c0_i32_1704 v1660
  v1661.toNat
def k0_dev56 (d0 : Dev nD) : Nat :=
  let c0_i32_2089_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v44 : BitVec 32 := Scalar.addi v29 c3_i32
  let c4_i32_20 : BitVec 32 := 4#32
  let c0_i32_21 : BitVec 32 := 0#32
  let v45 : BitVec 1 := Scalar.cmpi .eq c4_i32_20 c0_i32_21
  let c1_i32_22 : BitVec 32 := 1#32
  let v46 : BitVec 32 := Scalar.select v45 c1_i32_22 c4_i32_20
  let v47 : BitVec 32 := Scalar.remsi v44 v46
  let c0_i32_24 : BitVec 32 := 0#32
  let v49 : BitVec 1 := Scalar.cmpi .slt v47 c0_i32_24
  let c0_i32_25 : BitVec 32 := 0#32
  let v50 : BitVec 1 := Scalar.cmpi .slt v46 c0_i32_25
  let v51 : BitVec 1 := Scalar.xori v49 v50
  let c0_i32_23 : BitVec 32 := 0#32
  let v48 : BitVec 1 := Scalar.cmpi .ne v47 c0_i32_23
  let v52 : BitVec 1 := Scalar.andi v51 v48
  let v53 : BitVec 32 := Scalar.addi v47 v46
  let v54 : BitVec 32 := Scalar.select v52 v53 v47
  let v55 : BitVec 32 := Scalar.addi v43 v54
  let c1_i32_2088_r0 : BitVec 32 := 1#32
  let v2017_r0 : BitVec 32 := Scalar.muli v55 c1_i32_2088_r0
  let v2018_r0 : BitVec 32 := Scalar.addi c0_i32_2089_r0 v2017_r0
  v2018_r0.toNat
def k0_dev57 (d0 : Dev nD) : Nat :=
  let c0_i32_2092_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2091_r0 : BitVec 32 := 1#32
  let v2019_r0 : BitVec 32 := Scalar.muli v42 c1_i32_2091_r0
  let v2020_r0 : BitVec 32 := Scalar.addi c0_i32_2092_r0 v2019_r0
  v2020_r0.toNat
def k0_dev58 (d0 : Dev nD) : Nat :=
  let c0_i32_2095_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v56 : BitVec 32 := Scalar.addi v2 c4_i32_26
  let c8_i32_27 : BitVec 32 := 8#32
  let c0_i32_28 : BitVec 32 := 0#32
  let v57 : BitVec 1 := Scalar.cmpi .eq c8_i32_27 c0_i32_28
  let c1_i32_29 : BitVec 32 := 1#32
  let v58 : BitVec 32 := Scalar.select v57 c1_i32_29 c8_i32_27
  let v59 : BitVec 32 := Scalar.remsi v56 v58
  let c0_i32_31 : BitVec 32 := 0#32
  let v61 : BitVec 1 := Scalar.cmpi .slt v59 c0_i32_31
  let c0_i32_32 : BitVec 32 := 0#32
  let v62 : BitVec 1 := Scalar.cmpi .slt v58 c0_i32_32
  let v63 : BitVec 1 := Scalar.xori v61 v62
  let c0_i32_30 : BitVec 32 := 0#32
  let v60 : BitVec 1 := Scalar.cmpi .ne v59 c0_i32_30
  let v64 : BitVec 1 := Scalar.andi v63 v60
  let v65 : BitVec 32 := Scalar.addi v59 v58
  let v66 : BitVec 32 := Scalar.select v64 v65 v59
  let c1_i32_2094_r0 : BitVec 32 := 1#32
  let v2021_r0 : BitVec 32 := Scalar.muli v66 c1_i32_2094_r0
  let v2022_r0 : BitVec 32 := Scalar.addi c0_i32_2095_r0 v2021_r0
  v2022_r0.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Protocol.lean ====
/-
  The kernel's communication, as finite data: eight devices, two rings of four side by side.
  Every device runs the same list of synchronising steps (`script`). This module writes that list
  down, says which slot of which buffer each step gives away or takes, and checks by evaluation
  that every step finds the slots and the round it needs.
-/
module

public import Mathlib.Tactic.DeriveFintype
public import proofs.«01_k».proof.Proof.Gen.KernelIdeal.Launch

@[expose] public section

noncomputable section

namespace Cert.ReduceScatter

open Cert.KernelIdeal
open Idealize.ShloMosaic

/-! ## Neighbours -/

/-- The three neighbours: to the left and to the right on the own ring of four, and the device at
    the same place of the other ring. -/
inductive Dir | left | right | across
deriving DecidableEq

instance : Fintype Dir := ⟨{.left, .right, .across}, fun d => by cases d <;> decide⟩

/-- The neighbour of device `c` in a direction. -/
def peer (d : Dir) (c : Dev nD) : Dev nD :=
  match d with
  | .left => ⟨4 * (c.val / 4) + (c.val % 4 + 3) % 4, by have := c.isLt; change c.val < 8 at this; change _ < 8; omega⟩
  | .right => ⟨4 * (c.val / 4) + (c.val % 4 + 1) % 4, by have := c.isLt; change c.val < 8 at this; change _ < 8; omega⟩
  | .across => ⟨(c.val + 4) % 8, by change _ < 8; omega⟩

/-- The way back. -/
def Dir.opp : Dir → Dir
  | .left => .right
  | .right => .left
  | .across => .across

theorem peer_opp (d : Dir) (c : Dev nD) : peer d.opp (peer d c) = c := by
  cases d <;> revert c <;> decide +kernel
theorem opp_opp (d : Dir) : d.opp.opp = d := by cases d <;> rfl
theorem peer_opp' (d : Dir) (c : Dev nD) : peer d (peer d.opp c) = c := by
  cases d <;> revert c <;> decide +kernel

/-! ## Slots, copies, payments, waits -/

/-- One slice of one communication buffer: slice `k` of stream `i`'s ring buffer, the landing
    slice for stream `i`'s partial sum from across, slice `r` of the buffer sent across, slice `r`
    of the buffer received from across, slice `k` of the second ring buffer `i`. -/
inductive Slot
  | buf (i : Fin 4) (k : Fin 5) | zr (i : Fin 4) | xb (r : Fin 4) | xr (r : Fin 4) | b2 (i : Fin 2) (k : Fin 3)
deriving DecidableEq, Fintype

/-- The remote copies a device starts: step `t` of stream `i`; stream `i`'s partial sum across;
    row block `r` of the last columns across; step `s` of the second ring `i`. -/
inductive Copy
  | ring (i : Fin 4) (t : Fin 6) | z (i : Fin 4) | x (r : Fin 4) | two (i : Fin 2) (s : Fin 3)
deriving DecidableEq, Fintype

/-- What a device contributes to a semaphore of another device. -/
inductive Pay
  | bar (d : Dir) | fin (d : Dir) | cr (i : Fin 4) (j : Fin 3) | c2 (i : Fin 2) | copy (e : Copy)
deriving DecidableEq

/-- What a device waits for: the opening and the closing barrier, a credit, a copy having left,
    a copy having arrived. -/
inductive Wait
  | bar | fin | credit (i : Fin 4) (j : Fin 3) | c2 (i : Fin 2) | snd (e : Copy) | rcv (e : Copy)
deriving DecidableEq

/-- The steps that change who holds what: a payment, a wait, a store of copy `e`'s payload into the
    slot it is sent from, a store of one column group of the result. -/
inductive Op
  | pay (p : Pay) | wait (w : Wait) | put (e : Copy) | out (q : Fin 6)
deriving DecidableEq

/-- The copies and the payments, listed. -/
def copies : List Copy :=
  ((List.finRange 4).flatMap fun i => (List.finRange 6).map fun t => .ring i t)
  ++ (List.finRange 4).map .z ++ (List.finRange 4).map .x
  ++ ((List.finRange 2).flatMap fun i => (List.finRange 3).map fun s => .two i s)

def pays : List Pay :=
  [.bar .left, .bar .right, .bar .across, .fin .left, .fin .right, .fin .across]
  ++ ((List.finRange 4).flatMap fun i => (List.finRange 3).map fun j => .cr i j)
  ++ [.c2 0, .c2 1] ++ copies.map .copy

theorem mem_copies (e : Copy) : e ∈ copies := by cases e <;> simp [copies]
theorem mem_pays (p : Pay) : p ∈ pays := by
  rcases p with d | d | ⟨i, j⟩ | i | e
  · cases d <;> simp [pays]
  · cases d <;> simp [pays]
  · simp [pays]
  · fin_cases i <;> simp [pays]
  · simp [pays, mem_copies e]

instance : Fintype Pay := ⟨pays.toFinset, fun p => List.mem_toFinset.mpr (mem_pays p)⟩

/-- Semaphores by use. -/
inductive Kind
  | bar | fin | cr (i : Fin 4) | c2 (i : Fin 2) | snd (i : Fin 4) (k : Fin 3) | rcv (i : Fin 4) (k : Fin 3)
  | zs (i : Fin 4) | zr (i : Fin 4) | xs (r : Fin 4) | xr (r : Fin 4) | s2 (i : Fin 2) (k : Fin 3) | r2 (i : Fin 2) (k : Fin 3)
deriving DecidableEq, Fintype

/-- Streams 0 and 1 travel to the right, 2 and 3 to the left. -/
def streamDir (i : Fin 4) : Dir := if i.val < 2 then .right else .left
/-- The second ring 0 travels to the right, ring 1 to the left. -/
def twoDir (i : Fin 2) : Dir := if i.val = 0 then .right else .left

def Copy.dir : Copy → Dir
  | .ring i _ => streamDir i
  | .z _ => .across
  | .x _ => .across
  | .two i _ => twoDir i

/-- The slot a copy leaves from. -/
def Copy.src : Copy → Slot
  | .ring i t => .buf i (match t with | 0 => 0 | 1 => 1 | 2 => 2 | 3 => 4 | 4 => 0 | 5 => 1)
  | .z i => .buf i 3
  | .x r => .xb r
  | .two i s => .b2 i s

/-- The slot it lands in, on the neighbour. -/
def Copy.dst : Copy → Slot
  | .ring i t => .buf i (match t with | 0 => 1 | 1 => 2 | 2 => 3 | 3 => 0 | 4 => 1 | 5 => 2)
  | .z i => .zr i
  | .x r => .xr r
  | .two i s => .b2 i (match s with | 0 => 1 | 1 => 2 | 2 => 0)

/-- The step's semaphore slot. -/
def third (t : Fin 6) : Fin 3 := ⟨t.val % 3, Nat.mod_lt _ (by decide)⟩

def Copy.sndKind : Copy → Kind
  | .ring i t => .snd i (third t)
  | .z i => .zs i
  | .x r => .xs r
  | .two i s => .s2 i s

def Copy.rcvKind : Copy → Kind
  | .ring i t => .rcv i (third t)
  | .z i => .zr i
  | .x r => .xr r
  | .two i s => .r2 i s

/-- The round of its two semaphores that a copy pays. -/
def Copy.rd : Copy → ℕ
  | .ring _ t => t.val / 3
  | _ => 0

/-- The direction in which a payment goes. -/
def Pay.dir : Pay → Dir
  | .bar d => d
  | .fin d => d
  | .cr i _ => (streamDir i).opp
  | .c2 i => (twoDir i).opp
  | .copy e => e.dir

def Pay.kind : Pay → Kind
  | .bar _ => .bar
  | .fin _ => .fin
  | .cr i _ => .cr i
  | .c2 i => .c2 i
  | .copy e => e.rcvKind

def Pay.rd : Pay → ℕ
  | .copy e => e.rd
  | _ => 0

def Dir.idx : Dir → Fin 3
  | .left => 0
  | .right => 1
  | .across => 2

/-- Which contribution to its round a payment is. -/
def Pay.duty : Pay → Fin 3
  | .bar d => d.idx
  | .fin d => d.idx
  | .cr _ j => j
  | _ => 0

def Wait.kind : Wait → Kind
  | .bar => .bar
  | .fin => .fin
  | .credit i _ => .cr i
  | .c2 i => .c2 i
  | .snd e => e.sndKind
  | .rcv e => e.rcvKind

def Wait.rd : Wait → ℕ
  | .snd e => e.rd
  | .rcv e => e.rd
  | _ => 0

/-- The number of rounds of a semaphore. -/
def Kind.rounds : Kind → ℕ
  | .snd _ _ => 2
  | .rcv _ _ => 2
  | _ => 1

/-- The contributions to a round. -/
def Kind.duties (k : Kind) (r : ℕ) : Finset (Fin 3) :=
  if r < k.rounds then (match k with | .bar => Finset.univ | .fin => Finset.univ | .cr _ => Finset.univ | _ => {0}) else ∅

/-! ## The program's list of steps -/

/-- Wait for a copy sent and for the matching one received. -/
def both (e : Copy) : List Op := [.wait (.snd e), .wait (.rcv e)]
/-- Store and send. -/
def go (e : Copy) : List Op := [.put e, .pay (.copy e)]

/-- Steps 0 and 1 of a stream: hand on the sum with the own product added, and tell the sender that
    its slot is free. -/
def hop (i : Fin 4) (t : Fin 6) (j : Fin 3) (t' : Fin 6) : List Op :=
  both (.ring i t) ++ [.pay (.cr i j)] ++ go (.ring i t')
/-- Step 2: the finished half goes across, the second half starts. -/
def turn (i : Fin 4) : List Op :=
  both (.ring i 2) ++ [.pay (.cr i 2)] ++ go (.z i) ++ [.wait (.credit i 0), .pay (.copy (.ring i 3))]
/-- Steps 3 and 4: as 0 and 1, into slots whose credit is waited for. -/
def hop2 (i : Fin 4) (t : Fin 6) (j : Fin 3) (t' : Fin 6) : List Op :=
  both (.ring i t) ++ [.put (.ring i t'), .wait (.credit i j), .pay (.copy (.ring i t'))]
/-- Step 5: the result's columns of the stream. -/
def land (i : Fin 4) (q : Fin 6) : List Op := both (.ring i 5) ++ both (.z i) ++ [.out q]

def script : List Op :=
  [.pay (.bar .left), .pay (.bar .right), .pay (.bar .across)]
  ++ [.put (.ring 0 0), .put (.ring 2 0), .put (.ring 1 0), .put (.ring 3 0), .wait .bar]
  ++ [.pay (.copy (.ring 0 0)), .pay (.copy (.ring 2 0)), .pay (.copy (.ring 1 0)), .pay (.copy (.ring 3 0))]
  ++ go (.x 0) ++ go (.x 1) ++ go (.x 2) ++ go (.x 3)
  ++ hop 0 0 0 1 ++ hop 2 0 0 1 ++ hop 1 0 0 1 ++ hop 3 0 0 1
  ++ [.put (.ring 0 3), .put (.ring 2 3), .put (.ring 1 3), .put (.ring 3 3)]
  ++ hop 0 1 1 2 ++ hop 2 1 1 2 ++ hop 1 1 1 2 ++ hop 3 1 1 2
  ++ [.wait (.rcv (.x 0))] ++ go (.two 0 0) ++ [.wait (.rcv (.x 1))] ++ go (.two 1 0)
  ++ turn 0 ++ turn 2 ++ turn 1 ++ turn 3
  ++ hop2 0 3 1 4 ++ hop2 2 3 1 4 ++ hop2 1 3 1 4 ++ hop2 3 3 1 4
  ++ both (.two 0 0) ++ [.pay (.c2 0), .wait (.rcv (.x 2))] ++ go (.two 0 1)
  ++ both (.two 1 0) ++ [.pay (.c2 1)] ++ go (.two 1 1)
  ++ hop2 0 4 2 5 ++ hop2 2 4 2 5 ++ hop2 1 4 2 5 ++ hop2 3 4 2 5
  ++ both (.two 0 1) ++ [.put (.two 0 2), .wait (.c2 0), .pay (.copy (.two 0 2))]
  ++ both (.two 1 1) ++ [.put (.two 1 2), .wait (.c2 1), .pay (.copy (.two 1 2))]
  ++ land 0 0 ++ land 2 2 ++ land 1 1 ++ land 3 3
  ++ both (.two 0 2) ++ [.wait (.rcv (.x 3)), .out 4] ++ both (.two 1 2) ++ [.out 5]
  ++ [.wait (.snd (.x 0)), .wait (.snd (.x 1)), .wait (.snd (.x 2)), .wait (.snd (.x 3))]
  ++ [.pay (.fin .left), .pay (.fin .right), .pay (.fin .across), .wait .fin]

/-- The steps done after `n` steps, the latest first. -/
def hist : ℕ → List Op
  | 0 => []
  | n + 1 => (match script[n]? with | some a => [a] | none => []) ++ hist n

/-- A step is among those done. -/
def did (h : List Op) (a : Op) : Bool := h.contains a

/-! ## Who holds which slot -/

/-- A slot as its holder knows it: not held, held with any contents, holding the payload stored for
    a copy, holding what a copy brought. -/
inductive SV
  | none | any | mine (e : Copy) | got (e : Copy)
deriving DecidableEq

/-- The slots in a device's hands: its own, and the ones of its neighbours it may write. -/
structure Hands where
  own : Slot → SV
  far : Slot → SV

/-- The neighbour whose slot of this name the device writes. -/
def Slot.dir : Slot → Dir
  | .buf i _ => streamDir i
  | .zr _ => .across
  | .xb _ => .across
  | .xr _ => .across
  | .b2 i _ => twoDir i

/-- The slots that neighbours may write from the opening barrier on. -/
def Slot.opens : Slot → Bool
  | .buf _ k => k == 1 || k == 2 || k == 3
  | .zr _ => true
  | .xr _ => true
  | .b2 _ k => k == 1 || k == 2
  | _ => false

/-- The slots given away with the barrier signal in direction `d`: those the neighbour there writes. -/
def Slot.goes (d : Dir) (z : Slot) : Bool := z.opens && (z.dir == d.opp)

def set (f : Slot → SV) (z : Slot) (v : SV) : Slot → SV := fun z' => if z' = z then v else f z'

/-- How a step changes the hands. -/
def step (s : Hands) : Op → Hands
  | .pay (.bar d) => ⟨fun z => if z.goes d then .none else s.own z, s.far⟩
  | .pay (.fin _) => s
  | .pay (.cr i j) => ⟨set s.own (.buf i (Fin.castLE (by decide) j)) .none, s.far⟩
  | .pay (.c2 i) => ⟨set s.own (.b2 i 0) .none, s.far⟩
  | .pay (.copy e) => ⟨set s.own e.src .none, set s.far e.dst .none⟩
  | .wait .bar => ⟨s.own, fun z => if z.opens then .any else s.far z⟩
  | .wait .fin => s
  | .wait (.credit i j) => ⟨s.own, set s.far (.buf i (Fin.castLE (by decide) j)) .any⟩
  | .wait (.c2 i) => ⟨s.own, set s.far (.b2 i 0) .any⟩
  | .wait (.snd e) => ⟨set s.own e.src .any, s.far⟩
  | .wait (.rcv e) => ⟨set s.own e.dst (.got e), s.far⟩
  | .put e => ⟨set s.own e.src (.mine e), s.far⟩
  | .out _ => s

def hands : List Op → Hands
  | [] => ⟨fun _ => .any, fun _ => .none⟩
  | a :: h => step (hands h) a

/-! ## Rounds reached, levels -/

def waitKind : Op → Option Kind
  | .wait w => some w.kind
  | _ => none

/-- How many waits on a semaphore are done. -/
def waits (k : Kind) : List Op → ℕ
  | [] => 0
  | a :: h => if waitKind a = some k then waits k h + 1 else waits k h

/-- The level of a round of a semaphore: how late in the program the last payment to it is. -/
def levelOf (k : Kind) (r : ℕ) : ℕ :=
  script.length - (script.reverse.findIdx fun | .pay p => p.kind = k ∧ p.rd = r | _ => false)

/-- A wait is below everything still to be paid. -/
def below (h : List Op) (w : Wait) : Bool :=
  pays.all fun p => did h (.pay p) || levelOf w.kind w.rd < levelOf p.kind p.rd

/-! ## What each step needs -/

def slots : List Slot :=
  ((List.finRange 4).flatMap fun i => (List.finRange 5).map fun k => .buf i k)
  ++ (List.finRange 4).map .zr ++ (List.finRange 4).map .xb ++ (List.finRange 4).map .xr
  ++ ((List.finRange 2).flatMap fun i => (List.finRange 3).map fun k => .b2 i k)

/-- The condition of a step after the steps `h`. -/
def needs (h : List Op) : Op → Bool
  | .pay (.bar d) => !did h (.pay (.bar d)) && slots.all fun z => !z.goes d || (hands h).own z = .any
  | .pay (.fin d) => !did h (.pay (.fin d))
  | .pay (.cr i j) => !did h (.pay (.cr i j)) && ((hands h).own (.buf i (Fin.castLE (by decide) j)) != .none)
      && ((List.finRange 3).all fun j' => (j' < j) == did h (.pay (.cr i j')))
      && ((List.finRange 3).all fun j' => !(j' ≤ j) || waits (.rcv i j') h == 1)
  | .pay (.c2 i) => !did h (.pay (.c2 i)) && ((hands h).own (.b2 i 0) = .any)
  | .pay (.copy e) => !did h (.pay (.copy e)) && !did h (.wait (.snd e)) && ((hands h).own e.src = .mine e) && ((hands h).far e.dst = .any)
      && (waits e.sndKind h == e.rd)
      && (match e with | .ring i t => e.rd == 0 || did h (.wait (.credit i (third t))) | _ => true)
  | .wait w => !did h (.wait w) && below h w
      && match w with
        | .bar => waits .bar h == 0 && slots.all fun z => !z.opens || (hands h).far z = .none
        | .fin => waits .fin h == 0
        | .credit i j => (waits (.cr i) h == j.val) && ((hands h).far (.buf i (Fin.castLE (by decide) j)) = .none)
        | .c2 i => (waits (.c2 i) h == 0) && ((hands h).far (.b2 i 0) = .none)
        | .snd e => did h (.pay (.copy e)) && (waits e.sndKind h == e.rd) && ((hands h).own e.src = .none)
        | .rcv e => (waits e.rcvKind h == e.rd) && ((hands h).own e.dst = .none)
  | .put e => (hands h).own e.src != .none
  | .out _ => true

/-- Every step of the program finds what it needs. -/
theorem needs_all : ∀ n : Fin script.length, needs (hist n) (script[n]) = true := by decide +kernel

theorem hist_succ {n : ℕ} {a : Op} (h : script[n]? = some a) : hist (n + 1) = a :: hist n := by
  simp [hist, h]

theorem needs_of {n : ℕ} {a : Op} (h : script[n]? = some a) : needs (hist n) a = true := by
  obtain ⟨hn, rfl⟩ := List.getElem?_eq_some_iff.mp h
  exact needs_all ⟨n, hn⟩

/-- At the end every payment is made, every wait done, every slot back with its owner. -/
theorem end_pays (p : Pay) : did (hist script.length) (.pay p) = true := by revert p; decide +kernel
theorem end_waits (k : Kind) : waits k (hist script.length) = (match k with | .cr _ => 3 | _ => k.rounds) := by
  revert k; decide +kernel
theorem end_own (z : Slot) : (hands (hist script.length)).own z ≠ .none := by revert z; decide +kernel
theorem end_far (z : Slot) : (hands (hist script.length)).far z = .none := by revert z; decide +kernel

end Cert.ReduceScatter
-- ==== Proof.Places.lean ====
/-
  Where the program's slots and semaphores lie: the memory views and semaphore cells that the
  names of `Protocol` stand for, and that distinct names are distinct cells.
-/
module

public import proofs.«01_k».proof.Proof.Protocol

@[expose] public section

noncomputable section

namespace Cert.ReduceScatter

open Cert.KernelIdeal Cert.KernelIdeal.Gen
open Idealize.ShloMosaic
open Idealize.ShloMosaic.TcCoe

/-! ## Semaphores -/

/-- The semaphore of a name. -/
def loc : Kind → SemLoc sig
  | .bar => .reg ⟨6, by decide⟩
  | .fin => .reg ⟨7, by decide⟩
  | .cr i => .reg ⟨i.val, by have := i.isLt; change _ < 8; omega⟩
  | .c2 i => .reg ⟨4 + i.val, by have := i.isLt; change _ < 8; omega⟩
  | .snd i k => .dma ⟨3 + (3 * i.val + k.val), by have := i.isLt; have := k.isLt; change _ < 55; omega⟩
  | .rcv i k => .dma ⟨15 + (3 * i.val + k.val), by have := i.isLt; have := k.isLt; change _ < 55; omega⟩
  | .zs i => .dma ⟨27 + i.val, by have := i.isLt; change _ < 55; omega⟩
  | .zr i => .dma ⟨31 + i.val, by have := i.isLt; change _ < 55; omega⟩
  | .xs i => .dma ⟨35 + i.val, by have := i.isLt; change _ < 55; omega⟩
  | .xr i => .dma ⟨39 + i.val, by have := i.isLt; change _ < 55; omega⟩
  | .s2 i k => .dma ⟨43 + (3 * i.val + k.val), by have := i.isLt; have := k.isLt; change _ < 55; omega⟩
  | .r2 i k => .dma ⟨49 + (3 * i.val + k.val), by have := i.isLt; have := k.isLt; change _ < 55; omega⟩

theorem loc_inj : Function.Injective loc := by decide +kernel

/-- The name of a semaphore, if it has one. -/
def kindOf (s : SemLoc sig) : Option Kind :=
  (Finset.univ.filter fun k => loc k = s).toList.head?

theorem kindOf_loc (k : Kind) : kindOf (loc k) = some k := by
  have h : (Finset.univ.filter fun k' => loc k' = loc k) = {k} := by
    ext k'; simp only [Finset.mem_filter, Finset.mem_univ, true_and, Finset.mem_singleton]
    exact loc_inj.eq_iff
  simp [kindOf, h]

/-! ## Buffers -/

/-- Stream `i`'s ring buffer. -/
def bufM : Fin 4 → Memref sig .tc .vmem S5x512x384 .f32
  | 0 => Memref.whole cc0_scratch0
  | 1 => Memref.whole cc0_scratch1
  | 2 => Memref.whole cc0_scratch2
  | 3 => Memref.whole cc0_scratch3

def b2M : Fin 2 → Memref sig .tc .vmem S3x512x256 .f32
  | 0 => Memref.whole cc0_scratch7
  | 1 => Memref.whole cc0_scratch8

abbrev zrM : Memref sig .tc .vmem S4x512x384 .f32 := Memref.whole cc0_scratch4
abbrev xbM : Memref sig .tc .vmem S4x512x512 .f32 := Memref.whole cc0_scratch5
abbrev xrM : Memref sig .tc .vmem S4x512x512 .f32 := Memref.whole cc0_scratch6
abbrev xM : Memref sig .tc .vmem S4096x512 .f32 := Memref.whole cc0_stg0_0
abbrev wM : Memref sig .tc .vmem S512x2048 .f32 := Memref.whole cc0_stg1_0
abbrev oM : Memref sig .tc .vmem S512x2048 .f32 := Memref.whole cc0_stg2_0

/-! ## Slices -/

abbrev bufR (k : Fin 5) : Rect S5x512x384 := Rect.unit (s := S5x512x384) ![k.val, 0, 0] S1x512x384.size (by revert k; decide)
abbrev zrR (k : Fin 4) : Rect S4x512x384 := Rect.unit (s := S4x512x384) ![k.val, 0, 0] S1x512x384.size (by revert k; decide)
abbrev xrR (k : Fin 4) : Rect S4x512x512 := Rect.unit (s := S4x512x512) ![k.val, 0, 0] S1x512x512.size (by revert k; decide)
abbrev b2R (k : Fin 3) : Rect S3x512x256 := Rect.unit (s := S3x512x256) ![k.val, 0, 0] S1x512x256.size (by revert k; decide)

/-- The shape of a slot's contents, as loads and stores see it. -/
def Slot.shape : Slot → Shape
  | .buf _ _ => S1x512x384
  | .zr _ => S1x512x384
  | .xb _ => S1x512x512
  | .xr _ => S1x512x512
  | .b2 _ _ => S1x512x256

end Cert.ReduceScatter
-- ==== Proof.Contents.lean ====
/-
  What the slots hold: the value every device sends at every step, from the devices' input blocks.
  `val X W c e` is the payload device `c` stores for copy `e`; `res X W c q` is what it stores into
  column group `q` of its result block.
-/
module

public import proofs.«01_k».proof.Proof.Places
public import proofs.«01_k».proof.Proof.Gen.KernelIdeal.Skeleton

@[expose] public section

noncomputable section

namespace Cert.ReduceScatter

open Cert.KernelIdeal Cert.KernelIdeal.Gen
open Idealize.ShloMosaic
open Idealize.ShloMosaic.TcCoe

variable {F : FTy → Type} [FloatOps F]

/-- Contents of the two staged input blocks. -/
abbrev XBuf (F : FTy → Type) : Type := (cc0_stg0_0 : Ref sig .tc).ty.Contents (Elt F)
abbrev WBuf (F : FTy → Type) : Type := (cc0_stg1_0 : Ref sig .tc).ty.Contents (Elt F)

/-! ## Reading blocks of the inputs -/

/-- 512 rows of the first input. -/
def rows (off : Fin 2 → ℕ) (h : ∀ i, off i + S512x512.size i ≤ S4096x512.size i) (x : XBuf F) : Vec F S512x512 .f32 :=
  (xM.access (Rect.unit (s := S4096x512) off S512x512.size h)).read (Elt F) x

/-- The row blocks as the program names them: two rings (`own` and, five and six, the other half),
    right-going (`R`) and left-going (`L`). -/
def rowsR (c : Dev nD) (n : Fin 4) (x : XBuf F) : Vec F S512x512 .f32 :=
  match n with
  | 0 => rows (k0_off1 c 3#32 0#32) (k0_off1_inb c 0) x
  | 1 => rows (k0_off1 c 2#32 0#32) (k0_off1_inb c 1) x
  | 2 => rows (k0_off1 c 2#32 1#32) (k0_off1_inb c 2) x
  | 3 => rows (k0_off1 c 2#32 2#32) (k0_off1_inb c 3) x
def rowsL (c : Dev nD) (n : Fin 4) (x : XBuf F) : Vec F S512x512 .f32 :=
  match n with
  | 0 => rows (k0_off2 c 1#32 0#32) (k0_off2_inb c 0) x
  | 1 => rows (k0_off2 c 2#32 0#32) (k0_off2_inb c 1) x
  | 2 => rows (k0_off2 c 2#32 1#32) (k0_off2_inb c 2) x
  | 3 => rows (k0_off2 c 2#32 2#32) (k0_off2_inb c 3) x
def rowsR' (c : Dev nD) (n : Fin 4) (x : XBuf F) : Vec F S512x512 .f32 :=
  match n with
  | 0 => rows (k0_off5 c 3#32 0#32) (k0_off5_inb c 0) x
  | 1 => rows (k0_off5 c 2#32 0#32) (k0_off5_inb c 1) x
  | 2 => rows (k0_off5 c 2#32 1#32) (k0_off5_inb c 2) x
  | 3 => rows (k0_off5 c 2#32 2#32) (k0_off5_inb c 3) x
def rowsL' (c : Dev nD) (n : Fin 4) (x : XBuf F) : Vec F S512x512 .f32 :=
  match n with
  | 0 => rows (k0_off6 c 1#32 0#32) (k0_off6_inb c 0) x
  | 1 => rows (k0_off6 c 2#32 0#32) (k0_off6_inb c 1) x
  | 2 => rows (k0_off6 c 2#32 1#32) (k0_off6_inb c 2) x
  | 3 => rows (k0_off6 c 2#32 2#32) (k0_off6_inb c 3) x
/-- The row blocks sent across for the last columns. -/
def rowsX (c : Dev nD) (r : Fin 4) (x : XBuf F) : Vec F S512x512 .f32 :=
  match r with
  | 0 => rows (k0_off3 c 3#32) (k0_off3_inb c 2) x
  | 1 => rows (k0_off3 c 1#32) (k0_off3_inb c 0) x
  | 2 => rows (k0_off3 c 2#32) (k0_off3_inb c 1) x
  | 3 => rows (k0_off4 c) (k0_off4_inb c) x

def stripes (i : Fin 4) (w : WBuf F) : Vec F S512x384 .f32 :=
  match i with
  | 0 => (wM.access (Rect.unit (s := S512x2048) ![0, 0] S512x384.size inb_S512x2048_S512x384_0_0)).read (Elt F) w
  | 1 => (wM.access (Rect.unit (s := S512x2048) ![0, 384] S512x384.size inb_S512x2048_S512x384_0_384)).read (Elt F) w
  | 2 => (wM.access (Rect.unit (s := S512x2048) ![0, 768] S512x384.size inb_S512x2048_S512x384_0_768)).read (Elt F) w
  | 3 => (wM.access (Rect.unit (s := S512x2048) ![0, 1152] S512x384.size inb_S512x2048_S512x384_0_1152)).read (Elt F) w
def wideR (w : WBuf F) : Vec F S512x768 .f32 :=
  (wM.access (Rect.unit (s := S512x2048) ![0, 0] S512x768.size inb_S512x2048_S512x768_0_0)).read (Elt F) w
def wideL (w : WBuf F) : Vec F S512x768 .f32 :=
  (wM.access (Rect.unit (s := S512x2048) ![0, 768] S512x768.size inb_S512x2048_S512x768_0_768)).read (Elt F) w
def lastW (w : WBuf F) : Vec F S512x512 .f32 :=
  (wM.access (Rect.unit (s := S512x2048) ![0, 1536] S512x512.size inb_S512x2048_S512x512_0_1536)).read (Elt F) w
def tail (i : Fin 2) (w : WBuf F) : Vec F S512x256 .f32 :=
  match i with
  | 0 => (wM.access (Rect.unit (s := S512x2048) ![0, 1536] S512x256.size inb_S512x2048_S512x256_0_1536)).read (Elt F) w
  | 1 => (wM.access (Rect.unit (s := S512x2048) ![0, 1792] S512x256.size inb_S512x2048_S512x256_0_1792)).read (Elt F) w

/-! ## The arithmetic of one step -/

def dot384 (a : Vec F S512x512 .f32) (b : Vec F S512x384 .f32) : FVec F S512x384 .f32 :=
  matmul dot_S512x512_S512x384_S512x384_1_0_0_1_n_n none (shapeCast S512x512 a shapeCasts_S512x512_S512x512)
    (shapeCast S512x384 b shapeCasts_S512x384_S512x384) (constant S512x384 .f32 0x00000000#32)
def dot768 (a : Vec F S512x512 .f32) (b : Vec F S512x768 .f32) : FVec F S512x768 .f32 :=
  matmul dot_S512x512_S512x768_S512x768_1_0_0_1_n_n none (shapeCast S512x512 a shapeCasts_S512x512_S512x512)
    (shapeCast S512x768 b shapeCasts_S512x768_S512x768) (constant S512x768 .f32 0x00000000#32)
def dot512 (a b : Vec F S512x512 .f32) : FVec F S512x512 .f32 :=
  matmul dot_S512x512_S512x512_S512x512_1_0_0_1_n_n none (shapeCast S512x512 a shapeCasts_S512x512_S512x512)
    (shapeCast S512x512 b shapeCasts_S512x512_S512x512) (constant S512x512 .f32 0x00000000#32)
def dot256 (a : Vec F S512x512 .f32) (b : Vec F S512x256 .f32) : FVec F S512x256 .f32 :=
  matmul dot_S512x512_S512x256_S512x256_1_0_0_1_n_n none (shapeCast S512x512 a shapeCasts_S512x512_S512x512)
    (shapeCast S512x256 b shapeCasts_S512x256_S512x256) (constant S512x256 .f32 0x00000000#32)

/-- The left and the right half of 768 columns. -/
def lo (v : FVec F S512x768 .f32) : FVec F S512x384 .f32 := extractStridedSlice S512x384 ![0, 0] v slices_S512x768_o0_0_S512x384
def hi (v : FVec F S512x768 .f32) : FVec F S512x384 .f32 := extractStridedSlice S512x384 ![0, 384] v slices_S512x768_o0_384_S512x384

def up384 (v : FVec F S512x384 .f32) : FVec F S1x512x384 .f32 := shapeCast S1x512x384 v shapeCasts_S512x384_S1x512x384
def down384 (v : Vec F S1x512x384 .f32) : FVec F S512x384 .f32 := shapeCast S512x384 v shapeCasts_S1x512x384_S512x384
def up512 (v : FVec F S512x512 .f32) : FVec F S1x512x512 .f32 := shapeCast S1x512x512 v shapeCasts_S512x512_S1x512x512
def up256 (v : FVec F S512x256 .f32) : FVec F S1x512x256 .f32 := shapeCast S1x512x256 v shapeCasts_S512x256_S1x512x256
def down256 (v : Vec F S1x512x256 .f32) : FVec F S512x256 .f32 := shapeCast S512x256 v shapeCasts_S1x512x256_S512x256

/-- The activation: `t · (1 / (1 + exp (0 - t)))`. -/
def act {s : Shape} (t : FVec F s .f32) : FVec F s .f32 :=
  mulf t (divf (broadcast s (Scalar.ofBits .f32 0x3F800000#32))
    (addf (broadcast s (Scalar.ofBits .f32 0x3F800000#32)) (exp (subf (broadcast s (Scalar.ofBits .f32 0x00000000#32)) t))))

/-! ## The payload of every copy -/

variable (X : Dev nD → XBuf F) (W : Dev nD → WBuf F)

/-- The shape a copy's payload has in its slots. -/
def _root_.Cert.ReduceScatter.Copy.shape : Copy → Shape
  | .ring _ _ => S1x512x384
  | .z _ => S1x512x384
  | .x _ => S1x512x512
  | .two _ _ => S1x512x256

/-- The device a copy that lands on `c` comes from. -/
def sender (e : Copy) (c : Dev nD) : Dev nD := peer e.dir.opp c

/-- The first product of a stream in the first and in the second half of its journey. -/
def first (i : Fin 4) (c : Dev nD) : FVec F S512x384 .f32 :=
  match i with
  | 0 => dot384 (rowsR c 0 (X c)) (stripes 0 (W c))
  | 1 => dot384 (rowsR c 0 (X c)) (stripes 1 (W c))
  | 2 => dot384 (rowsL c 0 (X c)) (stripes 2 (W c))
  | 3 => dot384 (rowsL c 0 (X c)) (stripes 3 (W c))
def first' (i : Fin 4) (c : Dev nD) : FVec F S512x384 .f32 :=
  match i with
  | 0 => dot384 (rowsR' c 0 (X c)) (stripes 0 (W c))
  | 1 => dot384 (rowsR' c 0 (X c)) (stripes 1 (W c))
  | 2 => dot384 (rowsL' c 0 (X c)) (stripes 2 (W c))
  | 3 => dot384 (rowsL' c 0 (X c)) (stripes 3 (W c))
/-- The later products. -/
def next (i : Fin 4) (n : Fin 4) (c : Dev nD) : FVec F S512x384 .f32 :=
  match i with
  | 0 => lo (dot768 (rowsR c n (X c)) (wideR (W c)))
  | 1 => hi (dot768 (rowsR c n (X c)) (wideR (W c)))
  | 2 => lo (dot768 (rowsL c n (X c)) (wideL (W c)))
  | 3 => hi (dot768 (rowsL c n (X c)) (wideL (W c)))
def next' (i : Fin 4) (n : Fin 4) (c : Dev nD) : FVec F S512x384 .f32 :=
  match i with
  | 0 => lo (dot768 (rowsR' c n (X c)) (wideR (W c)))
  | 1 => hi (dot768 (rowsR' c n (X c)) (wideR (W c)))
  | 2 => lo (dot768 (rowsL' c n (X c)) (wideL (W c)))
  | 3 => hi (dot768 (rowsL' c n (X c)) (wideL (W c)))

/-- A received sum with the own product added. -/
def acc (v : Vec F S1x512x384 .f32) (d : FVec F S512x384 .f32) : FVec F S512x384 .f32 := addf (down384 v) d

/-- The device before `c` on a stream's ring. -/
def prev (i : Fin 4) (c : Dev nD) : Dev nD := peer (streamDir i).opp c
def prev2 (i : Fin 2) (c : Dev nD) : Dev nD := peer (twoDir i).opp c

def ring0 (i : Fin 4) (c : Dev nD) : Vec F S1x512x384 .f32 := up384 (first X W i c)
def ring1 (i : Fin 4) (c : Dev nD) : Vec F S1x512x384 .f32 := up384 (acc (ring0 X W i (prev i c)) (next X W i 1 c))
def ring2 (i : Fin 4) (c : Dev nD) : Vec F S1x512x384 .f32 := up384 (acc (ring1 X W i (prev i c)) (next X W i 2 c))
def across (i : Fin 4) (c : Dev nD) : Vec F S1x512x384 .f32 := up384 (acc (ring2 X W i (prev i c)) (next X W i 3 c))
def ring3 (i : Fin 4) (c : Dev nD) : Vec F S1x512x384 .f32 := up384 (first' X W i c)
def ring4 (i : Fin 4) (c : Dev nD) : Vec F S1x512x384 .f32 := up384 (acc (ring3 X W i (prev i c)) (next' X W i 1 c))
def ring5 (i : Fin 4) (c : Dev nD) : Vec F S1x512x384 .f32 := up384 (acc (ring4 X W i (prev i c)) (next' X W i 2 c))
def xval (r : Fin 4) (c : Dev nD) : Vec F S1x512x512 .f32 := up512 (dot512 (rowsX c r (X c)) (lastW (W c)))

/-- Half `i` of the columns of a received `512 × 512` block. -/
def halfR (i : Fin 2) : Rect S1x512x512 :=
  Rect.unit (s := S1x512x512) ![0, 0, 256 * i.val] S1x512x256.size (by revert i; decide)
def xhalf (i : Fin 2) (v : Vec F S1x512x512 .f32) : Vec F S1x512x256 .f32 := fun j => v ((halfR i).emb j)

/-- The row blocks of the last columns on the second ring, right-going and left-going. -/
def rowsT (i : Fin 2) (c : Dev nD) (n : Fin 4) (x : XBuf F) : Vec F S512x512 .f32 :=
  match i with
  | 0 => rowsR' c n x
  | 1 => rowsL' c n x

/-- Own product of the last columns, with what came from across. -/
def lastSum (i : Fin 2) (n r : Fin 4) (c : Dev nD) : FVec F S512x256 .f32 :=
  addf (dot256 (rowsT i c n (X c)) (tail i (W c))) (down256 (xhalf i (xval X W r (peer .across c))))

/-- The block received from across that step `s` of the second ring `i` adds. -/
def crossed (i : Fin 2) (s : Fin 3) : Fin 4 :=
  match i, s with
  | 0, 0 => 0 | 0, 1 => 2 | 0, 2 => 1
  | 1, 0 => 1 | 1, 1 => 2 | 1, 2 => 0

def two0 (i : Fin 2) (c : Dev nD) : Vec F S1x512x256 .f32 := up256 (lastSum X W i 0 (crossed i 0) c)
def two1 (i : Fin 2) (c : Dev nD) : Vec F S1x512x256 .f32 :=
  up256 (addf (down256 (two0 X W i (prev2 i c))) (lastSum X W i 1 (crossed i 1) c))
def two2 (i : Fin 2) (c : Dev nD) : Vec F S1x512x256 .f32 :=
  up256 (addf (down256 (two1 X W i (prev2 i c))) (lastSum X W i 2 (crossed i 2) c))

/-- What device `c` stores for a copy. -/
def val (e : Copy) (c : Dev nD) : Vec F e.shape .f32 :=
  match e with
  | .ring i t => (match t with
    | 0 => ring0 X W i c | 1 => ring1 X W i c | 2 => ring2 X W i c
    | 3 => ring3 X W i c | 4 => ring4 X W i c | 5 => ring5 X W i c)
  | .z i => across X W i c
  | .x r => xval X W r c
  | .two i s => (match s with | 0 => two0 X W i c | 1 => two1 X W i c | 2 => two2 X W i c)

/-- The result's columns: four groups of 384, two of 256. -/
def resA (i : Fin 4) (c : Dev nD) : FVec F S512x384 .f32 :=
  act (addf (acc (ring5 X W i (prev i c)) (next' X W i 3 c)) (down384 (across X W i (peer .across c))))
def resB (i : Fin 2) (c : Dev nD) : FVec F S512x256 .f32 :=
  act (addf (down256 (two2 X W i (prev2 i c))) (lastSum X W i 3 3 c))

end Cert.ReduceScatter
-- ==== Proof.Slots.lean ====
/-
  Slots as assertions: a slot of a device held in full with contents of which something is known;
  loads, stores and the source and destination views of the copies, on slots.
-/
module

public import proofs.«01_k».proof.Proof.Contents
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Rounds

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ghost state -/

/-- A credit: the slot's owner, the stream, which of its credits. -/
abbrev Key : Type := Dev nD × Fin 4 × Fin 3

/-- The contributions of a round are numbered; launch obligations are indexed by rounds. -/
abbrev UU : Type := UR sig nD τ × (Rounds.URounds (GSem nD τ sig) (Fin 3) × USlots Key)

local notation "𝕄" => MT nD τ sig ℕ (Elt F) ℕ UU ℕ

abbrev EP : Emb (UR sig nD τ) (MT nD τ sig ℕ (Elt F) ℕ UU ℕ) := embL
abbrev ER : Emb (Rounds.URounds (GSem nD τ sig) (Fin 3)) (MT nD τ sig ℕ (Elt F) ℕ UU ℕ) :=
  (Emb.inl : Emb (Rounds.URounds (GSem nD τ sig) (Fin 3)) (Rounds.URounds (GSem nD τ sig) (Fin 3) × USlots Key)).trans embR
abbrev ES : Emb (USlots Key) (MT nD τ sig ℕ (Elt F) ℕ UU ℕ) :=
  (Emb.inr : Emb (USlots Key) (Rounds.URounds (GSem nD τ sig) (Fin 3) × USlots Key)).trans embR

abbrev 𝒱₀ : Variants := Variants.none

/-! ## Slots -/

/-- A slice of a buffer, and contents of any shape. -/
abbrev Place : Type := Σ s : Shape, View sig .tc .vmem s .f32
abbrev Tensor (F : FTy → Type) : Type := Σ s : Shape, s.Idx → Elt F .f32

theorem tensor_inj {s : Shape} {v w : s.Idx → Elt F .f32} (h : (⟨s, v⟩ : Tensor F) = ⟨s, w⟩) : v = w := by
  cases h; rfl

/-- The slice of a buffer that a slot is. -/
def _root_.Cert.ReduceScatter.Slot.place : Slot → Place
  | .buf i k => ⟨S1x512x384, (bufM i).access (bufR k)⟩
  | .zr i => ⟨S1x512x384, zrM.access (zrR i)⟩
  | .xb r => ⟨S1x512x512, xbM.access (xrR r)⟩
  | .xr r => ⟨S1x512x512, xrM.access (xrR r)⟩
  | .b2 i k => ⟨S1x512x256, (b2M i).access (b2R k)⟩

/-- A slice of a buffer of device `o`, held in full, with contents that `P` is known of. -/
def pts (p : Place) (o : Dev nD) (P : Tensor F → Prop) : sProp 𝕄 :=
  iprop(∃ f : Buf (Elt F) (p.2.loc (o : Thread nD τ)), ⌜P ⟨_, p.2.read (Elt F) f⟩⌝
    ∗ (p.2.loc (o : Thread nD τ) ↦[p.2.set]{fullShare} f))

omit [FloatOps F] in
instance pts_storable (p : Place) (o : Dev nD) (P : Tensor F → Prop) : BI.Storable (upEmb : UEmb _ 𝕄) (pts p o P) := by
  unfold pts; infer_instance

omit [FloatOps F] in
theorem pts_mono {p : Place} {o : Dev nD} {P P' : Tensor F → Prop} (h : ∀ v, P v → P' v) : (pts p o P : sProp 𝕄) ⊢ pts p o P' := by
  unfold pts
  iintro ⟨%f, %hf, H⟩
  iexists f
  isplitr; · ipureintro; exact h _ hf
  iexact H

variable (X : Dev nD → XBuf F) (W : Dev nD → WBuf F)

/-- The payload of copy `e` that device `c` stores, with its shape. -/
def tens (e : Copy) (c : Dev nD) : Tensor F := ⟨e.shape, val X W e c⟩

/-- The slot as the state of hands describes it. -/
def slotIn (o : Dev nD) (z : Slot) : SV → sProp 𝕄
  | .none => iprop(emp)
  | .any => pts z.place o fun _ => True
  | .mine e => pts z.place o fun v => v = tens X W e o
  | .got e => pts z.place o fun v => v = tens X W e (peer e.dir.opp o)

instance slotIn_storable (o : Dev nD) (z : Slot) (v : SV) : BI.Storable (upEmb : UEmb _ 𝕄) (slotIn X W o z v) := by
  cases v <;> unfold slotIn <;> infer_instance

theorem slotIn_any (o : Dev nD) (z : Slot) (v : SV) (h : v ≠ .none) : (slotIn X W o z v : sProp 𝕄) ⊢ slotIn X W o z .any := by
  cases v with
  | none => exact absurd rfl h
  | any => exact BI.Entails.refl _
  | mine e => unfold slotIn; exact pts_mono fun _ _ => trivial
  | got e => unfold slotIn; exact pts_mono fun _ _ => trivial

theorem slot_idx (z : Slot) : Nonempty z.place.1.Idx := by
  have h1 : Nonempty S1x512x384.Idx := ⟨fun a => ⟨0, by revert a; decide⟩⟩
  have h2 : Nonempty S1x512x512.Idx := ⟨fun a => ⟨0, by revert a; decide⟩⟩
  have h3 : Nonempty S1x512x256.Idx := ⟨fun a => ⟨0, by revert a; decide⟩⟩
  cases z
  · exact h1
  · exact h1
  · exact h2
  · exact h2
  · exact h3

theorem slot_nonempty (z : Slot) : z.place.2.set.Nonempty := by
  obtain ⟨j⟩ := slot_idx z
  exact ⟨_, Finset.mem_map_of_mem _ (Finset.mem_univ j)⟩

theorem slot_excl (o : Dev nD) (z : Slot) : (iprop(slotIn X W o z .any ∗ slotIn X W o z .any) : sProp 𝕄) ⊢ False := by
  obtain ⟨j, hj⟩ := slot_nonempty z
  unfold slotIn pts
  iintro ⟨⟨%f, -, H⟩, ⟨%g, -, H'⟩⟩
  iapply (pointsTo_overlap_false (q := fullShare) (f := f) (g := g) hj hj)
  isplitl [H] <;> iassumption

/-! ## One access -/

section Access
variable {s : Shape} {m : Memref sig .tc .vmem s .f32} {r : Rect s} {c : Dev nD} {P : Tensor F → Prop}

theorem wp_load_pts {α : Type} {Q : α → sProp 𝕄} {hl : m.view.LoadsAt r} {k : (r.shape.Idx → Elt F .f32) → Prog (TpuEff nD τ sig (Elt F) Λ₀ .tc) α} :
    (pts ⟨r.shape, m.access r⟩ c P : sProp 𝕄) ⊢ iprop((∀ v, ⌜P ⟨r.shape, v⟩⌝ -∗ pts ⟨r.shape, m.access r⟩ c P -∗ wp frame (wpE (defs₀ (F := F)) 𝒱₀ (c : Thread nD τ) none) Set.univ (k v) Q)
      -∗ wp frame (wpE (defs₀ (F := F)) 𝒱₀ (c : Thread nD τ) none) Set.univ (.op (.load m r.toLoadRect hl) k) Q) := by
  unfold pts
  iintro ⟨%f, %hf, H⟩ HK
  iapply (wp_load_rect 𝒱₀ (c : Thread nD τ) none Set.univ (m := m) (Finset.Subset.refl _)) $$ H
  iintro H
  iapply HK $$ %_ [] [H]
  · ipureintro; exact hf
  · iexists f; isplitr; · (ipureintro; exact hf)
    iexact H

/-- A load of part `r'` of what a slot is (`hr`: its elements lie in the slot, at `g`). -/
theorem wp_load_part {α : Type} {Q : α → sProp 𝕄} {r' : Rect s} (g : r'.shape.Idx → r.shape.Idx) (hg : ∀ j, r'.emb j = r.emb (g j)) {hl : m.view.LoadsAt r'}
    {k : (r'.shape.Idx → Elt F .f32) → Prog (TpuEff nD τ sig (Elt F) Λ₀ .tc) α} :
    (pts ⟨r.shape, m.access r⟩ c P : sProp 𝕄) ⊢ iprop((∀ v, ⌜P ⟨r.shape, v⟩⌝ -∗ pts ⟨r.shape, m.access r⟩ c P
        -∗ wp frame (wpE (defs₀ (F := F)) 𝒱₀ (c : Thread nD τ) none) Set.univ (k fun j => v (g j)) Q)
      -∗ wp frame (wpE (defs₀ (F := F)) 𝒱₀ (c : Thread nD τ) none) Set.univ (.op (.load m r'.toLoadRect hl) k) Q) := by
  have hS : (m.access r').set ⊆ (m.access r).set := by
    intro x hx
    obtain ⟨j, -, rfl⟩ := Finset.mem_map.mp hx
    refine Finset.mem_map.mpr ⟨g j, Finset.mem_univ _, ?_⟩
    exact congrArg m.view.emb (hg j).symm
  unfold pts
  iintro ⟨%f, %hf, H⟩ HK
  iapply (wp_load_rect 𝒱₀ (c : Thread nD τ) none Set.univ (m := m) hS) $$ H
  iintro H
  have he : (m.access r').read (Elt F) f = fun j => (m.access r).read (Elt F) f (g j) := by
    funext j
    show _root_.cast _ (f (m.view.emb (r'.emb j))) = _root_.cast _ (f (m.view.emb (r.emb (g j))))
    rw [hg]
  rw [he]
  iapply HK $$ %_ [] [H]
  · ipureintro; exact hf
  · iexists f; isplitr; · (ipureintro; exact hf)
    iexact H

theorem wp_store_pts {α : Type} {Q : α → sProp 𝕄} {w : r.shape.Idx → Elt F .f32} {hx : (m.access r).Stores Finset.univ} {hm : Finset.univ = Finset.univ ∨ ∀ a, r.stride a = 1}
    {k : PUnit → Prog (TpuEff nD τ sig (Elt F) Λ₀ .tc) α} :
    (pts ⟨r.shape, m.access r⟩ c P : sProp 𝕄) ⊢ iprop((pts ⟨r.shape, m.access r⟩ c (fun v => v = ⟨r.shape, w⟩) -∗ wp frame (wpE (defs₀ (F := F)) 𝒱₀ (c : Thread nD τ) none) Set.univ (k ⟨⟩) Q)
      -∗ wp frame (wpE (defs₀ (F := F)) 𝒱₀ (c : Thread nD τ) none) Set.univ (.op (.store m r w Finset.univ hx hm) k) Q) := by
  unfold pts
  iintro ⟨%f, %hf, H⟩ HK
  iapply (wp_store 𝒱₀ (c : Thread nD τ) none Set.univ (m := m) (by exact Finset.Subset.refl _)) $$ H
  iintro H
  iapply HK
  iexists _
  isplitr; swap; · iexact H
  ipureintro
  exact congrArg (Sigma.mk r.shape) (View.read_write_univ _ _)

end Access

end Cert.ReduceScatter
-- ==== Proof.Schedule.lean ====
/-
  The rounds of every semaphore: who contributes what, how much, and what each contribution hands
  to the waiting device; and the order in which waits come before payments.
-/
module

public import proofs.«01_k».proof.Proof.Slots

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Amounts -/

/-- What a copy into a slot adds to the semaphores it completes on. -/
def slotCredit (z : Slot) : ℕ := z.place.2.dmaCredit

theorem slotCredit_pos (z : Slot) : 0 < slotCredit z := by
  obtain ⟨j⟩ := slot_idx z
  exact View.dmaCredit_pos _ (Shape.numel_pos fun a => lt_of_le_of_lt (Nat.zero_le _) (j a).isLt)

/-- The units of one contribution to a semaphore. -/
def _root_.Cert.ReduceScatter.Kind.amt : Kind → ℕ
  | .bar => 1 | .fin => 1 | .cr _ => 1 | .c2 _ => 1
  | .snd _ _ => slotCredit (.buf 0 0) | .rcv _ _ => slotCredit (.buf 0 0)
  | .zs _ => slotCredit (.buf 0 0) | .zr _ => slotCredit (.buf 0 0)
  | .xs _ => slotCredit (.xb 0) | .xr _ => slotCredit (.xb 0)
  | .s2 _ _ => slotCredit (.b2 0 0) | .r2 _ _ => slotCredit (.b2 0 0)

theorem amt_pos (k : Kind) : 0 < k.amt := by
  cases k <;> first | exact Nat.one_pos | exact slotCredit_pos _

theorem credit_src (e : Copy) : slotCredit e.src = e.sndKind.amt := by
  rcases e with ⟨i, t⟩ | i | r | ⟨i, s⟩
  · fin_cases i <;> fin_cases t <;> rfl
  · fin_cases i <;> rfl
  · fin_cases r <;> rfl
  · fin_cases i <;> fin_cases s <;> rfl
theorem credit_dst (e : Copy) : slotCredit e.dst = e.rcvKind.amt := by
  rcases e with ⟨i, t⟩ | i | r | ⟨i, s⟩
  · fin_cases i <;> fin_cases t <;> rfl
  · fin_cases i <;> rfl
  · fin_cases r <;> rfl
  · fin_cases i <;> fin_cases s <;> rfl
theorem amt_snd_rcv (e : Copy) : e.sndKind.amt = e.rcvKind.amt := by cases e <;> rfl

/-- The units a wait takes. -/
def _root_.Cert.ReduceScatter.Wait.amt : Wait → ℕ
  | .bar => 3 | .fin => 3 | .credit _ _ => 1 | .c2 _ => 1
  | .snd e => e.sndKind.amt | .rcv e => e.rcvKind.amt

/-! ## Payloads -/

/-- The copy that pays a round of a semaphore of its sender, of its receiver. -/
def sent : Kind → ℕ → Option Copy
  | .snd i k, 0 => some (.ring i (Fin.castLE (by decide) k))
  | .snd i k, 1 => some (.ring i (Fin.natAdd 3 k))
  | .zs i, 0 => some (.z i)
  | .xs r, 0 => some (.x r)
  | .s2 i k, 0 => some (.two i k)
  | _, _ => none
def came : Kind → ℕ → Option Copy
  | .rcv i k, 0 => some (.ring i (Fin.castLE (by decide) k))
  | .rcv i k, 1 => some (.ring i (Fin.natAdd 3 k))
  | .zr i, 0 => some (.z i)
  | .xr r, 0 => some (.x r)
  | .r2 i k, 0 => some (.two i k)
  | _, _ => none

theorem sent_snd (e : Copy) : sent e.sndKind e.rd = some e := by revert e; decide
theorem sent_rcv (e : Copy) : sent e.rcvKind e.rd = none := by revert e; decide
theorem came_rcv (e : Copy) : came e.rcvKind e.rd = some e := by revert e; decide

variable (X : Dev nD → XBuf F) (W : Dev nD → WBuf F)

/-- The slot of credit `j` of stream `i`. -/
abbrev crSlot (i : Fin 4) (j : Fin 3) : Slot := .buf i (Fin.castLE (by decide) j)

/-- What is known with credit `j` of stream `i` at device `o`: its right neighbour along the stream
    released the slot and reached the second round of the semaphore of copies into it. -/
def credited (o : Dev nD) (i : Fin 4) (j : Fin 3) : sProp 𝕄 :=
  iprop(released ES ((peer (streamDir i) o, i, j) : Key) 1
    ∗ reached ER ((peer (streamDir i) o : Thread nD τ), loc (.rcv i j)) 1)

instance credited_persistent (o : Dev nD) (i : Fin 4) (j : Fin 3) : BI.Persistent (credited (F := F) o i j) := by
  unfold credited; infer_instance
instance credited_storable (o : Dev nD) (i : Fin 4) (j : Fin 3) : BI.Storable (upEmb : UEmb _ 𝕄) (credited (F := F) o i j) := by
  unfold credited; infer_instance

def upTo (o : Dev nD) (i : Fin 4) (j : Fin 3) : sProp 𝕄 :=
  bigSep Finset.univ fun j' : Fin 3 => if j' ≤ j then credited o i j' else iprop(emp)

instance upTo_persistent (o : Dev nD) (i : Fin 4) (j : Fin 3) : BI.Persistent (upTo (F := F) o i j) := by
  unfold upTo
  haveI (j' : Fin 3) : BI.Persistent (if j' ≤ j then credited (F := F) o i j' else iprop(emp)) := by split <;> infer_instance
  infer_instance
instance upTo_storable (o : Dev nD) (i : Fin 4) (j : Fin 3) : BI.Storable (upEmb : UEmb _ 𝕄) (upTo (F := F) o i j) := by
  unfold upTo
  haveI (j' : Fin 3) : BI.Storable (upEmb : UEmb _ 𝕄) (if j' ≤ j then credited (F := F) o i j' else iprop(emp)) := by split <;> infer_instance
  infer_instance

def dirOf : Fin 3 → Dir
  | 0 => .left | 1 => .right | 2 => .across
theorem dirOf_idx (d : Dir) : dirOf d.idx = d := by cases d <;> rfl

/-- The slots that the barrier signal arriving at `o` from the neighbour in direction `d.opp` opens. -/
def opened (o : Dev nD) (d : Dir) : sProp 𝕄 :=
  bigSep Finset.univ fun z : Slot => if z.goes d then slotIn X W (peer z.dir o) z .any else iprop(emp)

instance opened_storable (o : Dev nD) (d : Dir) : BI.Storable (upEmb : UEmb _ 𝕄) (opened X W o d) := by
  unfold opened
  haveI (z : Slot) : BI.Storable (upEmb : UEmb _ 𝕄) (if z.goes d then slotIn X W (peer z.dir o) z .any else iprop(emp)) := by
    split <;> infer_instance
  infer_instance

/-- What contribution `d` to round `r` of a semaphore of device `o` hands to `o`. -/
def handed (k : Kind) (o : Dev nD) (r : ℕ) (d : Fin 3) : sProp 𝕄 :=
  match k with
  | .bar => opened X W o (dirOf d)
  | .fin => iprop(emp)
  | .cr i => upTo o i d
  | .c2 i => slotIn X W (peer (twoDir i) o) (.b2 i 0) .any
  | k => match sent k r with
    | some e => slotIn X W o e.src .any
    | none => match came k r with
      | some e => slotIn X W o e.dst (.got e)
      | none => iprop(emp)

instance handed_storable (k : Kind) (o : Dev nD) (r : ℕ) (d : Fin 3) : BI.Storable (upEmb : UEmb _ 𝕄) (handed X W k o r d) := by
  unfold handed
  (repeat' split) <;> infer_instance

theorem handed_snd (e : Copy) (o : Dev nD) (d : Fin 3) : handed X W e.sndKind o e.rd d = slotIn X W o e.src .any := by
  have h := sent_snd e
  unfold handed
  cases e <;> (simp only [Copy.sndKind] at h ⊢; rw [h])
theorem handed_rcv (e : Copy) (o : Dev nD) (d : Fin 3) : handed X W e.rcvKind o e.rd d = slotIn X W o e.dst (.got e) := by
  have h := came_rcv e
  have h' := sent_rcv e
  unfold handed
  cases e <;> (simp only [Copy.rcvKind] at h h' ⊢; rw [h', h])

/-! ## The schedule -/

def Rd : Rounds.Schedule (GSem nD τ sig) (Fin 3) 𝕄 where
  duties g r := if g.1.2 = .tc then (match kindOf g.2 with | some k => k.duties r | none => ∅) else ∅
  amount g _ _ := match kindOf g.2 with | some k => k.amt | none => 1
  payload g r d := match kindOf g.2 with | some k => handed X W k g.1.1 r d | none => iprop(emp)
  amount_pos g _ _ _ := by
    show 0 < (match kindOf g.2 with | some k => k.amt | none => 1)
    split
    · exact amt_pos _
    · exact Nat.one_pos

instance Rd_storable (g : GSem nD τ sig) (r : ℕ) (d : Fin 3) : BI.Storable (upEmb : UEmb _ 𝕄) ((Rd X W).payload g r d) := by
  show BI.Storable upEmb (match kindOf g.2 with | some k => handed X W k g.1.1 r d | none => iprop(emp))
  split <;> infer_instance

/-- A semaphore of a device. -/
abbrev cell (c : Dev nD) (k : Kind) : GSem nD τ sig := ((c : Thread nD τ), loc k)

theorem duties_at (c : Dev nD) (k : Kind) (r : ℕ) : (Rd X W).duties (cell c k) r = k.duties r := by
  dsimp only [Rd]; rw [if_pos rfl, kindOf_loc]
theorem amount_at (c : Dev nD) (k : Kind) (r : ℕ) (d : Fin 3) : (Rd X W).amount (cell c k) r d = k.amt := by
  dsimp only [Rd]; rw [kindOf_loc]
theorem payload_at (c : Dev nD) (k : Kind) (r : ℕ) (d : Fin 3) : (Rd X W).payload (cell c k) r d = handed X W k c r d := by
  dsimp only [Rd]; rw [kindOf_loc]
theorem expect_at (c : Dev nD) (k : Kind) (r : ℕ) : (Rd X W).expect (cell c k) r = (k.duties r).card * k.amt := by
  unfold Schedule.expect Schedule.amountOf
  rw [duties_at, Finset.sum_congr rfl (fun d _ => amount_at X W c k r d), Finset.sum_const, smul_eq_mul]
theorem duties_late (c : Dev nD) (k : Kind) : ∀ r, k.rounds ≤ r → (Rd X W).duties (cell c k) r = ∅ := fun r h => by
  rw [duties_at]; unfold Kind.duties; exact if_neg (Nat.not_lt.mpr h)

theorem pay_duty (p : Pay) : p.duty ∈ p.kind.duties p.rd := by revert p; decide +kernel
theorem snd_duty (e : Copy) : (0 : Fin 3) ∈ e.sndKind.duties e.rd := by revert e; decide +kernel

/-! ## Levels -/

def Lv (g : GSem nD τ sig) : Finset ℕ := if g.1.2 = .tc then {0, 1} else ∅
def lv (g : GSem nD τ sig) (r : ℕ) : ℕ := match kindOf g.2 with | some k => levelOf k r | none => 0

theorem lv_at (c : Dev nD) (k : Kind) (r : ℕ) : lv (cell c k) r = levelOf k r := by
  unfold lv; rw [kindOf_loc]
theorem Lv_at (c : Dev nD) (s : SemLoc sig) : Lv ((c : Thread nD τ), s) = {0, 1} := if_pos rfl
theorem Lv_ne (g : GSem nD τ sig) (h : g.1.2 ≠ .tc) : Lv g = ∅ := if_neg h

/-- What device `c` still owes after the steps `h`. -/
def owed (c : Dev nD) (h : List Op) : CellTallies nD τ sig ℕ :=
  ∑ p ∈ Finset.univ.filter (fun p : Pay => did h (.pay p) = false), tallyAt (cell (peer p.dir c) p.kind) p.rd p.kind.amt

theorem owed_pos {c : Dev nD} {h : List Op} {g : GSem nD τ sig} {r : ℕ} (hp : 0 < owed c h g r) :
    ∃ p : Pay, did h (.pay p) = false ∧ g = cell (peer p.dir c) p.kind ∧ r = p.rd := by
  by_contra hn
  push Not at hn
  refine Nat.lt_irrefl 0 (hp.trans_le (Nat.le_of_eq ?_))
  unfold owed
  rw [Finset.sum_apply, Finsupp.finset_sum_apply]
  refine Finset.sum_eq_zero fun p hp => ?_
  rw [Finset.mem_filter] at hp
  rw [tallyAt_apply, if_neg]
  rintro ⟨h1, h2⟩
  exact hn p hp.2 h1 h2

theorem rd_le (p : Pay) : p.rd = 0 ∨ p.rd = 1 := by revert p; decide +kernel
theorem wrd_le (w : Wait) : w.rd = 0 ∨ w.rd = 1 := by
  cases w <;> first | exact Or.inl rfl | exact rd_le (.copy _)

theorem mayWait (c : Dev nD) (s : SemLoc sig) (r : ℕ) (h : List Op) (hr : r = 0 ∨ r = 1)
    (hb : ∀ p : Pay, did h (.pay p) = false → lv ((c : Thread nD τ), s) r < levelOf p.kind p.rd) :
    (levAts Lv lv : sProp 𝕄) ⊢ MayWait (c : Thread nD τ) s r (owed c h) := by
  refine MayOwe.of_levAts (fun p hp => ?_) (fun g i hg => ?_) fun g i hg p hp => ?_
  · rw [Finset.mem_singleton.mp hp, Lv_at]
    rcases hr with rfl | rfl <;> simp
  · obtain ⟨p, -, rfl, rfl⟩ := owed_pos hg
    rw [Lv_at]
    rcases rd_le p with h | h <;> simp [h]
  · rw [Finset.mem_singleton.mp hp]
    obtain ⟨p, hd, rfl, rfl⟩ := owed_pos hg
    rw [lv_at]
    exact hb p hd

theorem mayWait_kind (c : Dev nD) (w : Wait) (h : List Op) (hb : below h w = true) :
    (levAts Lv lv : sProp 𝕄) ⊢ MayWait (c : Thread nD τ) (loc w.kind) w.rd (owed c h) := by
  refine mayWait c _ _ h (wrd_le w) fun p hd => ?_
  rw [lv_at]
  have := List.all_eq_true.mp hb p (mem_pays p)
  simp only [hd, Bool.false_or, decide_eq_true_eq] at this
  exact this

end Cert.ReduceScatter
-- ==== Proof.State.lean ====
/-
  What a device holds after each step of the list: the tokens of the payments still to make, the
  credit of the waits still to do, where it stands at each of its semaphores, the credits of the
  ring slots, its slots and the neighbours' it may write, its input blocks, and the part of the
  result that is written. `St c h` is all of it after the steps `h`.
-/
module

public import proofs.«01_k».proof.Proof.Schedule

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The waits, listed -/

def allWaits : List Wait :=
  [.bar, .fin] ++ ((List.finRange 4).flatMap fun i => (List.finRange 3).map fun j => .credit i j)
  ++ [.c2 0, .c2 1] ++ copies.map .snd ++ copies.map .rcv

theorem mem_waits (w : Wait) : w ∈ allWaits := by
  rcases w with _ | _ | ⟨i, j⟩ | i | e | e
  · simp [allWaits]
  · simp [allWaits]
  · simp [allWaits]
  · fin_cases i <;> simp [allWaits]
  · simp [allWaits, mem_copies e]
  · simp [allWaits, mem_copies e]

instance : Fintype Wait := ⟨allWaits.toFinset, fun w => List.mem_toFinset.mpr (mem_waits w)⟩

/-! ## What is done -/

theorem did_self (h : List Op) (a : Op) : did (a :: h) a = true := by simp [did]
theorem did_ne {h : List Op} {a b : Op} (hb : b ≠ a) : did (a :: h) b = did h b := by
  unfold did
  rw [List.contains_cons, beq_eq_false_iff_ne.mpr hb, Bool.false_or]

/-! ## One summand at a time -/

section Sum
variable {I : Type} [Fintype I] [DecidableEq I]

omit [FloatOps F] in
theorem sum_change {Φ Ψ : I → sProp 𝕄} (i : I) {A B : sProp 𝕄} (h : ∀ j, j ≠ i → Ψ j = Φ j) (hA : Φ i = A) (hB : Ψ i = B) :
    bigSep Finset.univ Φ ⊢ iprop(A ∗ (B -∗ bigSep Finset.univ Ψ)) := by
  rw [← hA, ← hB]; exact bigSep_univ_update i h

omit [FloatOps F] in
theorem sum_take {Φ Ψ : I → sProp 𝕄} (i : I) {A : sProp 𝕄} (h : ∀ j, j ≠ i → Ψ j = Φ j) (hA : Φ i = A) (hB : Ψ i = iprop(emp)) :
    bigSep Finset.univ Φ ⊢ iprop(A ∗ bigSep Finset.univ Ψ) := by
  iintro H
  ihave H := (sum_change i h hA hB) $$ H
  icases H with ⟨HA, HB⟩
  isplitl [HA]; · iexact HA
  iapply HB; iempintro

omit [FloatOps F] in
theorem sum_give {Φ Ψ : I → sProp 𝕄} (i : I) {B : sProp 𝕄} (h : ∀ j, j ≠ i → Ψ j = Φ j) (hA : Φ i = iprop(emp)) (hB : Ψ i = B) :
    iprop(B ∗ bigSep Finset.univ Φ) ⊢ bigSep Finset.univ Ψ := by
  iintro ⟨HB, H⟩
  ihave H := (sum_change i h hA hB) $$ H
  icases H with ⟨-, HW⟩
  iapply HW; iexact HB

end Sum

variable (X : Dev nD → XBuf F) (W : Dev nD → WBuf F)

/-! ## The parts of the state -/

/-- The tokens of the payments to neighbours that are still to be made. -/
def duty (c : Dev nD) (h : List Op) : sProp 𝕄 :=
  bigSep Finset.univ fun p : Pay => if did h (.pay p) then iprop(emp) else dutyTok ER (cell (peer p.dir c) p.kind) p.rd p.duty
/-- The tokens of the payments to the own semaphores on which copies leave. -/
def sndDuty (c : Dev nD) (h : List Op) : sProp 𝕄 :=
  bigSep Finset.univ fun e : Copy => if did h (.pay (.copy e)) then iprop(emp) else dutyTok ER (cell c e.sndKind) e.rd 0

/-- The wait's credit is in hand: for a copy having left, from its start on. -/
def credited? (h : List Op) (w : Wait) : Bool :=
  !did h (.wait w) && (match w with | .snd e => did h (.pay (.copy e)) | _ => true)
def credIn (c : Dev nD) (h : List Op) : sProp 𝕄 :=
  bigSep Finset.univ fun w : Wait => if credited? h w then cred (tallyAt (cell c w.kind) w.rd w.amt) else iprop(emp)

/-- Where the device stands at a semaphore after `n` waits. -/
def stand (c : Dev nD) (k : Kind) (n : ℕ) : sProp 𝕄 :=
  match k with
  | .cr i => if n = 3 then atPos ER (cell c (.cr i)) 1 ∅ 0
      else iprop(∃ S : Finset (Fin 3), ⌜n ≤ S.card⌝ ∗ atPos ER (cell c (.cr i)) 0 S n ∗ bigSep S fun d => upTo c i d)
  | k => iprop(atPos ER (cell c k) n ∅ 0 ∗ reached ER (cell c k) n)
def stands (c : Dev nD) (h : List Op) : sProp 𝕄 := bigSep Finset.univ fun k : Kind => stand c k (waits k h)

/-- The ring slots whose release the device announces, and those whose release it is told. -/
def reader (c : Dev nD) (h : List Op) : sProp 𝕄 :=
  bigSep Finset.univ fun x : Fin 4 × Fin 3 => if did h (.pay (.cr x.1 x.2)) then released ES ((c, x) : Key) 1 else readerAt ES ((c, x) : Key) 0
def writer (c : Dev nD) (h : List Op) : sProp 𝕄 :=
  bigSep Finset.univ fun x : Fin 4 × Fin 3 => if did h (.wait (.credit x.1 x.2)) then reached ER (cell (peer (streamDir x.1) c) (.rcv x.1 x.2)) 1
    else writeTok ES ((peer (streamDir x.1) c, x) : Key) 1

def ownS (c : Dev nD) (f : Slot → SV) : sProp 𝕄 := bigSep Finset.univ fun z : Slot => slotIn X W c z (f z)
def farS (c : Dev nD) (f : Slot → SV) : sProp 𝕄 := bigSep Finset.univ fun z : Slot => slotIn X W (peer z.dir c) z (f z)

/-- The staged input blocks. -/
def inX (c : Dev nD) : sProp 𝕄 := (((c : Thread nD τ).loc cc0_stg0_0) ↦{fullShare} X c)
def inW (c : Dev nD) : sProp 𝕄 := (((c : Thread nD τ).loc cc0_stg1_0) ↦{fullShare} W c)

/-- The column groups of the result block. -/
def outR (q : Fin 6) : Rect S512x2048 :=
  match q with
  | 0 => Rect.unit (s := S512x2048) ![0, 0] S512x384.size inb_S512x2048_S512x384_0_0
  | 1 => Rect.unit (s := S512x2048) ![0, 384] S512x384.size inb_S512x2048_S512x384_0_384
  | 2 => Rect.unit (s := S512x2048) ![0, 768] S512x384.size inb_S512x2048_S512x384_0_768
  | 3 => Rect.unit (s := S512x2048) ![0, 1152] S512x384.size inb_S512x2048_S512x384_0_1152
  | 4 => Rect.unit (s := S512x2048) ![0, 1536] S512x256.size inb_S512x2048_S512x256_0_1536
  | 5 => Rect.unit (s := S512x2048) ![0, 1792] S512x256.size inb_S512x2048_S512x256_0_1792
def outTens (q : Fin 6) (c : Dev nD) : Tensor F :=
  match q with
  | 0 => ⟨S512x384, resA X W 0 c⟩ | 1 => ⟨S512x384, resA X W 1 c⟩ | 2 => ⟨S512x384, resA X W 2 c⟩ | 3 => ⟨S512x384, resA X W 3 c⟩
  | 4 => ⟨S512x256, resB X W 0 c⟩ | 5 => ⟨S512x256, resB X W 1 c⟩

abbrev OBuf (F : FTy → Type) : Type := (cc0_stg2_0 : Ref sig .tc).ty.Contents (Elt F)
/-- Column group `q` of contents of the result block. -/
def outRead (q : Fin 6) (f : OBuf F) : Tensor F := ⟨(outR q).shape, (oM.access (outR q)).read (Elt F) f⟩
def outOk (c : Dev nD) (h : List Op) (f : OBuf F) : Prop := ∀ q, did h (.out q) = true → outRead q f = outTens X W q c
def outS (c : Dev nD) (h : List Op) : sProp 𝕄 :=
  iprop(∃ f : OBuf F, ⌜outOk X W c h f⌝ ∗ (((c : Thread nD τ).loc cc0_stg2_0) ↦{fullShare} f))

/-- The invariants of all semaphores and of all credited slots, that all semaphores are at least in
    their first round, and the levels. -/
def known (K : GSem nD τ sig → ℕ) (N : Key → ℕ) : sProp 𝕄 :=
  iprop((bigSep Finset.univ fun x : Dev nD × Kind => cellInv ER (Rd X W) (K (cell x.1 x.2)) (cell x.1 x.2))
    ∗ (bigSep Finset.univ fun k : Key => slotInv ES (N k) k (slotIn X W k.1 (crSlot k.2.1 k.2.2) .any))
    ∗ (bigSep Finset.univ fun x : Dev nD × Kind => reached ER (cell x.1 x.2) 0)
    ∗ levAts Lv lv)

variable (K : GSem nD τ sig → ℕ) (N : Key → ℕ)

instance known_persistent : BI.Persistent (known X W K N) := by unfold known; infer_instance

theorem known_cell (c : Dev nD) (k : Kind) : known X W K N ⊢ cellInv ER (Rd X W) (K (cell c k)) (cell c k) := by
  have hk : _ ⊢ (cellInv ER (Rd X W) (K (cell c k)) (cell c k) : sProp 𝕄) := bigSep_elim (Φ := fun x : Dev nD × Kind => cellInv ER (Rd X W) (K (cell x.1 x.2)) (cell x.1 x.2)) (Finset.mem_univ (c, k))
  unfold known
  iintro ⟨H, -⟩
  iapply hk; iexact H
theorem known_slot (k : Key) : known X W K N ⊢ slotInv ES (N k) k (slotIn X W k.1 (crSlot k.2.1 k.2.2) .any) := by
  have hk : _ ⊢ (slotInv ES (N k) k (slotIn X W k.1 (crSlot k.2.1 k.2.2) .any) : sProp 𝕄) := bigSep_elim (Φ := fun k : Key => slotInv ES (N k) k (slotIn X W k.1 (crSlot k.2.1 k.2.2) .any)) (Finset.mem_univ k)
  unfold known
  iintro ⟨-, H, -⟩
  iapply hk; iexact H
theorem known_reached (c : Dev nD) (k : Kind) : known X W K N ⊢ reached ER (cell c k) 0 := by
  have hk : _ ⊢ (reached ER (cell c k) 0 : sProp 𝕄) := bigSep_elim (Φ := fun x : Dev nD × Kind => reached ER (cell x.1 x.2) 0) (Finset.mem_univ (c, k))
  unfold known
  iintro ⟨-, -, H, -⟩
  iapply hk; iexact H
theorem known_levels : known X W K N ⊢ levAts Lv lv := by
  unfold known
  iintro ⟨-, -, -, H⟩
  iexact H

/-- What device `c` holds after the steps `h`. -/
def St (c : Dev nD) (h : List Op) : sProp 𝕄 :=
  iprop(known X W K N ∗ (∃ V, owes (c : Thread nD τ) (owed c h) V) ∗ duty c h ∗ sndDuty c h ∗ credIn c h ∗ stands c h
    ∗ reader c h ∗ writer c h ∗ ownS X W c (hands h).own ∗ farS X W c (hands h).far ∗ inX X c ∗ inW W c ∗ outS X W c h)

/-! ## Steps that leave a part alone -/

section Same
variable {c : Dev nD} {h : List Op} {a : Op}

theorem owed_same (ha : ∀ p, a ≠ .pay p) : owed c (a :: h) = owed c h := by
  unfold owed
  refine Finset.sum_congr (Finset.filter_congr fun p _ => ?_) fun _ _ => rfl
  rw [did_ne (ha p).symm]
omit [FloatOps F] in
theorem duty_same (ha : ∀ p, a ≠ .pay p) : (duty c (a :: h) : sProp 𝕄) = duty c h := by
  unfold duty; congr 1; funext p; rw [did_ne (ha p).symm]
omit [FloatOps F] in
theorem sndDuty_same (ha : ∀ e, a ≠ .pay (.copy e)) : (sndDuty c (a :: h) : sProp 𝕄) = sndDuty c h := by
  unfold sndDuty; congr 1; funext e; rw [did_ne (ha e).symm]
omit [FloatOps F] in
theorem credIn_same (ha : ∀ e, a ≠ .pay (.copy e)) (hw : ∀ w, a ≠ .wait w) : (credIn c (a :: h) : sProp 𝕄) = credIn c h := by
  have hc (w : Wait) : credited? (a :: h) w = credited? h w := by
    unfold credited?
    rw [did_ne (hw w).symm]
    cases w <;> simp only []
    rw [did_ne (ha _).symm]
  unfold credIn; congr 1; funext w
  rw [hc]
theorem waits_same (k : Kind) (hw : ∀ w, a ≠ .wait w) : waits k (a :: h) = waits k h := by
  cases a with
  | wait w => exact absurd rfl (hw w)
  | _ => exact if_neg (by simp [waitKind])
omit [FloatOps F] in
theorem stands_same (hw : ∀ w, a ≠ .wait w) : (stands c (a :: h) : sProp 𝕄) = stands c h := by
  unfold stands; congr 1; funext k; rw [waits_same k hw]
omit [FloatOps F] in
theorem reader_same (ha : ∀ i j, a ≠ .pay (.cr i j)) : (reader c (a :: h) : sProp 𝕄) = reader c h := by
  unfold reader; congr 1; funext x; rw [did_ne (ha x.1 x.2).symm]
omit [FloatOps F] in
theorem writer_same (ha : ∀ i j, a ≠ .wait (.credit i j)) : (writer c (a :: h) : sProp 𝕄) = writer c h := by
  unfold writer; congr 1; funext x; rw [did_ne (ha x.1 x.2).symm]
theorem outS_same (ha : ∀ q, a ≠ .out q) : outS X W c (a :: h) = outS X W c h := by
  unfold outS outOk; congr 1; funext f; congr 2
  simp only [fun q => did_ne (h := h) (ha q).symm]

end Same

/-! ## Steps that take or give one summand -/

section Change
variable {c : Dev nD} {h : List Op}

theorem owed_pay (p : Pay) (hd : did h (.pay p) = false) :
    owed c h = owed c (.pay p :: h) + tallyAt (cell (peer p.dir c) p.kind) p.rd p.kind.amt := by
  unfold owed
  have hm : p ∈ Finset.univ.filter (fun p : Pay => did h (.pay p) = false) := by simp [hd]
  have he : (Finset.univ.filter fun p' : Pay => did (.pay p :: h) (.pay p') = false)
      = (Finset.univ.filter fun p : Pay => did h (.pay p) = false).erase p := by
    ext p'
    simp only [Finset.mem_filter, Finset.mem_univ, true_and, Finset.mem_erase]
    by_cases e : p' = p
    · subst e; simp [did_self]
    · rw [did_ne (by simpa using e)]; simp [e]
  rw [he]
  exact (Finset.sum_erase_add _ _ hm).symm

omit [FloatOps F] in
theorem duty_take (p : Pay) (hd : did h (.pay p) = false) :
    (duty c h : sProp 𝕄) ⊢ iprop(dutyTok ER (cell (peer p.dir c) p.kind) p.rd p.duty ∗ duty c (.pay p :: h)) :=
  sum_take p (fun j hj => by rw [did_ne (by simpa using hj)]) (if_neg (by simp [hd])) (if_pos (did_self _ _))

omit [FloatOps F] in
theorem sndDuty_take (e : Copy) (hd : did h (.pay (.copy e)) = false) :
    (sndDuty c h : sProp 𝕄) ⊢ iprop(dutyTok ER (cell c e.sndKind) e.rd 0 ∗ sndDuty c (.pay (.copy e) :: h)) :=
  sum_take e (fun j hj => by rw [did_ne (by simpa using hj)]) (if_neg (by simp [hd])) (if_pos (did_self _ _))

omit [FloatOps F] in
theorem credIn_take (w : Wait) (hd : credited? h w = true) :
    (credIn c h : sProp 𝕄) ⊢ iprop(cred (tallyAt (cell c w.kind) w.rd w.amt) ∗ credIn c (.wait w :: h)) := by
  refine sum_take w (fun j hj => ?_) (if_pos hd) (if_neg (by simp [credited?, did_self]))
  have : credited? (.wait w :: h) j = credited? h j := by
    unfold credited?
    rw [did_ne (by simpa using hj)]
    cases j <;> simp only []
    rw [did_ne (by simp)]
  rw [this]

omit [FloatOps F] in
theorem credIn_give (e : Copy) (hd : did h (.pay (.copy e)) = false) (hw : did h (.wait (.snd e)) = false) :
    iprop(cred (tallyAt (cell c e.sndKind) e.rd e.sndKind.amt) ∗ credIn c h) ⊢ (credIn c (.pay (.copy e) :: h) : sProp 𝕄) := by
  have h0 : credited? h (.snd e) = false := by simp [credited?, hd]
  have h1 : credited? (.pay (.copy e) :: h) (.snd e) = true := by
    unfold credited?
    rw [did_ne (by simp), hw]
    simp [did_self]
  have h2 (j : Wait) (hj : j ≠ .snd e) : credited? (.pay (.copy e) :: h) j = credited? h j := by
    unfold credited?
    rw [did_ne (by simp)]
    cases j <;> simp only []
    rename_i e'
    rw [did_ne (by simpa using hj)]
  unfold credIn
  refine sum_give (Wait.snd e) (fun j hj => by rw [h2 j hj]) ?_ ?_
  · rw [h0]; rfl
  · rw [h1]; rfl

theorem waits_self (w : Wait) : waits w.kind (.wait w :: h) = waits w.kind h + 1 := if_pos rfl
theorem waits_other (w : Wait) (k : Kind) (hk : k ≠ w.kind) : waits k (.wait w :: h) = waits k h :=
  if_neg fun e => hk (Option.some.inj e).symm

omit [FloatOps F] in
theorem stands_change (w : Wait) :
    (stands c h : sProp 𝕄) ⊢ iprop(stand c w.kind (waits w.kind h) ∗ (stand c w.kind (waits w.kind h + 1) -∗ stands c (.wait w :: h))) :=
  sum_change w.kind (fun k hk => by rw [waits_other w k hk]) rfl (by rw [waits_self])

omit [FloatOps F] in
theorem stand_plain {k : Kind} (hk : ∀ i, k ≠ .cr i) (n : ℕ) :
    (stand c k n : sProp 𝕄) = iprop(atPos ER (cell c k) n ∅ 0 ∗ reached ER (cell c k) n) := by
  unfold stand; cases k <;> first | rfl | exact absurd rfl (hk _)

omit [FloatOps F] in
theorem stands_reached (k : Kind) (hk : ∀ i, k ≠ .cr i) : (stands c h : sProp 𝕄) ⊢ reached ER (cell c k) (waits k h) := by
  have hs : (stands c h : sProp 𝕄) ⊢ stand c k (waits k h) :=
    bigSep_elim (Φ := fun k : Kind => stand c k (waits k h)) (Finset.mem_univ k)
  refine hs.trans ?_
  rw [stand_plain hk]
  iintro ⟨-, H⟩
  iexact H

theorem ownS_change (f : Slot → SV) (z : Slot) (v : SV) :
    ownS X W c f ⊢ iprop(slotIn X W c z (f z) ∗ (slotIn X W c z v -∗ ownS X W c (set f z v))) :=
  sum_change z (fun j hj => by rw [set, if_neg hj]) rfl (by rw [set, if_pos rfl])
theorem farS_change (f : Slot → SV) (z : Slot) (v : SV) :
    farS X W c f ⊢ iprop(slotIn X W (peer z.dir c) z (f z) ∗ (slotIn X W (peer z.dir c) z v -∗ farS X W c (set f z v))) :=
  sum_change z (fun j hj => by rw [set, if_neg hj]) rfl (by rw [set, if_pos rfl])
theorem ownS_take (f : Slot → SV) (z : Slot) : ownS X W c f ⊢ iprop(slotIn X W c z (f z) ∗ ownS X W c (set f z .none)) :=
  sum_take z (fun j hj => by rw [set, if_neg hj]) rfl (by rw [set, if_pos rfl]; rfl)
theorem farS_take (f : Slot → SV) (z : Slot) : farS X W c f ⊢ iprop(slotIn X W (peer z.dir c) z (f z) ∗ farS X W c (set f z .none)) :=
  sum_take z (fun j hj => by rw [set, if_neg hj]) rfl (by rw [set, if_pos rfl]; rfl)
theorem ownS_give (f : Slot → SV) (z : Slot) (v : SV) (hz : f z = .none) : iprop(slotIn X W c z v ∗ ownS X W c f) ⊢ ownS X W c (set f z v) :=
  sum_give z (fun j hj => by rw [set, if_neg hj]) (by rw [hz]; rfl) (by rw [set, if_pos rfl])
theorem farS_give (f : Slot → SV) (z : Slot) (v : SV) (hz : f z = .none) :
    iprop(slotIn X W (peer z.dir c) z v ∗ farS X W c f) ⊢ farS X W c (set f z v) :=
  sum_give z (fun j hj => by rw [set, if_neg hj]) (by rw [hz]; rfl) (by rw [set, if_pos rfl])

end Change

end Cert.ReduceScatter
-- ==== Proof.Steps.lean ====
/-
  Each synchronising operation of the program takes the state after the steps `h` to the state after
  one step more.
-/
module

public import proofs.«01_k».proof.Proof.State

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → XBuf F) (W : Dev nD → WBuf F) (K : GSem nD τ sig → ℕ) (N : Key → ℕ)

/-! ## Persistent facts -/

omit [FloatOps F] in
theorem keep {P Q : sProp 𝕄} [BI.Persistent Q] (h : P ⊢ Q) : P ⊢ iprop(Q ∗ P) :=
  (persistently_entails_left (h.trans BI.Persistent.persistent)).trans (sep_mono_left Laws.persistently_elim)

omit [FloatOps F] in
theorem all_keep {I : Type} [Fintype I] {P : sProp 𝕄} {Φ : I → sProp 𝕄} [∀ i, BI.Persistent (Φ i)] (h : ∀ i, P ⊢ Φ i) :
    P ⊢ bigSep Finset.univ Φ := by
  classical
  induction (Finset.univ : Finset I) using Finset.induction_on with
  | empty => rw [bigSep_empty]; iintro -; iempintro
  | insert i s hi ih =>
    rw [bigSep_insert hi]
    exact (keep (h i)).trans (sep_mono_right ih)

/-! ## Signals -/

theorem st_signal {c d' : Dev nD} {sem : Sem sig} {n : Int} {h : List Op} {α : Type} {Q : α → sProp 𝕄}
    {k : PUnit → Prog (TpuEff nD τ sig (Elt F) Λ₀ .tc) α} (p : Pay) (hp : ∀ e, p ≠ .copy e)
    (hd : did h (.pay p) = false) (hs : (.reg sem : SemLoc sig) = loc p.kind) (hdev : d' = peer p.dir c) (hn : n = ((1 : ℕ) : Int))
    (give : iprop(known X W K N ∗ stands c h ∗ reader c h ∗ ownS X W c (hands h).own)
      ⊢ iprop(|={Set.univ}=> (handed X W p.kind (peer p.dir c) p.rd p.duty ∗ stands c h ∗ reader c (.pay p :: h) ∗ ownS X W c (hands (.pay p :: h)).own)))
    (hfar : (hands (.pay p :: h)).far = (hands h).far)
    (hk : St X W K N c (.pay p :: h) ⊢ wp frame (wpE (defs₀ (F := F)) 𝒱₀ (c : Thread nD τ) none) Set.univ (k ⟨⟩) Q) :
    St X W K N c h ⊢ wp frame (wpE (defs₀ (F := F)) 𝒱₀ (c : Thread nD τ) none) Set.univ (.op (.semSignal (d' : Thread nD τ) sem n) k) Q := by
  subst hdev hn
  have ha : p.kind.amt = 1 := by
    cases p with
    | copy e => exact absurd rfl (hp e)
    | _ => rfl
  have hr : p.rd = 0 := by
    cases p with
    | copy e => exact absurd rfl (hp e)
    | _ => rfl
  have hc : ∀ e : Copy, (Op.pay p) ≠ .pay (.copy e) := fun e he => hp e (Op.pay.inj he)
  unfold St at hk ⊢
  rw [owed_pay p hd, sndDuty_same hc, credIn_same hc (by simp), stands_same (by simp), writer_same (by simp), hfar,
    outS_same X W (by simp)] at *
  iintro ⟨#HK, ⟨%V, Ho⟩, Hd, Hsd, Hcr, Hst, Hrd, Hwr, Hown, Hfar, HX, HW, HO⟩
  imod give $$ [Hst Hrd Hown] with ⟨Hpay, Hst, Hrd, Hown⟩
  · isplitr; · iexact HK
    isplitl [Hst]; · iexact Hst
    isplitl [Hrd] <;> iassumption
  ihave Hd := (duty_take p hd) $$ Hd
  icases Hd with ⟨Htok, Hd⟩
  ihave Hinv := (known_cell X W K N (peer p.dir c) p.kind) $$ HK
  ihave Hre := (known_reached X W K N (peer p.dir c) p.kind) $$ HK
  have hcell : cell (peer p.dir c) p.kind = ((peer p.dir c : Thread nD τ), (.reg sem : SemLoc sig)) := by rw [hs]
  iapply (Rounds.wp_signal 𝒱₀ ER (Rd X W) (c : Thread nD τ) none (dst := (peer p.dir c : Thread nD τ)) (sem := sem) (r := p.rd) (d := p.duty)
      (k' := 1) (κ := K (cell (peer p.dir c) p.kind))
      (by rw [← hcell, duties_at]; exact pay_duty p) (by rw [← hcell, amount_at, ha]) p.rd (owed c (.pay p :: h))
      (O₀ := owed c (.pay p :: h) + tallyAt (cell (peer p.dir c) p.kind) p.rd p.kind.amt) (by rw [← hcell, ha]) (W := V))
    $$ [Hinv Ho Htok Hpay Hre]
  · rw [← hcell, payload_at]
    isplitl [Hinv]; · iexact Hinv
    isplitl [Ho]; · iexact Ho
    isplitl [Htok]; · iexact Htok
    isplitl [Hpay]; · iexact Hpay
    rw [hr]; iexact Hre
  iintro Ho
  iapply hk
  isplitr; · iexact HK
  isplitl [Ho]; · iexists V; iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  iexact HO

/-! ## What the signals give -/

section Give
variable {c : Dev nD} {h : List Op}

/-- The closing barrier's signals give nothing. -/
theorem give_fin (d : Dir) :
    iprop(known X W K N ∗ stands c h ∗ reader c h ∗ ownS X W c (hands h).own)
      ⊢ iprop(|={Set.univ}=> (handed X W (Pay.fin d).kind (peer (Pay.fin d).dir c) (Pay.fin d).rd (Pay.fin d).duty
          ∗ stands c h ∗ reader c (.pay (.fin d) :: h) ∗ ownS X W c (hands (.pay (.fin d) :: h)).own)) := by
  rw [reader_same (by simp)]
  have hp : handed X W (Pay.fin d).kind (peer (Pay.fin d).dir c) (Pay.fin d).rd (Pay.fin d).duty = iprop(emp) := rfl
  rw [hp]
  iintro ⟨-, H⟩
  imodintro
  isplitr
  · iempintro
  iexact H

/-- A second-ring credit gives the slot. -/
theorem give_c2 (i : Fin 2) (ho : (hands h).own (.b2 i 0) = .any) :
    iprop(known X W K N ∗ stands c h ∗ reader c h ∗ ownS X W c (hands h).own)
      ⊢ iprop(|={Set.univ}=> (handed X W (Pay.c2 i).kind (peer (Pay.c2 i).dir c) (Pay.c2 i).rd (Pay.c2 i).duty
          ∗ stands c h ∗ reader c (.pay (.c2 i) :: h) ∗ ownS X W c (hands (.pay (.c2 i) :: h)).own)) := by
  rw [reader_same (by simp)]
  have hp : handed X W (Pay.c2 i).kind (peer (Pay.c2 i).dir c) (Pay.c2 i).rd (Pay.c2 i).duty = slotIn X W c (.b2 i 0) .any := by
    show slotIn X W (peer (twoDir i) (peer (twoDir i).opp c)) (.b2 i 0) .any = _
    rw [peer_opp']
  rw [hp]
  iintro ⟨-, Hs, Hr, Ho⟩
  ihave Ho := (ownS_take X W (hands h).own (.b2 i 0)) $$ Ho
  rw [ho]
  icases Ho with ⟨Hz, Ho⟩
  imodintro
  isplitl [Hz]; · iexact Hz
  isplitl [Hs]; · iexact Hs
  isplitl [Hr]; · iexact Hr
  iexact Ho

/-- The opening barrier's signal gives the slots that the neighbour writes. -/
theorem give_bar (d : Dir) (ho : ∀ z : Slot, z.goes d = true → (hands h).own z = .any) :
    iprop(known X W K N ∗ stands c h ∗ reader c h ∗ ownS X W c (hands h).own)
      ⊢ iprop(|={Set.univ}=> (handed X W (Pay.bar d).kind (peer (Pay.bar d).dir c) (Pay.bar d).rd (Pay.bar d).duty
          ∗ stands c h ∗ reader c (.pay (.bar d) :: h) ∗ ownS X W c (hands (.pay (.bar d) :: h)).own)) := by
  rw [reader_same (by simp)]
  have hp : ownS X W c (hands h).own = iprop(handed X W (Pay.bar d).kind (peer (Pay.bar d).dir c) (Pay.bar d).rd (Pay.bar d).duty
      ∗ ownS X W c (hands (.pay (.bar d) :: h)).own) := by
    show _ = iprop(opened X W (peer d c) (dirOf d.idx) ∗ _)
    rw [dirOf_idx]
    unfold ownS opened
    rw [← bigSep_sep']
    refine bigSep_congr fun z _ => ?_
    show _ = iprop(_ ∗ slotIn X W c z (if z.goes d then .none else (hands h).own z))
    cases hz : z.goes d with
    | true =>
      have hdir : z.dir = d.opp := by
        unfold Slot.goes at hz
        simp only [Bool.and_eq_true, beq_iff_eq] at hz
        exact hz.2
      rw [if_pos rfl, if_pos rfl, ho z hz, hdir, peer_opp]
      exact (equiv_iff.mp Idealize.SL.BI.sep_emp).symm
    | false =>
      rw [if_neg Bool.false_ne_true, if_neg Bool.false_ne_true]
      exact (equiv_iff.mp Idealize.SL.BI.emp_sep).symm
  rw [hp]
  iintro ⟨-, Hs, Hr, Hp, Ho⟩
  imodintro
  isplitl [Hp]; · iexact Hp
  isplitl [Hs]; · iexact Hs
  isplitl [Hr]; · iexact Hr
  iexact Ho

/-- A ring credit puts the slot up for the neighbour to take. -/
theorem give_cr (i : Fin 4) (j : Fin 3) (ho : (hands h).own (crSlot i j) ≠ .none)
    (hlt : ∀ j' : Fin 3, did h (.pay (.cr i j')) = decide (j' < j)) (hw : ∀ j' : Fin 3, j' ≤ j → waits (.rcv i j') h = 1) :
    iprop(known X W K N ∗ stands c h ∗ reader c h ∗ ownS X W c (hands h).own)
      ⊢ iprop(|={Set.univ}=> (handed X W (Pay.cr i j).kind (peer (Pay.cr i j).dir c) (Pay.cr i j).rd (Pay.cr i j).duty
          ∗ stands c h ∗ reader c (.pay (.cr i j) :: h) ∗ ownS X W c (hands (.pay (.cr i j) :: h)).own)) := by
  have hp : handed X W (Pay.cr i j).kind (peer (Pay.cr i j).dir c) (Pay.cr i j).rd (Pay.cr i j).duty = upTo (peer (streamDir i).opp c) i j := rfl
  have hdone (j' : Fin 3) (hj : j' ≤ j) : did (.pay (.cr i j) :: h) (.pay (.cr i j')) = true := by
    by_cases e : j' = j
    · subst e; exact did_self _ _
    · rw [did_ne (by simpa using e), hlt]
      exact decide_eq_true (lt_of_le_of_ne hj e)
  haveI (j' : Fin 3) : BI.Persistent (if j' ≤ j then credited (F := F) (peer (streamDir i).opp c) i j' else iprop(emp)) := by
    split <;> infer_instance
  have hup : iprop(stands c h ∗ reader c (.pay (.cr i j) :: h)) ⊢ (upTo (peer (streamDir i).opp c) i j : sProp 𝕄) := by
    unfold upTo
    refine all_keep fun j' => ?_
    by_cases hj : j' ≤ j
    · rw [if_pos hj]
      have h1 : (stands c h : sProp 𝕄) ⊢ reached ER (cell c (.rcv i j')) 1 := by
        have := stands_reached (F := F) (c := c) (h := h) (.rcv i j') (by simp)
        rwa [hw j' hj] at this
      have h2 : (reader c (.pay (.cr i j) :: h) : sProp 𝕄) ⊢ released ES ((c, i, j') : Key) 1 := by
        have hk : (reader c (.pay (.cr i j) :: h) : sProp 𝕄) ⊢ (if did (.pay (.cr i j) :: h) (.pay (.cr i j')) then released ES ((c, i, j') : Key) 1 else readerAt ES ((c, i, j') : Key) 0) :=
          bigSep_elim (Φ := fun x : Fin 4 × Fin 3 => if did (.pay (.cr i j) :: h) (.pay (.cr x.1 x.2)) then released ES ((c, x) : Key) 1 else readerAt ES ((c, x) : Key) 0) (Finset.mem_univ (i, j'))
        rwa [if_pos (hdone j' hj)] at hk
      unfold credited
      rw [peer_opp']
      iintro ⟨Hs, Hr⟩
      ihave Hs := h1 $$ Hs
      ihave Hr := h2 $$ Hr
      isplitl [Hr] <;> iassumption
    · rw [if_neg hj]; iintro -; iempintro
  have hchange : (reader c h : sProp 𝕄) ⊢ iprop(readerAt ES ((c, i, j) : Key) 0
      ∗ (released ES ((c, i, j) : Key) 1 -∗ reader c (.pay (.cr i j) :: h))) :=
    sum_change (i, j) (fun x hx => by
        rw [did_ne]
        intro e
        have e := Op.pay.inj e
        injection e with e1 e2
        exact hx (Prod.ext e1 e2))
      (if_neg (by rw [hlt]; simp)) (if_pos (did_self _ _))
  rw [hp]
  iintro ⟨#HK, Hs, Hr, Ho⟩
  ihave Hinv := (known_slot X W K N ((c, i, j) : Key)) $$ HK
  ihave Ho := (ownS_take X W (hands h).own (crSlot i j)) $$ Ho
  icases Ho with ⟨Hz, Ho⟩
  ihave Hz := (slotIn_any X W c (crSlot i j) _ ho) $$ Hz
  ihave Hr := hchange $$ Hr
  icases Hr with ⟨Ha, Hr⟩
  imod (slot_release (Es := Set.univ) ES (Set.mem_univ (N (c, i, j))) (slot_excl X W c (crSlot i j)) 0) $$ [Hinv Ha Hz] with ⟨-, Hrel⟩
  · isplitl [Hinv]; · iexact Hinv
    isplitl [Ha] <;> iassumption
  ihave Hr := Hr $$ Hrel
  icombine Hs Hr as H
  ihave H := (keep hup) $$ H
  icases H with ⟨Hup, Hs, Hr⟩
  imodintro
  isplitl [Hup]; · iexact Hup
  isplitl [Hs]; · iexact Hs
  isplitl [Hr]; · iexact Hr
  iexact Ho

end Give

end Cert.ReduceScatter
-- ==== Proof.Waits.lean ====
/-
  Waits: each takes the state after the steps `h` to the state after the wait.
-/
module

public import proofs.«01_k».proof.Proof.Steps

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → XBuf F) (W : Dev nD → WBuf F) (K : GSem nD τ sig → ℕ) (N : Key → ℕ)

/-- A wait for a whole round. -/
theorem st_wait {c : Dev nD} {e : TpuEff nD τ sig (Elt F) Λ₀ .tc PUnit} {n : ℕ} {h : List Op} {α : Type} {Q : α → sProp 𝕄}
    {k : PUnit → Prog (TpuEff nD τ sig (Elt F) Λ₀ .tc) α} (w : Wait) (hnc : ∀ i, w.kind ≠ .cr i)
    (hw : ∀ R : PUnit → sProp 𝕄, wpE (defs₀ (F := F)) 𝒱₀ (c : Thread nD τ) none Set.univ e R = waitSpec (c : Thread nD τ) Set.univ (loc w.kind) n R)
    (hn : n = w.amt) (hcr : credited? h w = true) (hb : below h w = true) (hwt : waits w.kind h = w.rd)
    (hcard : (w.kind.duties w.rd).card * w.kind.amt = w.amt)
    (take : iprop((bigSep (w.kind.duties w.rd) fun d => handed X W w.kind c w.rd d) ∗ ownS X W c (hands h).own ∗ farS X W c (hands h).far)
      ⊢ iprop(ownS X W c (hands (.wait w :: h)).own ∗ farS X W c (hands (.wait w :: h)).far))
    (hk : St X W K N c (.wait w :: h) ⊢ wp frame (wpE (defs₀ (F := F)) 𝒱₀ (c : Thread nD τ) none) Set.univ (k ⟨⟩) Q) :
    St X W K N c h ⊢ wp frame (wpE (defs₀ (F := F)) 𝒱₀ (c : Thread nD τ) none) Set.univ (.op e k) Q := by
  subst hn
  have hcw : ∀ i j, (Op.wait w) ≠ .wait (.credit i j) := fun i j he => hnc i (by rw [Op.wait.inj he]; rfl)
  unfold St at hk ⊢
  rw [owed_same (by simp), duty_same (by simp), sndDuty_same (by simp), reader_same (by simp), writer_same hcw,
    outS_same X W (by simp)] at hk
  iintro ⟨#HK, ⟨%V, Ho⟩, Hd, Hsd, Hcr, Hst, Hrd, Hwr, Hown, Hfar, HX, HW, HO⟩
  ihave Hcr := (credIn_take w hcr) $$ Hcr
  icases Hcr with ⟨Hc, Hcr⟩
  ihave Hst := (stands_change w) $$ Hst
  rw [stand_plain hnc, stand_plain hnc, hwt]
  icases Hst with ⟨⟨Hat, -⟩, Hst⟩
  ihave Hinv := (known_cell X W K N c w.kind) $$ HK
  ihave Hlev := (known_levels X W K N) $$ HK
  ihave Hmay := (mayWait_kind c w h hb) $$ Hlev
  iapply (Rounds.wp_wait_rest_token 𝒱₀ ER (Rd X W) (c : Thread nD τ) none (sm := loc w.kind) (κ := K (cell c w.kind)) hw (Set.mem_univ _)
      w.rd (O := owed c h) (W := V) (R := w.rd) (m := 0) (T := ∅)
      (by rw [Nat.zero_add]; exact ((expect_at X W c w.kind w.rd).trans hcard).symm)) $$ [Hinv Hc Ho Hmay Hat]
  · isplitl [Hinv]; · iexact Hinv
    isplitl [Hc]; · iexact Hc
    isplitl [Ho]; · iexact Ho
    isplitl [Hmay]; · iexact Hmay
    iexact Hat
  have hpay : bigSep ((Rd X W).duties (cell c w.kind) w.rd \ ∅) (fun d => (Rd X W).payload (cell c w.kind) w.rd d)
      = bigSep (w.kind.duties w.rd) fun d => handed X W w.kind c w.rd d := by
    rw [Finset.sdiff_empty, duties_at]
    exact bigSep_congr fun d _ => payload_at X W c w.kind w.rd d
  rw [hpay]
  iintro ⟨Ho, Hat, #Hre, Hpay⟩
  ihave Hst := Hst $$ [Hat]
  · isplitl [Hat]; · iexact Hat
    iexact Hre
  icombine Hpay Hown Hfar as H
  ihave H := take $$ H
  icases H with ⟨Hown, Hfar⟩
  iapply hk
  isplitr; · iexact HK
  isplitl [Ho]; · iexists _; iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  iexact HO

section Take
variable {c : Dev nD} {h : List Op}

omit [FloatOps F] in
theorem single_duty {Φ : Fin 3 → sProp 𝕄} : bigSep {(0 : Fin 3)} Φ = Φ 0 := bigSep_singleton

theorem snd_single (e : Copy) : e.sndKind.duties e.rd = {0} := by revert e; decide +kernel
theorem rcv_single (e : Copy) : e.rcvKind.duties e.rd = {0} := by revert e; decide +kernel

theorem take_snd (e : Copy) (ho : (hands h).own e.src = .none) :
    iprop((bigSep ((Wait.snd e).kind.duties (Wait.snd e).rd) fun d => handed X W (Wait.snd e).kind c (Wait.snd e).rd d)
        ∗ ownS X W c (hands h).own ∗ farS X W c (hands h).far)
      ⊢ iprop(ownS X W c (hands (.wait (.snd e) :: h)).own ∗ farS X W c (hands (.wait (.snd e) :: h)).far) := by
  have hd : e.sndKind.duties e.rd = {0} := snd_single e
  have hp : (bigSep ((Wait.snd e).kind.duties (Wait.snd e).rd) fun d => handed X W (Wait.snd e).kind c (Wait.snd e).rd d)
      = slotIn X W c e.src .any := by
    show bigSep (e.sndKind.duties e.rd) (fun d => handed X W e.sndKind c e.rd d) = _
    rw [hd, single_duty, handed_snd]
  rw [hp]
  iintro ⟨Hp, Ho, Hf⟩
  icombine Hp Ho as H
  ihave H := (ownS_give X W (hands h).own e.src .any ho) $$ H
  isplitl [H]; · iexact H
  iexact Hf

theorem take_rcv (e : Copy) (ho : (hands h).own e.dst = .none) :
    iprop((bigSep ((Wait.rcv e).kind.duties (Wait.rcv e).rd) fun d => handed X W (Wait.rcv e).kind c (Wait.rcv e).rd d)
        ∗ ownS X W c (hands h).own ∗ farS X W c (hands h).far)
      ⊢ iprop(ownS X W c (hands (.wait (.rcv e) :: h)).own ∗ farS X W c (hands (.wait (.rcv e) :: h)).far) := by
  have hd : e.rcvKind.duties e.rd = {0} := rcv_single e
  have hp : (bigSep ((Wait.rcv e).kind.duties (Wait.rcv e).rd) fun d => handed X W (Wait.rcv e).kind c (Wait.rcv e).rd d)
      = slotIn X W c e.dst (.got e) := by
    show bigSep (e.rcvKind.duties e.rd) (fun d => handed X W e.rcvKind c e.rd d) = _
    rw [hd, single_duty, handed_rcv]
  rw [hp]
  iintro ⟨Hp, Ho, Hf⟩
  icombine Hp Ho as H
  ihave H := (ownS_give X W (hands h).own e.dst (.got e) ho) $$ H
  isplitl [H]; · iexact H
  iexact Hf

theorem take_c2 (i : Fin 2) (ho : (hands h).far (.b2 i 0) = .none) :
    iprop((bigSep ((Wait.c2 i).kind.duties (Wait.c2 i).rd) fun d => handed X W (Wait.c2 i).kind c (Wait.c2 i).rd d)
        ∗ ownS X W c (hands h).own ∗ farS X W c (hands h).far)
      ⊢ iprop(ownS X W c (hands (.wait (.c2 i) :: h)).own ∗ farS X W c (hands (.wait (.c2 i) :: h)).far) := by
  have hd : (Kind.c2 i).duties 0 = {0} := rfl
  have hp : (bigSep ((Wait.c2 i).kind.duties (Wait.c2 i).rd) fun d => handed X W (Wait.c2 i).kind c (Wait.c2 i).rd d)
      = slotIn X W (peer (twoDir i) c) (.b2 i 0) .any := by
    show bigSep ((Kind.c2 i).duties 0) (fun d => handed X W (Kind.c2 i) c 0 d) = _
    rw [hd, single_duty]
    rfl
  have hg : iprop(slotIn X W (peer (twoDir i) c) (.b2 i 0) .any ∗ farS X W c (hands h).far)
      ⊢ farS X W c (hands (.wait (.c2 i) :: h)).far := farS_give X W (hands h).far (.b2 i 0) .any ho
  rw [hp]
  iintro ⟨Hp, Ho, Hf⟩
  icombine Hp Hf as H
  ihave H := hg $$ H
  isplitl [Ho]; · iexact Ho
  iexact H

theorem take_fin :
    iprop((bigSep (Wait.fin.kind.duties Wait.fin.rd) fun d => handed X W Wait.fin.kind c Wait.fin.rd d)
        ∗ ownS X W c (hands h).own ∗ farS X W c (hands h).far)
      ⊢ iprop(ownS X W c (hands (.wait .fin :: h)).own ∗ farS X W c (hands (.wait .fin :: h)).far) := by
  iintro ⟨-, H⟩
  iexact H

theorem take_bar (ho : ∀ z : Slot, z.opens = true → (hands h).far z = .none) :
    iprop((bigSep (Wait.bar.kind.duties Wait.bar.rd) fun d => handed X W Wait.bar.kind c Wait.bar.rd d)
        ∗ ownS X W c (hands h).own ∗ farS X W c (hands h).far)
      ⊢ iprop(ownS X W c (hands (.wait .bar :: h)).own ∗ farS X W c (hands (.wait .bar :: h)).far) := by
  have hp : (bigSep (Wait.bar.kind.duties Wait.bar.rd) fun d => handed X W Wait.bar.kind c Wait.bar.rd d)
      = bigSep Finset.univ fun z : Slot => if z.opens then slotIn X W (peer z.dir c) z .any else iprop(emp) := by
    show bigSep (Finset.univ : Finset (Fin 3)) (fun d => opened X W c (dirOf d)) = _
    have h3 : (Finset.univ : Finset (Fin 3)) = {0, 1, 2} := by decide
    rw [h3, bigSep_insert (by decide), bigSep_insert (by decide), bigSep_singleton]
    show iprop(opened X W c .left ∗ opened X W c .right ∗ opened X W c .across) = _
    unfold opened
    rw [← bigSep_sep', ← bigSep_sep']
    refine bigSep_congr fun z _ => ?_
    have hz : z.goes .left = (z.opens && (z.dir == .right)) ∧ z.goes .right = (z.opens && (z.dir == .left))
        ∧ z.goes .across = (z.opens && (z.dir == .across)) := ⟨rfl, rfl, rfl⟩
    rw [hz.1, hz.2.1, hz.2.2]
    cases z.opens with
    | false =>
      simp only [Bool.false_and, if_neg Bool.false_ne_true]
      exact (equiv_iff.mp Idealize.SL.BI.emp_sep).trans (equiv_iff.mp Idealize.SL.BI.emp_sep)
    | true =>
      cases hdir : z.dir
      · exact (congrArg _ (equiv_iff.mp Idealize.SL.BI.sep_emp)).trans (equiv_iff.mp Idealize.SL.BI.emp_sep)
      · exact (congrArg _ (equiv_iff.mp Idealize.SL.BI.emp_sep)).trans (equiv_iff.mp Idealize.SL.BI.sep_emp)
      · exact (equiv_iff.mp Idealize.SL.BI.emp_sep).trans (equiv_iff.mp Idealize.SL.BI.emp_sep)
  have hf : iprop((bigSep Finset.univ fun z : Slot => if z.opens then slotIn X W (peer z.dir c) z .any else iprop(emp)) ∗ farS X W c (hands h).far)
      = farS X W c (hands (.wait .bar :: h)).far := by
    unfold farS
    rw [← bigSep_sep']
    refine bigSep_congr fun z _ => ?_
    show _ = slotIn X W (peer z.dir c) z (if z.opens then .any else (hands h).far z)
    cases hz : z.opens with
    | false =>
      rw [if_neg Bool.false_ne_true, if_neg Bool.false_ne_true]
      exact equiv_iff.mp Idealize.SL.BI.emp_sep
    | true =>
      rw [if_pos rfl, if_pos rfl, ho z hz]
      exact equiv_iff.mp Idealize.SL.BI.sep_emp
  rw [hp, ← hf]
  iintro ⟨Hp, Ho, Hf⟩
  isplitl [Ho]; · iexact Ho
  isplitl [Hp] <;> iassumption

end Take

/-! ## Credits of the ring slots -/

omit [FloatOps F] in
/-- Having heard of `j + 1` credits, one knows of credit `j`. -/
theorem credit_of {c : Dev nD} {i : Fin 4} (j : Fin 3) (S : Finset (Fin 3)) (hS : j.val + 1 ≤ S.card) :
    (bigSep S fun d => upTo (F := F) c i d) ⊢ credited c i j := by
  have hd : ∃ d ∈ S, j ≤ d := by revert S j; decide
  obtain ⟨d, hd, hj⟩ := hd
  have h1 : (bigSep S fun d => upTo (F := F) c i d) ⊢ upTo (F := F) c i d := bigSep_elim (Φ := fun d => upTo (F := F) c i d) hd
  have h2 : upTo (F := F) c i d ⊢ (if j ≤ d then credited c i j else iprop(emp)) :=
    bigSep_elim (Φ := fun j' : Fin 3 => if j' ≤ d then credited (F := F) c i j' else iprop(emp)) (Finset.mem_univ j)
  rw [if_pos hj] at h2
  exact h1.trans h2

theorem st_credit {c : Dev nD} {sem : Sem sig} {n : Int} {h : List Op} {α : Type} {Q : α → sProp 𝕄}
    {k : PUnit → Prog (TpuEff nD τ sig (Elt F) Λ₀ .tc) α} (i : Fin 4) (j : Fin 3)
    (hs : (.reg sem : SemLoc sig) = loc (.cr i)) (hn : n = ((1 : ℕ) : Int)) (hnd : did h (.wait (.credit i j)) = false)
    (hb : below h (.credit i j) = true) (hwt : waits (.cr i) h = j.val) (hfar : (hands h).far (crSlot i j) = .none)
    (hk : St X W K N c (.wait (.credit i j) :: h) ⊢ wp frame (wpE (defs₀ (F := F)) 𝒱₀ (c : Thread nD τ) none) Set.univ (k ⟨⟩) Q) :
    St X W K N c h ⊢ wp frame (wpE (defs₀ (F := F)) 𝒱₀ (c : Thread nD τ) none) Set.univ (.op (.semWait sem n) k) Q := by
  subst hn
  have hcr : credited? h (.credit i j) = true := by simp [credited?, hnd]
  have hw : ∀ R : PUnit → sProp 𝕄, wpE (defs₀ (F := F)) 𝒱₀ (c : Thread nD τ) none Set.univ (.semWait sem ((1 : ℕ) : Int)) R
      = waitSpec (c : Thread nD τ) Set.univ (loc (.cr i)) 1 R := fun R => by rw [← hs]; exact wpE_semWait_eq ..
  have hnk : (Kind.cr i).duties 0 = Finset.univ := rfl
  have hx : (Rd X W).expect (cell c (.cr i)) 0 = 3 := by rw [expect_at, hnk]; rfl
  have hdu : (Rd X W).duties (cell c (.cr i)) 0 = Finset.univ := by rw [duties_at, hnk]
  have hpay (S : Finset (Fin 3)) : bigSep S (fun d => (Rd X W).payload (cell c (.cr i)) 0 d) = bigSep S fun d => upTo c i d :=
    bigSep_congr fun d _ => payload_at X W c (.cr i) 0 d
  -- The writer's side once the credit is known.
  have htake : iprop(known X W K N ∗ credited c i j ∗ writer c h ∗ farS X W c (hands h).far)
      ⊢ iprop(|={Set.univ}=> (writer c (.wait (.credit i j) :: h) ∗ farS X W c (hands (.wait (.credit i j) :: h)).far)) := by
    have hchange : (writer c h : sProp 𝕄) ⊢ iprop(writeTok ES ((peer (streamDir i) c, i, j) : Key) 1
        ∗ (reached ER (cell (peer (streamDir i) c) (.rcv i j)) 1 -∗ writer c (.wait (.credit i j) :: h))) :=
      sum_change (i, j) (fun x hx => by
          rw [did_ne]
          intro e
          have e := Op.wait.inj e
          injection e with e1 e2
          exact hx (Prod.ext e1 e2))
        (if_neg (by simp [hnd])) (if_pos (did_self _ _))
    have hg : iprop(slotIn X W (peer (streamDir i) c) (crSlot i j) .any ∗ farS X W c (hands h).far)
        ⊢ farS X W c (hands (.wait (.credit i j) :: h)).far := farS_give X W (hands h).far (crSlot i j) .any hfar
    have hsl : iprop(slotInv ES (N (peer (streamDir i) c, i, j)) ((peer (streamDir i) c, i, j) : Key) (slotIn X W (peer (streamDir i) c) (crSlot i j) .any)
          ∗ released ES ((peer (streamDir i) c, i, j) : Key) 1 ∗ writeTok ES ((peer (streamDir i) c, i, j) : Key) 1)
        ⊢ iprop(|={Set.univ}=> slotIn X W (peer (streamDir i) c) (crSlot i j) .any) :=
      slot_take (Es := Set.univ) ES (Set.mem_univ (N (peer (streamDir i) c, i, j))) 1
    iintro ⟨#HK, Hcr, Hw, Hf⟩
    unfold credited
    icases Hcr with ⟨Hrel, Hre⟩
    ihave Hw := hchange $$ Hw
    icases Hw with ⟨Htok, Hw⟩
    ihave Hinv := (known_slot X W K N ((peer (streamDir i) c, i, j) : Key)) $$ HK
    imod hsl $$ [Hinv Hrel Htok] with Hz
    · isplitl [Hinv]; · iexact Hinv
      isplitl [Hrel] <;> iassumption
    ihave Hw := Hw $$ Hre
    icombine Hz Hf as H
    ihave H := hg $$ H
    imodintro
    isplitl [Hw]; · iexact Hw
    iexact H
  unfold St at hk ⊢
  rw [owed_same (by simp), duty_same (by simp), sndDuty_same (by simp), reader_same (by simp),
    outS_same X W (by simp)] at hk
  iintro ⟨#HK, ⟨%V, Ho⟩, Hd, Hsd, Hcr, Hst, Hrd, Hwr, Hown, Hfar, HX, HW, HO⟩
  ihave Hcr := (credIn_take (.credit i j) hcr) $$ Hcr
  icases Hcr with ⟨Hc, Hcr⟩
  ihave Hst := (stands_change (.credit i j)) $$ Hst
  rw [show waits (Wait.credit i j).kind h = j.val from hwt]
  have hj : j.val < 3 := j.isLt
  have hst0 : (stand c (.cr i) j.val : sProp 𝕄) = iprop(∃ S : Finset (Fin 3), ⌜j.val ≤ S.card⌝ ∗ atPos ER (cell c (.cr i)) 0 S j.val ∗ bigSep S fun d => upTo c i d) :=
    if_neg (by omega)
  rw [show (stand c (Wait.credit i j).kind j.val : sProp 𝕄) = _ from hst0]
  icases Hst with ⟨⟨%S, %hS, Hat, #HS⟩, Hst⟩
  ihave Hinv := (known_cell X W K N c (.cr i)) $$ HK
  ihave Hlev := (known_levels X W K N) $$ HK
  ihave Hmay := (mayWait_kind c (.credit i j) h hb) $$ Hlev
  by_cases hlast : j.val = 2
  · have hst1 : (stand c (.cr i) (j.val + 1) : sProp 𝕄) = atPos ER (cell c (.cr i)) 1 ∅ 0 := if_pos (by omega)
    iapply (Rounds.wp_wait_rest_token 𝒱₀ ER (Rd X W) (c : Thread nD τ) none (sm := loc (.cr i)) (κ := K (cell c (.cr i))) hw (Set.mem_univ _)
        0 (O := owed c h) (W := V) (R := 0) (m := j.val) (T := S) (by rw [hlast]; exact hx.symm)) $$ [Hinv Hc Ho Hmay Hat]
    · isplitl [Hinv]; · iexact Hinv
      isplitl [Hc]; · iexact Hc
      isplitl [Ho]; · iexact Ho
      isplitl [Hmay]; · iexact Hmay
      iexact Hat
    rw [hdu, hpay]
    iintro ⟨Ho, Hat, -, #Hpay⟩
    rw [show (stand c (Wait.credit i j).kind (j.val + 1) : sProp 𝕄) = _ from hst1]
    ihave Hst := Hst $$ Hat
    have hall : iprop((bigSep S fun d => upTo (F := F) c i d) ∗ (bigSep (Finset.univ \ S) fun d => upTo (F := F) c i d)) ⊢ credited c i j := by
      refine BI.Entails.trans ?_ (credit_of j Finset.univ (by rw [hlast]; decide))
      rw [← Finset.union_sdiff_of_subset (Finset.subset_univ S), bigSep_union Finset.disjoint_sdiff]
      rw [Finset.union_sdiff_of_subset (Finset.subset_univ S)]
      exact BI.Entails.refl _
    imod htake $$ [Hwr Hfar] with ⟨Hwr, Hfar⟩
    · isplitr; · iexact HK
      isplitr
      · iapply hall
        isplitr; · iexact HS
        iexact Hpay
      isplitl [Hwr] <;> iassumption
    iapply hk
    isplitr; · iexact HK
    isplitl [Ho]; · iexists _; iexact Ho
    isplitl [Hd]; · iexact Hd
    isplitl [Hsd]; · iexact Hsd
    isplitl [Hcr]; · iexact Hcr
    isplitl [Hst]; · iexact Hst
    isplitl [Hrd]; · iexact Hrd
    isplitl [Hwr]; · iexact Hwr
    isplitl [Hown]; · iexact Hown
    isplitl [Hfar]; · iexact Hfar
    isplitl [HX]; · iexact HX
    isplitl [HW]; · iexact HW
    iexact HO
  · have hst1 : (stand c (.cr i) (j.val + 1) : sProp 𝕄) = iprop(∃ S : Finset (Fin 3), ⌜j.val + 1 ≤ S.card⌝ ∗ atPos ER (cell c (.cr i)) 0 S (j.val + 1) ∗ bigSep S fun d => upTo c i d) :=
      if_neg (by omega)
    iapply (Rounds.wp_wait 𝒱₀ ER (Rd X W) (c : Thread nD τ) none (sm := loc (.cr i)) (κ := K (cell c (.cr i))) hw (Set.mem_univ _)
        (cr := Finsupp.single 0 1) (O := owed c h) (W := V) {(loc (.cr i), 0)} (R := 0) (m := j.val) (T := S)
        (by rw [Util.total_single]) (image_single_subset (loc (.cr i)) 0 1)) $$ [Hinv Hc Ho Hmay Hat]
    · isplitl [Hinv]; · iexact Hinv
      isplitl [Hc]; · iexact Hc
      isplitl [Ho]; · iexact Ho
      isplitl [Hmay]; · iexact Hmay
      iexact Hat
    iintro %S' ⟨%hS', Ho, Hat, Hpay⟩
    rw [hdu, hx] at hS'
    ihave Hpay := (Entails.of_eq (hpay (S' \ S))) $$ Hpay
    have hcard : j.val + 1 ≤ S'.card := by
      have h1 := Finset.card_sdiff_add_card_eq_card hS'.2.1
      have h2 : (Finset.univ : Finset (Fin 3)).card = 3 := by decide
      have h3 := hS'.2.2
      omega
    have hall : iprop((bigSep S fun d => upTo (F := F) c i d) ∗ (bigSep (S' \ S) fun d => upTo (F := F) c i d)) ⊢ bigSep S' fun d => upTo (F := F) c i d := by
      refine BI.Entails.trans ?_ (Entails.of_eq (congrArg (fun T => bigSep T fun d => upTo (F := F) c i d) (Finset.union_sdiff_of_subset hS'.1)))
      show _ ⊢ bigSep (S ∪ S' \ S) fun d => upTo (F := F) c i d
      rw [bigSep_union Finset.disjoint_sdiff]
      exact BI.Entails.refl _
    ihave HT := hall $$ [Hpay]
    · isplitr; · iexact HS
      iexact Hpay
    icases HT with #HT
    ihave Hst := Hst $$ [Hat]
    · rw [show (stand c (Wait.credit i j).kind (j.val + 1) : sProp 𝕄) = _ from hst1]
      iexists S'
      isplitr; · ipureintro; exact hcard
      isplitl [Hat]; · iexact Hat
      iexact HT
    imod htake $$ [Hwr Hfar] with ⟨Hwr, Hfar⟩
    · isplitr; · iexact HK
      isplitr
      · iapply (credit_of j S' hcard); iexact HT
      isplitl [Hwr] <;> iassumption
    iapply hk
    isplitr; · iexact HK
    isplitl [Ho]; · iexists _; iexact Ho
    isplitl [Hd]; · iexact Hd
    isplitl [Hsd]; · iexact Hsd
    isplitl [Hcr]; · iexact Hcr
    isplitl [Hst]; · iexact Hst
    isplitl [Hrd]; · iexact Hrd
    isplitl [Hwr]; · iexact Hwr
    isplitl [Hown]; · iexact Hown
    isplitl [Hfar]; · iexact Hfar
    isplitl [HX]; · iexact HX
    isplitl [HW]; · iexact HW
    iexact HO

end Cert.ReduceScatter
-- ==== Proof.Sends.lean ====
/-
  Remote copies: a copy takes the slot it leaves from and the neighbour's slot it lands in, and gives
  the credit of the wait for its having left.
-/
module

public import proofs.«01_k».proof.Proof.Steps
public import Idealize.ShloMosaic.Lib.Pipeline.Value

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → XBuf F) (W : Dev nD → WBuf F) (K : GSem nD τ sig → ℕ) (N : Key → ℕ)

/-! ## Contents through reshaped views -/

omit [FloatOps F] in
theorem tensor_of_cast {A B s' : Shape} (hAB : A = B) {a : A.Idx → Elt F .f32} {b : B.Idx → Elt F .f32} (ha : A.ShapeCasts s') (hb : B.ShapeCasts s')
    (h : shapeCast s' a ha = shapeCast s' b hb) : (⟨A, a⟩ : Tensor F) = ⟨B, b⟩ := by
  subst hAB
  have h' := congrArg (fun v => shapeCast A v ha.symm) h
  rw [shapeCast_shapeCast, shapeCast_shapeCast] at h'
  rw [h']

theorem copy_shapes (e : Copy) : e.src.place.1 = e.dst.place.1 := by cases e <;> rfl
theorem copy_peer (e : Copy) : e.dst.dir = e.dir := by cases e <;> rfl

theorem rcv_dma (e : Copy) : ∃ s, loc e.rcvKind = .dma s := by cases e <;> exact ⟨_, rfl⟩

/-- The target round of a copy is open. -/
theorem target_open {c : Dev nD} {h : List Op} (e : Copy)
    (hw : ∀ i t, e = .ring i t → e.rd = 0 ∨ did h (.wait (.credit i (third t))) = true) :
    iprop(known X W K N ∗ writer c h) ⊢ reached ER (cell (peer e.dir c) e.rcvKind) e.rd := by
  have h0 : e.rd = 0 → iprop(known X W K N ∗ writer c h) ⊢ reached ER (cell (peer e.dir c) e.rcvKind) e.rd := fun hr => by
    rw [hr]
    iintro ⟨HK, -⟩
    iapply (known_reached X W K N (peer e.dir c) e.rcvKind); iexact HK
  by_cases hr : e.rd = 0
  · exact h0 hr
  cases e with
  | ring i t =>
    have hd : did h (.wait (.credit i (third t))) = true := (hw i t rfl).resolve_left hr
    have h1 : (Copy.ring i t).rd = 1 := (rd_le (.copy (.ring i t))).resolve_left hr
    rw [h1]
    have hk : (writer c h : sProp 𝕄) ⊢ (if did h (.wait (.credit i (third t))) then reached ER (cell (peer (streamDir i) c) (.rcv i (third t))) 1
        else writeTok ES ((peer (streamDir i) c, i, third t) : Key) 1) :=
      bigSep_elim (Φ := fun x : Fin 4 × Fin 3 => if did h (.wait (.credit x.1 x.2)) then reached ER (cell (peer (streamDir x.1) c) (.rcv x.1 x.2)) 1
        else writeTok ES ((peer (streamDir x.1) c, x) : Key) 1) (Finset.mem_univ (i, third t))
    rw [if_pos hd] at hk
    iintro ⟨-, Hw⟩
    iapply hk; iexact Hw
  | _ => exact absurd rfl hr

/-! ## The copy -/

theorem st_send {c d' : Dev nD} {s' : Shape} {vs vd : View sig .tc .vmem s' .f32} {ms : vs.Mosaic} {md : vd.Mosaic} {sS sR : SemLoc sig}
    {hsc : vd.ref.isScScratch = false} {hsrc : vs.WordExact} {hdst : vd.WordExact}
    {hsem : DmaTarget.Typed .vmem sR (.remote (d' : Thread nD τ) (⟨vd, md⟩ : Memref sig .tc .vmem s' .f32) sS hsc)}
    {h : List Op} {α : Type} {Q : α → sProp 𝕄} {k : PUnit → Prog (TpuEff nD τ sig (Elt F) Λ₀ .tc) α} (e : Copy)
    (hvs : ∃ q, vs = e.src.place.2.reshape s' q) (hvd : ∃ q, vd = e.dst.place.2.reshape s' q)
    (hS : sS = loc e.sndKind) (hR : sR = loc e.rcvKind) (hdev : d' = peer e.dir c) (hN : vd.amount sR = e.rcvKind.amt)
    (hd : did h (.pay (.copy e)) = false) (hns : did h (.wait (.snd e)) = false) (hown : (hands h).own e.src = .mine e)
    (hfar : (hands h).far e.dst = .any) (hwt : waits e.sndKind h = e.rd)
    (hcrd : ∀ i t, e = .ring i t → e.rd = 0 ∨ did h (.wait (.credit i (third t))) = true)
    (hk : St X W K N c (.pay (.copy e) :: h) ⊢ wp frame (wpE (defs₀ (F := F)) 𝒱₀ (c : Thread nD τ) none) Set.univ (k ⟨⟩) Q) :
    St X W K N c h ⊢ wp frame (wpE (defs₀ (F := F)) 𝒱₀ (c : Thread nD τ) none) Set.univ
      (.op (.enqueueDma (⟨vs, ms⟩ : Memref sig .tc .vmem s' .f32) (.remote (d' : Thread nD τ) (⟨vd, md⟩ : Memref sig .tc .vmem s' .f32) sS hsc) sR hsrc hdst hsem) k) Q := by
  subst hS hR hdev
  obtain ⟨qs, rfl⟩ := hvs
  obtain ⟨qd, rfl⟩ := hvd
  have hsk : ∀ i, e.sndKind ≠ .cr i := by cases e <;> simp [Copy.sndKind]
  -- What the copy leaves in the landing slot.
  have hval (fs : Buf (Elt F) (e.src.place.2.loc (c : Thread nD τ))) (fd : Buf (Elt F) (e.dst.place.2.loc (peer e.dir c : Thread nD τ))) :
      (⟨_, e.dst.place.2.read (Elt F) ((e.dst.place.2.reshape s' qd).write (Elt F) fd ((e.src.place.2.reshape s' qs).read (Elt F) fs) Finset.univ)⟩ : Tensor F)
        = ⟨_, e.src.place.2.read (Elt F) fs⟩ := by
    refine tensor_of_cast (copy_shapes e).symm qd qs ?_
    exact View.read_write_univ (v := e.dst.place.2.reshape s' qd) fd ((e.src.place.2.reshape s' qs).read (Elt F) fs)
  have hopen := target_open X W K N (c := c) (h := h) e hcrd
  have hf' : farS X W c (hands h).far ⊢ iprop(slotIn X W (peer e.dir c) e.dst .any ∗ farS X W c (hands (.pay (.copy e) :: h)).far) := by
    have := farS_take X W (c := c) (hands h).far e.dst
    rwa [hfar, copy_peer] at this
  have ho' : ownS X W c (hands h).own ⊢ iprop(slotIn X W c e.src (.mine e) ∗ ownS X W c (hands (.pay (.copy e) :: h)).own) := by
    have := ownS_take X W (c := c) (hands h).own e.src
    rwa [hown] at this
  have hre : (stands c h : sProp 𝕄) ⊢ reached ER (cell c e.sndKind) e.rd := by
    have := stands_reached (F := F) (c := c) (h := h) e.sndKind hsk
    rwa [hwt] at this
  unfold St at hk ⊢
  rw [owed_pay (.copy e) hd, stands_same (by simp), reader_same (by simp), writer_same (by simp), outS_same X W (by simp)] at *
  iintro ⟨#HK, ⟨%V, Ho⟩, Hd, Hsd, Hcr, Hst, Hrd, Hwr, Hown, Hfar, HX, HW, HO⟩
  ihave Hd := (duty_take (.copy e) hd) $$ Hd
  icases Hd with ⟨Htok, Hd⟩
  ihave Hsd := (sndDuty_take e hd) $$ Hsd
  icases Hsd with ⟨Htok', Hsd⟩
  ihave Hown := ho' $$ Hown
  icases Hown with ⟨Hz, Hown⟩
  ihave Hfar := hf' $$ Hfar
  icases Hfar with ⟨Hz', Hfar⟩
  ihave Hst := (keep hre) $$ Hst
  icases Hst with ⟨Hre, Hst⟩
  icombine HK Hwr as Hw
  ihave Hw := (keep hopen) $$ Hw
  icases Hw with ⟨Hre', -, Hwr⟩
  ihave Hinv := (known_cell X W K N c e.sndKind) $$ HK
  ihave Hinv' := (known_cell X W K N (peer e.dir c) e.rcvKind) $$ HK
  unfold slotIn pts
  icases Hz with ⟨%fs, %hfs, Hz⟩
  icases Hz' with ⟨%fd, -, Hz'⟩
  iapply (Rounds.wp_send_pointsTo 𝒱₀ ER (Rd X W) (c : Thread nD τ) none (c' := (peer e.dir c : Thread nD τ))
      (src := (⟨e.src.place.2.reshape s' qs, ms⟩ : Memref sig .tc .vmem s' .f32)) (dst := (⟨e.dst.place.2.reshape s' qd, md⟩ : Memref sig .tc .vmem s' .f32))
      (sS := loc e.sndKind) (sem := loc e.rcvKind) (q := fullShare) (fs := fs) (fd := fd)
      (r₁ := e.rd) (r₂ := e.rd) (d₁ := 0) (d₂ := (Pay.copy e).duty) (κ₁ := K (cell c e.sndKind)) (κ₂ := K (cell (peer e.dir c) e.rcvKind))
      (by rw [duties_at]; exact snd_duty e) (by rw [duties_at]; exact pay_duty (.copy e)) e.rd e.rd e.rcvKind.amt hN
      (by rw [amount_at, amt_snd_rcv]) (by rw [amount_at]) (owed c (.pay (.copy e) :: h))
      (O₀ := owed c (.pay (.copy e) :: h) + tallyAt (cell (peer e.dir c) e.rcvKind) e.rd e.rcvKind.amt) rfl (W := V)
      (by
        rw [payload_at, handed_snd]
        unfold slotIn pts
        iintro H
        iexists fs
        isplitr; · (ipureintro; trivial)
        rw [View.set_reshape]
        iexact H)
      (by
        rw [payload_at, handed_rcv]
        unfold slotIn pts
        iintro H
        iexists _
        isplitr; swap
        · rw [View.set_reshape]
          iexact H
        ipureintro
        rw [peer_opp]
        exact (hval fs fd).trans hfs)) $$ [Hinv Hinv' Hz Hz' Ho Htok Htok' Hre Hre']
  · isplitl [Hinv]; · iexact Hinv
    isplitl [Hinv']; · iexact Hinv'
    rw [View.set_reshape, View.set_reshape]
    isplitl [Hz]; · iexact Hz
    isplitl [Hz']; · iexact Hz'
    isplitl [Ho]; · iexact Ho
    isplitl [Htok']; · iexact Htok'
    isplitl [Hre]; · iexact Hre
    isplitl [Htok]; · iexact Htok
    iexact Hre'
  iintro ⟨Hc, Ho⟩
  have hgive : iprop(cred (tallyAt (cell c e.sndKind) e.rd e.rcvKind.amt) ∗ credIn c h) ⊢ (credIn c (.pay (.copy e) :: h) : sProp 𝕄) := by
    rw [← amt_snd_rcv]; exact credIn_give e hd hns
  icombine Hc Hcr as Hcr
  ihave Hcr := hgive $$ Hcr
  iapply hk
  isplitr; · iexact HK
  isplitl [Ho]; · iexists V; iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  iexact HO

end Cert.ReduceScatter
-- ==== Proof.Access.lean ====
/-
  Loads and stores: of the own slots, of the input blocks, of the result block.
-/
module

public import proofs.«01_k».proof.Proof.Steps

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → XBuf F) (W : Dev nD → WBuf F) (K : GSem nD τ sig → ℕ) (N : Key → ℕ)

section Slots
variable {c : Dev nD} {h : List Op} {s : Shape} {m : Memref sig .tc .vmem s .f32} {r : Rect s}

/-- A load of a slot gives contents its description is known of. -/
theorem st_load {α : Type} {Q : α → sProp 𝕄} {hl : m.view.LoadsAt r} {k : (r.shape.Idx → Elt F .f32) → Prog (TpuEff nD τ sig (Elt F) Λ₀ .tc) α}
    (z : Slot) (hp : (⟨r.shape, m.access r⟩ : Place) = z.place) (P : Tensor F → Prop) (hz : slotIn X W c z ((hands h).own z) = pts z.place c P)
    (hk : ∀ v, P ⟨r.shape, v⟩ → St X W K N c h ⊢ wp frame (wpE (defs₀ (F := F)) 𝒱₀ (c : Thread nD τ) none) Set.univ (k v) Q) :
    St X W K N c h ⊢ wp frame (wpE (defs₀ (F := F)) 𝒱₀ (c : Thread nD τ) none) Set.univ (.op (.load m r.toLoadRect hl) k) Q := by
  have hsame : set (hands h).own z ((hands h).own z) = (hands h).own := by
    funext z'; unfold set; split
    · next e => rw [e]
    · rfl
  have ho := ownS_change X W (c := c) (hands h).own z ((hands h).own z)
  rw [hsame, hz, ← hp] at ho
  unfold St at hk ⊢
  iintro ⟨#HK, Ho, Hd, Hsd, Hcr, Hst, Hrd, Hwr, Hown, Hfar, HX, HW, HO⟩
  ihave Hown := ho $$ Hown
  icases Hown with ⟨Hz, Hown⟩
  iapply (wp_load_pts (Q := Q) (k := k) (hl := hl)) $$ Hz
  iintro %v %hv Hz
  ihave Hown := Hown $$ Hz
  iapply (hk v hv)
  isplitr; · iexact HK
  isplitl [Ho]; · iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  iexact HO

theorem st_load_part {r' : Rect s} {α : Type} {Q : α → sProp 𝕄} {hl : m.view.LoadsAt r'} {k : (r'.shape.Idx → Elt F .f32) → Prog (TpuEff nD τ sig (Elt F) Λ₀ .tc) α}
    (z : Slot) (hp : (⟨r.shape, m.access r⟩ : Place) = z.place) (P : Tensor F → Prop) (hz : slotIn X W c z ((hands h).own z) = pts z.place c P)
    (g : r'.shape.Idx → r.shape.Idx) (hg : ∀ j, r'.emb j = r.emb (g j))
    (hk : ∀ v, P ⟨r.shape, v⟩ → St X W K N c h ⊢ wp frame (wpE (defs₀ (F := F)) 𝒱₀ (c : Thread nD τ) none) Set.univ (k fun j => v (g j)) Q) :
    St X W K N c h ⊢ wp frame (wpE (defs₀ (F := F)) 𝒱₀ (c : Thread nD τ) none) Set.univ (.op (.load m r'.toLoadRect hl) k) Q := by
  have hsame : set (hands h).own z ((hands h).own z) = (hands h).own := by
    funext z'; unfold set; split
    · next e => rw [e]
    · rfl
  have ho := ownS_change X W (c := c) (hands h).own z ((hands h).own z)
  rw [hsame, hz, ← hp] at ho
  unfold St at hk ⊢
  iintro ⟨#HK, Ho, Hd, Hsd, Hcr, Hst, Hrd, Hwr, Hown, Hfar, HX, HW, HO⟩
  ihave Hown := ho $$ Hown
  icases Hown with ⟨Hz, Hown⟩
  iapply (wp_load_part (Q := Q) (k := k) (hl := hl) g hg) $$ Hz
  iintro %v %hv Hz
  ihave Hown := Hown $$ Hz
  iapply (hk v hv)
  isplitr; · iexact HK
  isplitl [Ho]; · iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  iexact HO

/-- A load of a slot whose contents do not matter. -/
theorem st_load_any {α : Type} {Q : α → sProp 𝕄} {hl : m.view.LoadsAt r} {k : (r.shape.Idx → Elt F .f32) → Prog (TpuEff nD τ sig (Elt F) Λ₀ .tc) α}
    (z : Slot) (hp : (⟨r.shape, m.access r⟩ : Place) = z.place) (hz : (hands h).own z ≠ .none)
    (hk : ∀ v, St X W K N c h ⊢ wp frame (wpE (defs₀ (F := F)) 𝒱₀ (c : Thread nD τ) none) Set.univ (k v) Q) :
    St X W K N c h ⊢ wp frame (wpE (defs₀ (F := F)) 𝒱₀ (c : Thread nD τ) none) Set.univ (.op (.load m r.toLoadRect hl) k) Q := by
  cases hv : (hands h).own z with
  | none => exact absurd hv hz
  | any => exact st_load X W K N z hp (fun _ => True) (by rw [hv]; rfl) fun v _ => hk v
  | mine e => exact st_load X W K N z hp (fun v => v = tens X W e c) (by rw [hv]; rfl) fun v _ => hk v
  | got e => exact st_load X W K N z hp (fun v => v = tens X W e (peer e.dir.opp c)) (by rw [hv]; rfl) fun v _ => hk v

/-- A load of a slot in which copy `e` has landed. -/
theorem st_load_got {α : Type} {Q : α → sProp 𝕄} {hl : m.view.LoadsAt r} {k : (r.shape.Idx → Elt F .f32) → Prog (TpuEff nD τ sig (Elt F) Λ₀ .tc) α}
    (e : Copy) (hp : (⟨r.shape, m.access r⟩ : Place) = e.dst.place) (hz : (hands h).own e.dst = .got e)
    (w : r.shape.Idx → Elt F .f32) (hw : (⟨r.shape, w⟩ : Tensor F) = tens X W e (sender e c))
    (hk : St X W K N c h ⊢ wp frame (wpE (defs₀ (F := F)) 𝒱₀ (c : Thread nD τ) none) Set.univ (k w) Q) :
    St X W K N c h ⊢ wp frame (wpE (defs₀ (F := F)) 𝒱₀ (c : Thread nD τ) none) Set.univ (.op (.load m r.toLoadRect hl) k) Q :=
  st_load X W K N e.dst hp (fun v => v = tens X W e (peer e.dir.opp c)) (by rw [hz]; rfl) fun v hv => by
    rw [tensor_inj (hv.trans hw.symm)]; exact hk

theorem st_load_half {r' : Rect s} {α : Type} {Q : α → sProp 𝕄} {hl : m.view.LoadsAt r'} {k : (r'.shape.Idx → Elt F .f32) → Prog (TpuEff nD τ sig (Elt F) Λ₀ .tc) α}
    (e : Copy) (hp : (⟨r.shape, m.access r⟩ : Place) = e.dst.place) (hz : (hands h).own e.dst = .got e)
    (g : r'.shape.Idx → r.shape.Idx) (hg : ∀ j, r'.emb j = r.emb (g j))
    (w : r.shape.Idx → Elt F .f32) (hw : (⟨r.shape, w⟩ : Tensor F) = tens X W e (sender e c))
    (hk : St X W K N c h ⊢ wp frame (wpE (defs₀ (F := F)) 𝒱₀ (c : Thread nD τ) none) Set.univ (k fun j => w (g j)) Q) :
    St X W K N c h ⊢ wp frame (wpE (defs₀ (F := F)) 𝒱₀ (c : Thread nD τ) none) Set.univ (.op (.load m r'.toLoadRect hl) k) Q :=
  st_load_part X W K N e.dst hp (fun v => v = tens X W e (peer e.dir.opp c)) (by rw [hz]; rfl) g hg fun v hv => by
    rw [tensor_inj (hv.trans hw.symm)]; exact hk

/-- The store of a copy's payload into the slot it leaves from. -/
theorem st_put {α : Type} {Q : α → sProp 𝕄} {w : r.shape.Idx → Elt F .f32} {hx : (m.access r).Stores Finset.univ}
    {hm : Finset.univ = Finset.univ ∨ ∀ a, r.stride a = 1} {k : PUnit → Prog (TpuEff nD τ sig (Elt F) Λ₀ .tc) α}
    (e : Copy) (hp : (⟨r.shape, m.access r⟩ : Place) = e.src.place) (hz : (hands h).own e.src ≠ .none)
    (hw : (⟨r.shape, w⟩ : Tensor F) = tens X W e c)
    (hk : St X W K N c (.put e :: h) ⊢ wp frame (wpE (defs₀ (F := F)) 𝒱₀ (c : Thread nD τ) none) Set.univ (k ⟨⟩) Q) :
    St X W K N c h ⊢ wp frame (wpE (defs₀ (F := F)) 𝒱₀ (c : Thread nD τ) none) Set.univ (.op (.store m r w Finset.univ hx hm) k) Q := by
  have ho : ownS X W c (hands h).own ⊢ iprop(slotIn X W c e.src .any
      ∗ (slotIn X W c e.src (.mine e) -∗ ownS X W c (hands (.put e :: h)).own)) :=
    (ownS_change X W (c := c) (hands h).own e.src (.mine e)).trans (sep_mono_left (slotIn_any X W c e.src _ hz))
  have h1 : slotIn X W c e.src .any = pts ⟨r.shape, m.access r⟩ c fun _ => True := by rw [hp]; rfl
  have h2 : slotIn X W c e.src (.mine e) = pts ⟨r.shape, m.access r⟩ c fun v => v = ⟨r.shape, w⟩ := by rw [hp, hw]; rfl
  rw [h1, h2] at ho
  unfold St at hk ⊢
  rw [owed_same (by simp), duty_same (by simp), sndDuty_same (by simp), credIn_same (by simp) (by simp), stands_same (by simp),
    reader_same (by simp), writer_same (by simp), outS_same X W (by simp)] at hk
  iintro ⟨#HK, Ho, Hd, Hsd, Hcr, Hst, Hrd, Hwr, Hown, Hfar, HX, HW, HO⟩
  ihave Hown := ho $$ Hown
  icases Hown with ⟨Hz, Hown⟩
  iapply (wp_store_pts (Q := Q) (k := k) (hx := hx) (hm := hm)) $$ Hz
  iintro Hz
  ihave Hown := Hown $$ Hz
  iapply hk
  isplitr; · iexact HK
  isplitl [Ho]; · iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  iexact HO

end Slots

/-! ## The input blocks -/

section Inputs
variable {c : Dev nD} {h : List Op}

theorem st_load_x {r : Rect S4096x512} {α : Type} {Q : α → sProp 𝕄} {hl : xM.view.LoadsAt r} {k : (r.shape.Idx → Elt F .f32) → Prog (TpuEff nD τ sig (Elt F) Λ₀ .tc) α}
    (hk : St X W K N c h ⊢ wp frame (wpE (defs₀ (F := F)) 𝒱₀ (c : Thread nD τ) none) Set.univ (k ((xM.access r).read (Elt F) (X c))) Q) :
    St X W K N c h ⊢ wp frame (wpE (defs₀ (F := F)) 𝒱₀ (c : Thread nD τ) none) Set.univ (.op (.load xM r.toLoadRect hl) k) Q := by
  unfold St at hk ⊢
  iintro ⟨#HK, Ho, Hd, Hsd, Hcr, Hst, Hrd, Hwr, Hown, Hfar, HX, HW, HO⟩
  unfold inX
  iapply (wp_load_rect 𝒱₀ (c : Thread nD τ) none Set.univ (m := xM) (r := r) (hl := hl) (k := k) (f := X c) (q := fullShare) (S := Finset.univ) (Finset.subset_univ _)) $$ HX
  iintro HX
  iapply hk
  isplitr; · iexact HK
  isplitl [Ho]; · iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · (unfold inX; iexact HX)
  isplitl [HW]; · iexact HW
  iexact HO

theorem st_load_w {r : Rect S512x2048} {α : Type} {Q : α → sProp 𝕄} {hl : wM.view.LoadsAt r} {k : (r.shape.Idx → Elt F .f32) → Prog (TpuEff nD τ sig (Elt F) Λ₀ .tc) α}
    (hk : St X W K N c h ⊢ wp frame (wpE (defs₀ (F := F)) 𝒱₀ (c : Thread nD τ) none) Set.univ (k ((wM.access r).read (Elt F) (W c))) Q) :
    St X W K N c h ⊢ wp frame (wpE (defs₀ (F := F)) 𝒱₀ (c : Thread nD τ) none) Set.univ (.op (.load wM r.toLoadRect hl) k) Q := by
  unfold St at hk ⊢
  iintro ⟨#HK, Ho, Hd, Hsd, Hcr, Hst, Hrd, Hwr, Hown, Hfar, HX, HW, HO⟩
  unfold inW
  iapply (wp_load_rect 𝒱₀ (c : Thread nD τ) none Set.univ (m := wM) (r := r) (hl := hl) (k := k) (f := W c) (q := fullShare) (S := Finset.univ) (Finset.subset_univ _)) $$ HW
  iintro HW
  iapply hk
  isplitr; · iexact HK
  isplitl [Ho]; · iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · (unfold inW; iexact HW)
  iexact HO

end Inputs

/-! ## The result block -/

/-- The columns of a group. -/
def colOf : Fin 6 → ℕ | 0 => 0 | 1 => 384 | 2 => 768 | 3 => 1152 | 4 => 1536 | 5 => 1792
def colTo : Fin 6 → ℕ | 0 => 384 | 1 => 768 | 2 => 1152 | 3 => 1536 | 4 => 1792 | 5 => 2048

theorem outR_off (q : Fin 6) : (outR q).off 1 = colOf q := by fin_cases q <;> rfl
theorem outR_stride (q : Fin 6) : (outR q).stride 1 = 1 := by fin_cases q <;> rfl
theorem outR_size (q : Fin 6) : colOf q + (outR q).size 1 = colTo q := by fin_cases q <;> rfl

theorem outR_col (q : Fin 6) (j : (outR q).shape.Idx) : colOf q ≤ ((outR q).emb j 1).val ∧ ((outR q).emb j 1).val < colTo q := by
  have hlt : (j 1).val < (outR q).size 1 := (j 1).isLt
  rw [Rect.emb_apply, outR_off, outR_stride, ← outR_size]
  omega

theorem col_apart {q q' : Fin 6} (hq : q' ≠ q) : colTo q ≤ colOf q' ∨ colTo q' ≤ colOf q := by
  revert q q'; decide

theorem outRead_other {q q' : Fin 6} (hq : q' ≠ q) (f : OBuf F) (w : (outR q).shape.Idx → Elt F .f32) :
    outRead q' ((oM.access (outR q)).write (Elt F) f w Finset.univ) = outRead q' f := by
  refine congrArg (Sigma.mk (outR q').shape) (View.read_slice_write_slice_of_disjoint (v := oM.view) _ _ _ _ _ ?_)
  rw [Finset.disjoint_left]
  intro x hx hx'
  obtain ⟨j, -, rfl⟩ := Finset.mem_map.mp hx
  obtain ⟨j', -, he⟩ := Finset.mem_map.mp hx'
  have he : (outR q).emb j' = (outR q').emb j := oM.view.emb.injective he
  have h1 := outR_col q j'
  have h2 := outR_col q' j
  rw [he] at h1
  have h3 := col_apart hq
  omega

section Out
variable {c : Dev nD} {h : List Op}

theorem st_load_out {r : Rect S512x2048} {α : Type} {Q : α → sProp 𝕄} {hl : oM.view.LoadsAt r} {k : (r.shape.Idx → Elt F .f32) → Prog (TpuEff nD τ sig (Elt F) Λ₀ .tc) α}
    (hk : ∀ v, St X W K N c h ⊢ wp frame (wpE (defs₀ (F := F)) 𝒱₀ (c : Thread nD τ) none) Set.univ (k v) Q) :
    St X W K N c h ⊢ wp frame (wpE (defs₀ (F := F)) 𝒱₀ (c : Thread nD τ) none) Set.univ (.op (.load oM r.toLoadRect hl) k) Q := by
  unfold St at hk ⊢
  iintro ⟨#HK, Ho, Hd, Hsd, Hcr, Hst, Hrd, Hwr, Hown, Hfar, HX, HW, HO⟩
  unfold outS
  icases HO with ⟨%f, %hf, HO⟩
  iapply (wp_load_rect 𝒱₀ (c : Thread nD τ) none Set.univ (m := oM) (r := r) (hl := hl) (k := k) (f := f) (q := fullShare) (S := Finset.univ) (Finset.subset_univ _)) $$ HO
  iintro HO
  iapply (hk _)
  isplitr; · iexact HK
  isplitl [Ho]; · iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  unfold outS
  iexists f
  isplitr; · (ipureintro; exact hf)
  iexact HO

theorem st_out {α : Type} {Q : α → sProp 𝕄} (q : Fin 6) {r : Rect S512x2048} (hr : r = outR q) {w : r.shape.Idx → Elt F .f32} {hx : (oM.access r).Stores Finset.univ}
    {hm : Finset.univ = Finset.univ ∨ ∀ a, r.stride a = 1} {k : PUnit → Prog (TpuEff nD τ sig (Elt F) Λ₀ .tc) α}
    (hw : (⟨r.shape, w⟩ : Tensor F) = outTens X W q c)
    (hk : St X W K N c (.out q :: h) ⊢ wp frame (wpE (defs₀ (F := F)) 𝒱₀ (c : Thread nD τ) none) Set.univ (k ⟨⟩) Q) :
    St X W K N c h ⊢ wp frame (wpE (defs₀ (F := F)) 𝒱₀ (c : Thread nD τ) none) Set.univ (.op (.store oM r w Finset.univ hx hm) k) Q := by
  subst hr
  unfold St at hk ⊢
  rw [owed_same (by simp), duty_same (by simp), sndDuty_same (by simp), credIn_same (by simp) (by simp), stands_same (by simp),
    reader_same (by simp), writer_same (by simp)] at hk
  iintro ⟨#HK, Ho, Hd, Hsd, Hcr, Hst, Hrd, Hwr, Hown, Hfar, HX, HW, HO⟩
  unfold outS
  icases HO with ⟨%f, %hf, HO⟩
  iapply (wp_store 𝒱₀ (c : Thread nD τ) none Set.univ (m := oM) (r := outR q) (w := w) (Mk := Finset.univ) (hx := hx) (hm := hm) (k := k) (f := f) (S := Finset.univ) (Finset.subset_univ _)) $$ HO
  iintro HO
  iapply hk
  isplitr; · iexact HK
  isplitl [Ho]; · iexact Ho
  isplitl [Hd]; · iexact Hd
  isplitl [Hsd]; · iexact Hsd
  isplitl [Hcr]; · iexact Hcr
  isplitl [Hst]; · iexact Hst
  isplitl [Hrd]; · iexact Hrd
  isplitl [Hwr]; · iexact Hwr
  isplitl [Hown]; · iexact Hown
  isplitl [Hfar]; · iexact Hfar
  isplitl [HX]; · iexact HX
  isplitl [HW]; · iexact HW
  unfold outS
  iexists _
  isplitr; swap
  · iexact HO
  ipureintro
  intro q' hq'
  by_cases e : q' = q
  · subst e
    exact (congrArg (Sigma.mk (outR q').shape) (View.read_write_univ _ _)).trans hw
  · rw [did_ne (by simpa using e)] at hq'
    exact (outRead_other e f w).trans (hf q' hq')

end Out

end Cert.ReduceScatter
-- ==== Proof.Ops.lean ====
/-
  The operations of the program, by their number in the script: each of these steps takes the state
  before operation `n` to the state after it. What an operation needs of the state was checked for
  the whole script at once, so here only the places, semaphores, neighbours and values are asked.
-/
module

public import proofs.«01_k».proof.Proof.Waits
public import proofs.«01_k».proof.Proof.Sends
public import proofs.«01_k».proof.Proof.Access

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

/-- Before operation `n` of the script the program `p` is safe on device `c`, with `Q` after it. -/
def Safe (X : Dev nD → XBuf F) (W : Dev nD → WBuf F) (K : GSem nD τ sig → ℕ) (N : Key → ℕ) (c : Dev nD) (n : ℕ) {α : Type}
    (p : Prog (TpuEff nD τ sig (Elt F) Λ₀ .tc) α) (Q : α → sProp 𝕄) : Prop :=
  St X W K N c (hist n) ⊢ wp frame (wpE (defs₀ (F := F)) 𝒱₀ (c : Thread nD τ) none) Set.univ p Q

theorem after {n : ℕ} {a : Op} (hn : script[n]? = some a) {α : Type} {p : Prog (TpuEff nD τ sig (Elt F) Λ₀ .tc) α} {Q : α → sProp 𝕄}
    (hk : Safe X W K N c (n + 1) p Q) :
    St X W K N c (a :: hist n) ⊢ wp frame (wpE (defs₀ (F := F)) 𝒱₀ (c : Thread nD τ) none) Set.univ p Q := by
  rw [← hist_succ hn]; exact hk

/-- A neighbour computed by the program. -/
theorem dev_of (f : Dev nD → ℕ) {h : ∀ c, f c < nD} {d : Dir} (e : ∀ c, f c = (peer d c).val) (c : Dev nD) :
    (⟨f c, h c⟩ : Dev nD) = peer d c := Fin.ext (e c)

theorem mem_slots (z : Slot) : z ∈ slots := by revert z; decide +kernel

theorem snd_card (e : Copy) : ((Wait.snd e).kind.duties (Wait.snd e).rd).card * (Wait.snd e).kind.amt = (Wait.snd e).amt := by
  rw [show (Wait.snd e).kind.duties (Wait.snd e).rd = {0} from snd_single e]; exact Nat.one_mul _
theorem rcv_card (e : Copy) : ((Wait.rcv e).kind.duties (Wait.rcv e).rd).card * (Wait.rcv e).kind.amt = (Wait.rcv e).amt := by
  rw [show (Wait.rcv e).kind.duties (Wait.rcv e).rd = {0} from rcv_single e]; exact Nat.one_mul _

theorem safe_ret {n : ℕ} {α : Type} {a : α} {Q : α → sProp 𝕄} (h : St X W K N c (hist n) ⊢ Q a) : Safe X W K N c n (.ret a) Q :=
  h.trans fupd_intro

theorem safe_bind {n : ℕ} {α β : Type} {p : Prog (TpuEff nD τ sig (Elt F) Λ₀ .tc) α} {k : α → Prog (TpuEff nD τ sig (Elt F) Λ₀ .tc) β}
    {Q : β → sProp 𝕄} (h : Safe X W K N c n p fun a => wp frame (wpE (defs₀ (F := F)) 𝒱₀ (c : Thread nD τ) none) Set.univ (k a) Q) :
    Safe X W K N c n (p >>= k) Q := by
  unfold Safe; rw [wp_bind]; exact h

/-! ## Signals -/

section Signals
variable {d' : Dev nD} {sem : Sem sig} {z : Int} {α : Type} {k : PUnit → Prog (TpuEff nD τ sig (Elt F) Λ₀ .tc) α}

theorem op_bar (n : ℕ) {Q : α → sProp 𝕄} {d : Dir} (hn : script[n]? = some (.pay (.bar d))) (hs : (.reg sem : SemLoc sig) = loc .bar)
    (hdev : d' = peer d c) (hz : z = ((1 : ℕ) : Int)) (hk : Safe X W K N c (n + 1) (k ⟨⟩) Q) :
    Safe X W K N c n (.op (.semSignal (d' : Thread nD τ) sem z) k) Q := by
  have h := needs_of hn
  simp only [needs, Bool.and_eq_true, Bool.not_eq_true', List.all_eq_true, Bool.or_eq_true, decide_eq_true_eq] at h
  exact st_signal X W K N (.bar d) (by simp) h.1 hs hdev hz
    (give_bar X W K N d fun z hz => (h.2 z (mem_slots z)).resolve_left (by simp [hz])) rfl (after hn hk)

theorem op_fin (n : ℕ) {Q : α → sProp 𝕄} {d : Dir} (hn : script[n]? = some (.pay (.fin d))) (hs : (.reg sem : SemLoc sig) = loc .fin)
    (hdev : d' = peer d c) (hz : z = ((1 : ℕ) : Int)) (hk : Safe X W K N c (n + 1) (k ⟨⟩) Q) :
    Safe X W K N c n (.op (.semSignal (d' : Thread nD τ) sem z) k) Q := by
  have h := needs_of hn
  simp only [needs, Bool.not_eq_true'] at h
  exact st_signal X W K N (.fin d) (by simp) h hs hdev hz (give_fin X W K N d) rfl (after hn hk)

theorem op_c2 (n : ℕ) {Q : α → sProp 𝕄} {i : Fin 2} (hn : script[n]? = some (.pay (.c2 i))) (hs : (.reg sem : SemLoc sig) = loc (.c2 i))
    (hdev : d' = peer (twoDir i).opp c) (hz : z = ((1 : ℕ) : Int)) (hk : Safe X W K N c (n + 1) (k ⟨⟩) Q) :
    Safe X W K N c n (.op (.semSignal (d' : Thread nD τ) sem z) k) Q := by
  have h := needs_of hn
  simp only [needs, Bool.and_eq_true, Bool.not_eq_true', decide_eq_true_eq] at h
  exact st_signal X W K N (.c2 i) (by simp) h.1 hs hdev hz (give_c2 X W K N i h.2) rfl (after hn hk)

theorem op_cr (n : ℕ) {Q : α → sProp 𝕄} {i : Fin 4} {j : Fin 3} (hn : script[n]? = some (.pay (.cr i j))) (hs : (.reg sem : SemLoc sig) = loc (.cr i))
    (hdev : d' = peer (streamDir i).opp c) (hz : z = ((1 : ℕ) : Int)) (hk : Safe X W K N c (n + 1) (k ⟨⟩) Q) :
    Safe X W K N c n (.op (.semSignal (d' : Thread nD τ) sem z) k) Q := by
  have h := needs_of hn
  simp only [needs, Bool.and_eq_true, Bool.not_eq_true', List.all_eq_true, Bool.or_eq_true, beq_iff_eq, bne_iff_ne, ne_eq,
    List.mem_finRange, true_imp_iff] at h
  exact st_signal X W K N (.cr i j) (by simp) h.1.1.1 hs hdev hz
    (give_cr X W K N i j h.1.1.2 (fun j' => (h.1.2 j').symm) fun j' hj => (h.2 j').resolve_left (by simp [hj])) rfl (after hn hk)

end Signals

/-! ## Waits -/

section Waits
variable {sem : Sem sig} {z : Int} {α : Type} {k : PUnit → Prog (TpuEff nD τ sig (Elt F) Λ₀ .tc) α}

theorem op_wbar (n : ℕ) {Q : α → sProp 𝕄} (hn : script[n]? = some (.wait .bar)) (hs : (.reg sem : SemLoc sig) = loc .bar)
    (hz : z = ((3 : ℕ) : Int)) (hk : Safe X W K N c (n + 1) (k ⟨⟩) Q) :
    Safe X W K N c n (.op (.semWait sem z) k) Q := by
  have h := needs_of hn
  simp only [needs, Bool.and_eq_true, Bool.not_eq_true', List.all_eq_true, Bool.or_eq_true, decide_eq_true_eq, beq_iff_eq] at h
  subst hz
  exact st_wait X W K N .bar (by simp [Wait.kind]) (fun R => by rw [show loc Wait.bar.kind = .reg sem from hs.symm]; exact rfl) rfl
    (by simp [credited?, h.1.1]) h.1.2 h.2.1 rfl
    (take_bar X W fun z hz => (h.2.2 z (mem_slots z)).resolve_left (by simp [hz])) (after hn hk)

theorem op_wfin (n : ℕ) {Q : α → sProp 𝕄} (hn : script[n]? = some (.wait .fin)) (hs : (.reg sem : SemLoc sig) = loc .fin)
    (hz : z = ((3 : ℕ) : Int)) (hk : Safe X W K N c (n + 1) (k ⟨⟩) Q) :
    Safe X W K N c n (.op (.semWait sem z) k) Q := by
  have h := needs_of hn
  simp only [needs, Bool.and_eq_true, Bool.not_eq_true', beq_iff_eq] at h
  subst hz
  exact st_wait X W K N .fin (by simp [Wait.kind]) (fun R => by rw [show loc Wait.fin.kind = .reg sem from hs.symm]; exact rfl) rfl
    (by simp [credited?, h.1.1]) h.1.2 h.2 rfl (take_fin X W) (after hn hk)

theorem op_wc2 (n : ℕ) {Q : α → sProp 𝕄} {i : Fin 2} (hn : script[n]? = some (.wait (.c2 i))) (hs : (.reg sem : SemLoc sig) = loc (.c2 i))
    (hz : z = ((1 : ℕ) : Int)) (hk : Safe X W K N c (n + 1) (k ⟨⟩) Q) :
    Safe X W K N c n (.op (.semWait sem z) k) Q := by
  have h := needs_of hn
  simp only [needs, Bool.and_eq_true, Bool.not_eq_true', decide_eq_true_eq, beq_iff_eq] at h
  subst hz
  exact st_wait X W K N (.c2 i) (by simp [Wait.kind]) (fun R => by rw [show loc (Wait.c2 i).kind = .reg sem from hs.symm]; exact rfl) rfl
    (by simp [credited?, h.1.1]) h.1.2 h.2.1 rfl (take_c2 X W i h.2.2) (after hn hk)

theorem op_wcr (n : ℕ) {Q : α → sProp 𝕄} {i : Fin 4} {j : Fin 3} (hn : script[n]? = some (.wait (.credit i j))) (hs : (.reg sem : SemLoc sig) = loc (.cr i))
    (hz : z = ((1 : ℕ) : Int)) (hk : Safe X W K N c (n + 1) (k ⟨⟩) Q) :
    Safe X W K N c n (.op (.semWait sem z) k) Q := by
  have h := needs_of hn
  simp only [needs, Bool.and_eq_true, Bool.not_eq_true', decide_eq_true_eq, beq_iff_eq] at h
  exact st_credit X W K N i j hs hz h.1.1 h.1.2 h.2.1 h.2.2 (after hn hk)

variable {sem' : DmaSem sig} {s s' : Shape} {src : Memref sig .tc .vmem s' .f32} {dst : Memref sig .tc .vmem s .f32}
  {hsrc : src.view.WordExact} {hdst : dst.view.WordExact}

theorem op_snd (n : ℕ) {Q : α → sProp 𝕄} {e : Copy} (hn : script[n]? = some (.wait (.snd e))) (hs : (.dma sem' : SemLoc sig) = loc e.sndKind)
    (hz : dst.view.dmaCredit = (Wait.snd e).amt) (hk : Safe X W K N c (n + 1) (k ⟨⟩) Q) :
    Safe X W K N c n (.op (.waitDma2 sem' src dst hsrc hdst) k) Q := by
  have h := needs_of hn
  simp only [needs, Bool.and_eq_true, Bool.not_eq_true', decide_eq_true_eq, beq_iff_eq] at h
  exact st_wait X W K N (.snd e) (by cases e <;> simp [Wait.kind, Copy.sndKind])
    (fun R => by rw [show loc (Wait.snd e).kind = .dma sem' from hs.symm]; exact rfl) hz
    (by simp [credited?, h.1.1, h.2.1.1]) h.1.2 h.2.1.2 (snd_card e) (take_snd X W e h.2.2) (after hn hk)

theorem op_rcv (n : ℕ) {Q : α → sProp 𝕄} {e : Copy} (hn : script[n]? = some (.wait (.rcv e))) (hs : (.dma sem' : SemLoc sig) = loc e.rcvKind)
    (hz : dst.view.dmaCredit = (Wait.rcv e).amt) (hk : Safe X W K N c (n + 1) (k ⟨⟩) Q) :
    Safe X W K N c n (.op (.waitDma2 sem' src dst hsrc hdst) k) Q := by
  have h := needs_of hn
  simp only [needs, Bool.and_eq_true, Bool.not_eq_true', decide_eq_true_eq, beq_iff_eq] at h
  exact st_wait X W K N (.rcv e) (by cases e <;> simp [Wait.kind, Copy.rcvKind])
    (fun R => by rw [show loc (Wait.rcv e).kind = .dma sem' from hs.symm]; exact rfl) hz
    (by simp [credited?, h.1.1]) h.1.2 h.2.1 (rcv_card e) (take_rcv X W e h.2.2) (after hn hk)

end Waits

/-! ## Copies -/

theorem op_send (n : ℕ) {e : Copy} {d' : Dev nD} {s' : Shape} {vs vd : View sig .tc .vmem s' .f32} {ms : vs.Mosaic} {md : vd.Mosaic} {sS sR : SemLoc sig}
    {hsc : vd.ref.isScScratch = false} {hsrc : vs.WordExact} {hdst : vd.WordExact}
    {hsem : DmaTarget.Typed .vmem sR (.remote (d' : Thread nD τ) (⟨vd, md⟩ : Memref sig .tc .vmem s' .f32) sS hsc)}
    {α : Type} {Q : α → sProp 𝕄} {k : PUnit → Prog (TpuEff nD τ sig (Elt F) Λ₀ .tc) α} (hn : script[n]? = some (.pay (.copy e)))
    (hvs : ∃ q, vs = e.src.place.2.reshape s' q) (hvd : ∃ q, vd = e.dst.place.2.reshape s' q)
    (hS : sS = loc e.sndKind) (hR : sR = loc e.rcvKind) (hdev : d' = peer e.dir c) (hN : vd.amount sR = e.rcvKind.amt)
    (hk : Safe X W K N c (n + 1) (k ⟨⟩) Q) :
    Safe X W K N c n
      (.op (.enqueueDma (⟨vs, ms⟩ : Memref sig .tc .vmem s' .f32) (.remote (d' : Thread nD τ) (⟨vd, md⟩ : Memref sig .tc .vmem s' .f32) sS hsc) sR hsrc hdst hsem) k) Q := by
  have h := needs_of hn
  simp only [needs, Bool.and_eq_true, Bool.not_eq_true', decide_eq_true_eq, beq_iff_eq] at h
  exact st_send X W K N e hvs hvd hS hR hdev hN h.1.1.1.1.1 h.1.1.1.1.2 h.1.1.1.2 h.1.1.2 h.1.2
    (fun i t he => by subst he; simpa using h.2) (after hn hk)

/-! ## Loads and stores -/

section Access
variable {s : Shape} {m : Memref sig .tc .vmem s .f32} {r : Rect s} {α : Type}

/-- A load of a slot about to be overwritten. -/
theorem op_peek (n : ℕ) {Q : α → sProp 𝕄} {e : Copy} {hl : m.view.LoadsAt r} {k : (r.shape.Idx → Elt F .f32) → Prog (TpuEff nD τ sig (Elt F) Λ₀ .tc) α}
    (hn : script[n]? = some (.put e)) (hp : (⟨r.shape, m.access r⟩ : Place) = e.src.place)
    (hk : ∀ v, Safe X W K N c n (k v) Q) : Safe X W K N c n (.op (.load m r.toLoadRect hl) k) Q := by
  have h := needs_of hn
  simp only [needs, bne_iff_ne, ne_eq] at h
  exact st_load_any X W K N e.src hp h hk

/-- A load of what a copy brought. -/
theorem op_got (n : ℕ) {Q : α → sProp 𝕄} (e : Copy) {hl : m.view.LoadsAt r} {k : (r.shape.Idx → Elt F .f32) → Prog (TpuEff nD τ sig (Elt F) Λ₀ .tc) α}
    (hz : (hands (hist n)).own e.dst = .got e) (hp : (⟨r.shape, m.access r⟩ : Place) = e.dst.place)
    (w : r.shape.Idx → Elt F .f32) (hw : (⟨r.shape, w⟩ : Tensor F) = tens X W e (sender e c))
    (hk : Safe X W K N c n (k w) Q) : Safe X W K N c n (.op (.load m r.toLoadRect hl) k) Q :=
  st_load_got X W K N e hp hz w hw hk

/-- A load of half the columns of what a copy brought. -/
theorem op_half (n : ℕ) {Q : α → sProp 𝕄} (e : Copy) {r' : Rect s} {hl : m.view.LoadsAt r'} {k : (r'.shape.Idx → Elt F .f32) → Prog (TpuEff nD τ sig (Elt F) Λ₀ .tc) α}
    (hz : (hands (hist n)).own e.dst = .got e) (hp : (⟨r.shape, m.access r⟩ : Place) = e.dst.place)
    (g : r'.shape.Idx → r.shape.Idx) (hg : ∀ j, r'.emb j = r.emb (g j))
    (w : r.shape.Idx → Elt F .f32) (hw : (⟨r.shape, w⟩ : Tensor F) = tens X W e (sender e c))
    (hk : Safe X W K N c n (k fun j => w (g j)) Q) : Safe X W K N c n (.op (.load m r'.toLoadRect hl) k) Q :=
  st_load_half X W K N e hp hz g hg w hw hk

theorem op_put (n : ℕ) {Q : α → sProp 𝕄} {e : Copy} {w : r.shape.Idx → Elt F .f32} {hx : (m.access r).Stores Finset.univ}
    {hm : Finset.univ = Finset.univ ∨ ∀ a, r.stride a = 1} {k : PUnit → Prog (TpuEff nD τ sig (Elt F) Λ₀ .tc) α}
    (hn : script[n]? = some (.put e)) (hp : (⟨r.shape, m.access r⟩ : Place) = e.src.place)
    (hw : (⟨r.shape, w⟩ : Tensor F) = tens X W e c) (hk : Safe X W K N c (n + 1) (k ⟨⟩) Q) :
    Safe X W K N c n (.op (.store m r w Finset.univ hx hm) k) Q := by
  have h := needs_of hn
  simp only [needs, bne_iff_ne, ne_eq] at h
  exact st_put X W K N e hp h hw (after hn hk)

end Access

section Blocks
variable {n : ℕ} {α : Type}

theorem op_x {Q : α → sProp 𝕄} {r : Rect S4096x512} {hl : xM.view.LoadsAt r} {k : (r.shape.Idx → Elt F .f32) → Prog (TpuEff nD τ sig (Elt F) Λ₀ .tc) α}
    (hk : Safe X W K N c n (k ((xM.access r).read (Elt F) (X c))) Q) : Safe X W K N c n (.op (.load xM r.toLoadRect hl) k) Q :=
  st_load_x X W K N hk

theorem op_w {Q : α → sProp 𝕄} {r : Rect S512x2048} {hl : wM.view.LoadsAt r} {k : (r.shape.Idx → Elt F .f32) → Prog (TpuEff nD τ sig (Elt F) Λ₀ .tc) α}
    (hk : Safe X W K N c n (k ((wM.access r).read (Elt F) (W c))) Q) : Safe X W K N c n (.op (.load wM r.toLoadRect hl) k) Q :=
  st_load_w X W K N hk

theorem op_peek_out {Q : α → sProp 𝕄} {r : Rect S512x2048} {hl : oM.view.LoadsAt r} {k : (r.shape.Idx → Elt F .f32) → Prog (TpuEff nD τ sig (Elt F) Λ₀ .tc) α}
    (hk : ∀ v, Safe X W K N c n (k v) Q) : Safe X W K N c n (.op (.load oM r.toLoadRect hl) k) Q :=
  st_load_out X W K N hk

theorem op_out (n : ℕ) {Q : α → sProp 𝕄} {q : Fin 6} (hn : script[n]? = some (.out q)) {r : Rect S512x2048} {w : r.shape.Idx → Elt F .f32}
    {hx : (oM.access r).Stores Finset.univ} {hm : Finset.univ = Finset.univ ∨ ∀ a, r.stride a = 1}
    {k : PUnit → Prog (TpuEff nD τ sig (Elt F) Λ₀ .tc) α} (hr : r = outR q) (hw : (⟨r.shape, w⟩ : Tensor F) = outTens X W q c)
    (hk : Safe X W K N c (n + 1) (k ⟨⟩) Q) : Safe X W K N c n (.op (.store oM r w Finset.univ hx hm) k) Q :=
  st_out X W K N q hr hw (after hn hk)

end Blocks

end Cert.ReduceScatter
-- ==== Proof.Refs.lean ====
/-
  The program on this kernel's memory: its parts take their references as arguments, and here they
  get the buffers and semaphores they are called with. The sums whose activation is the result.
-/
module

public import proofs.«01_k».proof.Proof.Ops

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

/-- A part of the program, given the references it is called with. -/
abbrev onRefs {β : Type 1}
    (p : (arg0 : Memref sig .tc .vmem S4096x512 .f32) → (_ : arg0.IsWhole) → (arg1 : Memref sig .tc .vmem S512x2048 .f32) → (_ : arg1.IsWhole) →
    (arg2 : Memref sig .tc .vmem S512x2048 .f32) → (_ : arg2.IsWhole) →
    (arg3 : Memref sig .tc .vmem S5x512x384 .f32) → (_ : arg3.IsWhole) →
    (arg4 : Memref sig .tc .vmem S5x512x384 .f32) → (_ : arg4.IsWhole) →
    (arg5 : Memref sig .tc .vmem S5x512x384 .f32) → (_ : arg5.IsWhole) →
    (arg6 : Memref sig .tc .vmem S5x512x384 .f32) → (_ : arg6.IsWhole) →
    (arg7 : Memref sig .tc .vmem S4x512x384 .f32) → (_ : arg7.IsWhole) →
    (arg8 : Memref sig .tc .vmem S4x512x512 .f32) → (_ : arg8.IsWhole) →
    (arg9 : Memref sig .tc .vmem S4x512x512 .f32) → (_ : arg9.IsWhole) →
    (arg10 : Memref sig .tc .vmem S3x512x256 .f32) → (_ : arg10.IsWhole) →
    (arg11 : Memref sig .tc .vmem S3x512x256 .f32) → (_ : arg11.IsWhole) →
    (arg12 : DmaSems sig S4x3) →
    (arg13 : DmaSems sig S4x3) →
    (arg14 : DmaSems sig S4) →
    (arg15 : DmaSems sig S4) →
    (arg16 : Sems sig S4) →
    (arg17 : DmaSems sig S4) →
    (arg18 : DmaSems sig S4) →
    (arg19 : DmaSems sig S2x3) →
    (arg20 : DmaSems sig S2x3) →
    (arg21 : Sems sig S2) → (v2016_r0 : Sems sig S_) → β) : β :=
  p xM (Memref.isWhole_whole _) wM (Memref.isWhole_whole _) oM (Memref.isWhole_whole _) (bufM 0) (Memref.isWhole_whole _)
    (bufM 1) (Memref.isWhole_whole _) (bufM 2) (Memref.isWhole_whole _) (bufM 3) (Memref.isWhole_whole _) zrM (Memref.isWhole_whole _)
    xbM (Memref.isWhole_whole _) xrM (Memref.isWhole_whole _) (b2M 0) (Memref.isWhole_whole _) (b2M 1) (Memref.isWhole_whole _)
    cc0_scratch9 cc0_scratch10 cc0_scratch11 cc0_scratch12 cc0_scratch13 cc0_scratch14 cc0_scratch15 cc0_scratch16 cc0_scratch17
    cc0_scratch18 cc0_scoped0

/-- The barrier's semaphore. -/
abbrev barS : Sems sig S_ := SemArray.scalar (sig.barrier 0 rfl)

/-- The finished sums: a stream's, and those of the last columns. -/
def total (X : Dev nD → XBuf F) (W : Dev nD → WBuf F) (i : Fin 4) (c : Dev nD) : FVec F S512x384 .f32 :=
  addf (acc (ring5 X W i (prev i c)) (next' X W i 3 c)) (down384 (across X W i (peer .across c)))
def total2 (X : Dev nD → XBuf F) (W : Dev nD → WBuf F) (i : Fin 2) (c : Dev nD) : FVec F S512x256 .f32 :=
  addf (down256 (two2 X W i (prev2 i c))) (lastSum X W i 3 3 c)
/-- `exp (0 - t)`. -/
def expNeg {s : Shape} (t : FVec F s .f32) : FVec F s .f32 := exp (subf (broadcast s (Scalar.ofBits .f32 0x00000000#32)) t)

theorem xr_place (k : Fin 4) : (⟨(xrR k).shape, xrM.access (xrR k)⟩ : Place) = (Copy.x k).dst.place := rfl

/-- Half the columns of a slice, as a rectangle of the whole buffer. -/
theorem xr_half (k : Fin 4) (i : Fin 2) {h : ∀ a, (![k.val, 0, 256 * i.val] : Fin 3 → ℕ) a + S1x512x256.size a ≤ S4x512x512.size a} (j) :
    (Rect.unit (s := S4x512x512) ![k.val, 0, 256 * i.val] S1x512x256.size h).emb j = (xrR k).emb ((halfR i).emb j) := by
  funext a; apply Fin.ext
  fin_cases a
  · change k.val + 1 * (j 0).val = k.val + 1 * (0 + 1 * (j 0).val); omega
  · change 0 + 1 * (j 1).val = 0 + 1 * (0 + 1 * (j 1).val); omega
  · change 256 * i.val + 1 * (j 2).val = 0 + 1 * (256 * i.val + 1 * (j 2).val); omega

end Cert.ReduceScatter
-- ==== Proof.PartsA.lean ====
/-
  The program, part by part: the opening barrier, the first sends, the blocks sent across.
-/
module

public import proofs.«01_k».proof.Proof.Refs

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

theorem part2 {Q : _ → sProp 𝕄} {v2 v19 v29 v30 v33 v34 : BitVec 32} {v35 v36 : BitVec 1}
    (h : ∀ (v42 : BitVec 32) (v55 : BitVec 32) (v66 : BitVec 32) (v68 : BitVec 32) (v69 : BitVec 32), St X W K N c (hist 1) ⊢ Q ⟨v42, v55, v66, v68, v69, barS⟩) :
    Safe X W K N c 0 (onRefs (k0_part2 (F := F)) c v2 v19 v29 v30 v33 v34 v35 v36) Q := by
  rw [k0_part2_eq_skeleton]; unfold k0_part2_skel
  simp only [Prog.lift, Prog.bind_op, Prog.bind_ret, Prog.pure_eq_ret, semSignalWord, semWaitWord]
  refine op_bar 0 rfl rfl (dev_of k0_dev1 (by decide +kernel) c) rfl ?_
  exact safe_ret (h _ _ _ _ _)

theorem part3 {Q : _ → sProp 𝕄} {v29 v42 v66 : BitVec 32}
    (h : ∀ (v87 : BitVec 32) (v98 : BitVec 32) (v101 : BitVec 32) (v102 : BitVec 32) (v103 : BitVec 1) (v104 : BitVec 1) (c0_i32_64 : BitVec 32), St X W K N c (hist 3) ⊢ Q ⟨v87, v98, v101, v102, v103, v104, c0_i32_64⟩) :
    Safe X W K N c 1 (onRefs (k0_part3 (F := F)) c v29 v42 v66 barS) Q := by
  rw [k0_part3_eq_skeleton]; unfold k0_part3_skel
  simp only [Prog.lift, Prog.bind_op, Prog.bind_ret, Prog.pure_eq_ret, semSignalWord, semWaitWord]
  refine op_bar 1 rfl rfl (dev_of k0_dev2 (by decide +kernel) c) rfl ?_
  refine op_bar 2 rfl rfl (dev_of k0_dev3 (by decide +kernel) c) rfl ?_
  exact safe_ret (h _ _ _ _ _ _ _)

theorem part4 {Q : _ → sProp 𝕄} {v29 v68 v101 v102 : BitVec 32} {v103 v104 : BitVec 1} {c0_i32_64 : BitVec 32}
    (h : ∀ (v109 : BitVec 32) (v136 : BitVec 32) (v137 : BitVec 32) (v138 : BitVec 1) (v139 : BitVec 1) (c0_i32_85 : BitVec 32), St X W K N c (hist 4) ⊢ Q ⟨v109, v136, v137, v138, v139, c0_i32_85⟩) :
    Safe X W K N c 3 (onRefs (k0_part4 (F := F)) c v29 v68 v101 v102 v103 v104 c0_i32_64) Q := by
  rw [k0_part4_eq_skeleton]; unfold k0_part4_skel
  simp only [Prog.lift, Prog.bind_op, Prog.bind_ret, Prog.pure_eq_ret]
  refine op_x ?_
  refine op_w ?_
  refine op_peek 3 rfl rfl fun _ => ?_
  refine op_put 3 rfl rfl rfl ?_
  exact safe_ret (h _ _ _ _ _ _)

theorem part5 {Q : _ → sProp 𝕄} {v29 v68 v136 v137 : BitVec 32} {v138 v139 : BitVec 1} {c0_i32_85 : BitVec 32}
    (h : St X W K N c (hist 5) ⊢ Q (first X W 1 c)) :
    Safe X W K N c 4 (onRefs (k0_part5 (F := F)) c v29 v68 v136 v137 v138 v139 c0_i32_85) Q := by
  rw [k0_part5_eq_skeleton]; unfold k0_part5_skel
  simp only [Prog.lift, Prog.bind_op, Prog.bind_ret, Prog.pure_eq_ret]
  refine op_x ?_
  refine op_w ?_
  refine op_peek 4 rfl rfl fun _ => ?_
  refine op_put 4 rfl rfl rfl ?_
  refine op_x ?_
  refine op_w ?_
  exact safe_ret h

theorem part6 {Q : _ → sProp 𝕄} {v29 v42 v68 : BitVec 32}
    (h : St X W K N c (hist 8) ⊢ Q ⟨⟩) :
    Safe X W K N c 5 (onRefs (k0_part6 (F := F)) c v29 v42 v68 barS (first X W 1 c)) Q := by
  rw [k0_part6_eq_skeleton]; unfold k0_part6_skel
  simp only [Prog.lift, Prog.bind_op, Prog.bind_ret, Prog.pure_eq_ret, semSignalWord, semWaitWord]
  refine op_peek 5 rfl rfl fun _ => ?_
  refine op_put 5 rfl rfl rfl ?_
  refine op_x ?_
  refine op_w ?_
  refine op_peek 6 rfl rfl fun _ => ?_
  refine op_put 6 rfl rfl rfl ?_
  refine op_wbar 7 rfl rfl rfl ?_
  exact safe_ret h

theorem part7 {Q : _ → sProp 𝕄} {v42 v55 : BitVec 32}
    (h : St X W K N c (hist 11) ⊢ Q ⟨⟩) :
    Safe X W K N c 8 (onRefs (k0_part7 (F := F)) c v42 v55) Q := by
  rw [k0_part7_eq_skeleton]; unfold k0_part7_skel
  simp only [Prog.lift, Prog.bind_op, Prog.bind_ret, Prog.pure_eq_ret]
  refine op_send 8 rfl ⟨_, rfl⟩ ⟨_, rfl⟩ rfl rfl (dev_of k0_dev4 (by decide +kernel) c) rfl ?_
  refine op_send 9 rfl ⟨_, rfl⟩ ⟨_, rfl⟩ rfl rfl (dev_of k0_dev5 (by decide +kernel) c) rfl ?_
  refine op_send 10 rfl ⟨_, rfl⟩ ⟨_, rfl⟩ rfl rfl (dev_of k0_dev6 (by decide +kernel) c) rfl ?_
  exact safe_ret h

theorem part8 {Q : _ → sProp 𝕄} {v55 v66 v68 v87 : BitVec 32}
    (h : St X W K N c (hist 13) ⊢ Q ⟨⟩) :
    Safe X W K N c 11 (onRefs (k0_part8 (F := F)) c v55 v66 v68 v87) Q := by
  rw [k0_part8_eq_skeleton]; unfold k0_part8_skel
  simp only [Prog.lift, Prog.bind_op, Prog.bind_ret, Prog.pure_eq_ret]
  refine op_send 11 rfl ⟨_, rfl⟩ ⟨_, rfl⟩ rfl rfl (dev_of k0_dev7 (by decide +kernel) c) rfl ?_
  refine op_x ?_
  refine op_w ?_
  refine op_peek 12 rfl rfl fun _ => ?_
  refine op_put 12 rfl rfl rfl ?_
  exact safe_ret h

theorem part9 {Q : _ → sProp 𝕄} {v66 v68 v98 v109 : BitVec 32}
    (h : St X W K N c (hist 16) ⊢ Q (dot512 (rowsX c 2 (X c)) (lastW (W c)))) :
    Safe X W K N c 13 (onRefs (k0_part9 (F := F)) c v66 v68 v98 v109) Q := by
  rw [k0_part9_eq_skeleton]; unfold k0_part9_skel
  simp only [Prog.lift, Prog.bind_op, Prog.bind_ret, Prog.pure_eq_ret]
  refine op_send 13 rfl ⟨_, rfl⟩ ⟨_, rfl⟩ rfl rfl (dev_of k0_dev8 (by decide +kernel) c) rfl ?_
  refine op_x ?_
  refine op_w ?_
  refine op_peek 14 rfl rfl fun _ => ?_
  refine op_put 14 rfl rfl rfl ?_
  refine op_send 15 rfl ⟨_, rfl⟩ ⟨_, rfl⟩ rfl rfl (dev_of k0_dev9 (by decide +kernel) c) rfl ?_
  refine op_x ?_
  refine op_w ?_
  refine op_peek 16 rfl rfl fun _ => ?_
  exact safe_ret h

theorem part10 {Q : _ → sProp 𝕄} {v29 v66 v68 : BitVec 32}
    (h : St X W K N c (hist 19) ⊢ Q ⟨⟩) :
    Safe X W K N c 16 (onRefs (k0_part10 (F := F)) c v29 v66 v68 (dot512 (rowsX c 2 (X c)) (lastW (W c)))) Q := by
  rw [k0_part10_eq_skeleton]; unfold k0_part10_skel
  simp only [Prog.lift, Prog.bind_op, Prog.bind_ret, Prog.pure_eq_ret]
  refine op_put 16 rfl rfl rfl ?_
  refine op_send 17 rfl ⟨_, rfl⟩ ⟨_, rfl⟩ rfl rfl (dev_of k0_dev10 (by decide +kernel) c) rfl ?_
  refine op_x ?_
  refine op_w ?_
  refine op_peek 18 rfl rfl fun _ => ?_
  refine op_put 18 rfl rfl rfl ?_
  exact safe_ret h

theorem part11 {Q : _ → sProp 𝕄} {v29 v68 : BitVec 32}
    (h : ∀ (v359 : BitVec 32), St X W K N c (hist 20) ⊢ Q ⟨dot768 (rowsR c 1 (X c)) (wideR (W c)), v359⟩) :
    Safe X W K N c 19 (onRefs (k0_part11 (F := F)) c v29 v68) Q := by
  rw [k0_part11_eq_skeleton]; unfold k0_part11_skel
  simp only [Prog.lift, Prog.bind_op, Prog.bind_ret, Prog.pure_eq_ret]
  refine op_send 19 rfl ⟨_, rfl⟩ ⟨_, rfl⟩ rfl rfl (dev_of k0_dev11 (by decide +kernel) c) rfl ?_
  refine op_x ?_
  refine op_w ?_
  exact safe_ret (h _)

theorem part12 {Q : _ → sProp 𝕄} {v42 v55 v359 : BitVec 32}
    (h : ∀ (v386 : BitVec 32) (c0_i32_292 : BitVec 32), St X W K N c (hist 22) ⊢ Q ⟨next X W 0 1 c, next X W 1 1 c, next X W 2 1 c, next X W 3 1 c, v386, c0_i32_292⟩) :
    Safe X W K N c 20 (onRefs (k0_part12 (F := F)) c v42 v55 (dot768 (rowsR c 1 (X c)) (wideR (W c))) v359) Q := by
  rw [k0_part12_eq_skeleton]; unfold k0_part12_skel
  simp only [Prog.lift, Prog.bind_op, Prog.bind_ret, Prog.pure_eq_ret]
  refine op_x ?_
  refine op_w ?_
  refine op_snd 20 rfl rfl rfl ?_
  refine op_rcv 21 rfl rfl rfl ?_
  exact safe_ret (h _ _)

end Cert.ReduceScatter
-- ==== Proof.PartsB.lean ====
/-
  The program, part by part: the first two steps of the streams.
-/
module

public import proofs.«01_k».proof.Proof.Refs

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

theorem part13 {Q : _ → sProp 𝕄} {v42 v386 c0_i32_292 : BitVec 32}
    (h : St X W K N c (hist 26) ⊢ Q ⟨⟩) :
    Safe X W K N c 22 (onRefs (k0_part13 (F := F)) c v42 (next X W 0 1 c) v386 c0_i32_292) Q := by
  rw [k0_part13_eq_skeleton]; unfold k0_part13_skel
  simp only [Prog.lift, Prog.bind_op, Prog.bind_ret, Prog.pure_eq_ret, semSignalWord, semWaitWord]
  refine op_cr 22 rfl rfl (dev_of k0_dev12 (by decide +kernel) c) rfl ?_
  refine op_got 23 (.ring 0 0) (by decide +kernel) rfl _ rfl ?_
  refine op_peek 23 rfl rfl fun _ => ?_
  refine op_put 23 rfl rfl rfl ?_
  refine op_send 24 rfl ⟨_, rfl⟩ ⟨_, rfl⟩ rfl rfl (dev_of k0_dev13 (by decide +kernel) c) rfl ?_
  refine op_snd 25 rfl rfl rfl ?_
  exact safe_ret h

theorem part14 {Q : _ → sProp 𝕄} {v42 v55 : BitVec 32}
    (h : St X W K N c (hist 29) ⊢ Q ⟨⟩) :
    Safe X W K N c 26 (onRefs (k0_part14 (F := F)) c v42 v55 (next X W 2 1 c)) Q := by
  rw [k0_part14_eq_skeleton]; unfold k0_part14_skel
  simp only [Prog.lift, Prog.bind_op, Prog.bind_ret, Prog.pure_eq_ret, semSignalWord, semWaitWord]
  refine op_rcv 26 rfl rfl rfl ?_
  refine op_cr 27 rfl rfl (dev_of k0_dev14 (by decide +kernel) c) rfl ?_
  refine op_got 28 (.ring 2 0) (by decide +kernel) rfl _ rfl ?_
  refine op_peek 28 rfl rfl fun _ => ?_
  refine op_put 28 rfl rfl rfl ?_
  exact safe_ret h

theorem part15 {Q : _ → sProp 𝕄} {v42 v55 : BitVec 32}
    (h : ∀ (v459 : Vec F S1x512x384 .f32), St X W K N c (hist 33) ⊢ Q ⟨acc (ring0 X W 1 (prev 1 c)) (next X W 1 1 c), v459⟩) :
    Safe X W K N c 29 (onRefs (k0_part15 (F := F)) c v42 v55 (next X W 1 1 c)) Q := by
  rw [k0_part15_eq_skeleton]; unfold k0_part15_skel
  simp only [Prog.lift, Prog.bind_op, Prog.bind_ret, Prog.pure_eq_ret, semSignalWord, semWaitWord]
  refine op_send 29 rfl ⟨_, rfl⟩ ⟨_, rfl⟩ rfl rfl (dev_of k0_dev15 (by decide +kernel) c) rfl ?_
  refine op_snd 30 rfl rfl rfl ?_
  refine op_rcv 31 rfl rfl rfl ?_
  refine op_cr 32 rfl rfl (dev_of k0_dev16 (by decide +kernel) c) rfl ?_
  refine op_got 33 (.ring 1 0) (by decide +kernel) rfl _ rfl ?_
  refine op_got 33 (.ring 1 0) (by decide +kernel) rfl _ rfl ?_
  exact safe_ret (h _)

theorem part16 {Q : _ → sProp 𝕄} {v42 v55 : BitVec 32} {v459 : Vec F S1x512x384 .f32}
    (h : St X W K N c (hist 36) ⊢ Q ⟨⟩) :
    Safe X W K N c 33 (onRefs (k0_part16 (F := F)) c v42 v55 (acc (ring0 X W 1 (prev 1 c)) (next X W 1 1 c)) v459) Q := by
  rw [k0_part16_eq_skeleton]; unfold k0_part16_skel
  simp only [Prog.lift, Prog.bind_op, Prog.bind_ret, Prog.pure_eq_ret]
  refine op_put 33 rfl rfl rfl ?_
  refine op_send 34 rfl ⟨_, rfl⟩ ⟨_, rfl⟩ rfl rfl (dev_of k0_dev17 (by decide +kernel) c) rfl ?_
  refine op_snd 35 rfl rfl rfl ?_
  exact safe_ret h

theorem part17 {Q : _ → sProp 𝕄} {v29 v42 v55 : BitVec 32}
    (h : ∀ (v509 : BitVec 32) (v510 : BitVec 32), St X W K N c (hist 40) ⊢ Q ⟨v509, v510⟩) :
    Safe X W K N c 36 (onRefs (k0_part17 (F := F)) c v29 v42 v55 (next X W 3 1 c)) Q := by
  rw [k0_part17_eq_skeleton]; unfold k0_part17_skel
  simp only [Prog.lift, Prog.bind_op, Prog.bind_ret, Prog.pure_eq_ret, semSignalWord, semWaitWord]
  refine op_rcv 36 rfl rfl rfl ?_
  refine op_cr 37 rfl rfl (dev_of k0_dev18 (by decide +kernel) c) rfl ?_
  refine op_got 38 (.ring 3 0) (by decide +kernel) rfl _ rfl ?_
  refine op_peek 38 rfl rfl fun _ => ?_
  refine op_put 38 rfl rfl rfl ?_
  refine op_send 39 rfl ⟨_, rfl⟩ ⟨_, rfl⟩ rfl rfl (dev_of k0_dev19 (by decide +kernel) c) rfl ?_
  exact safe_ret (h _ _)

theorem part18 {Q : _ → sProp 𝕄} {v29 v68 v509 v510 : BitVec 32}
    (h : St X W K N c (hist 40) ⊢ Q ⟨next X W 0 2 c, next X W 1 2 c, next X W 2 2 c, next X W 3 2 c⟩) :
    Safe X W K N c 40 (onRefs (k0_part18 (F := F)) c v29 v68 v509 v510) Q := by
  rw [k0_part18_eq_skeleton]; unfold k0_part18_skel
  simp only [Prog.lift, Prog.bind_op, Prog.bind_ret, Prog.pure_eq_ret]
  refine op_x ?_
  refine op_w ?_
  refine op_x ?_
  refine op_w ?_
  exact safe_ret h

theorem part19 {Q : _ → sProp 𝕄} {v29 v69 : BitVec 32}
    (h : ∀ (v584 : BitVec 32), St X W K N c (hist 41) ⊢ Q v584) :
    Safe X W K N c 40 (onRefs (k0_part19 (F := F)) c v29 v69) Q := by
  rw [k0_part19_eq_skeleton]; unfold k0_part19_skel
  simp only [Prog.lift, Prog.bind_op, Prog.bind_ret, Prog.pure_eq_ret]
  refine op_x ?_
  refine op_w ?_
  refine op_peek 40 rfl rfl fun _ => ?_
  refine op_put 40 rfl rfl rfl ?_
  exact safe_ret (h _)

theorem part20 {Q : _ → sProp 𝕄} {v29 v69 v584 : BitVec 32}
    (h : St X W K N c (hist 43) ⊢ Q ⟨⟩) :
    Safe X W K N c 41 (onRefs (k0_part20 (F := F)) c v29 v69 v584) Q := by
  rw [k0_part20_eq_skeleton]; unfold k0_part20_skel
  simp only [Prog.lift, Prog.bind_op, Prog.bind_ret, Prog.pure_eq_ret]
  refine op_x ?_
  refine op_w ?_
  refine op_peek 41 rfl rfl fun _ => ?_
  refine op_put 41 rfl rfl rfl ?_
  refine op_x ?_
  refine op_w ?_
  refine op_peek 42 rfl rfl fun _ => ?_
  refine op_put 42 rfl rfl rfl ?_
  exact safe_ret h

theorem part21 {Q : _ → sProp 𝕄} {v29 v69 : BitVec 32}
    (h : St X W K N c (hist 45) ⊢ Q ⟨⟩) :
    Safe X W K N c 43 (onRefs (k0_part21 (F := F)) c v29 v69) Q := by
  rw [k0_part21_eq_skeleton]; unfold k0_part21_skel
  simp only [Prog.lift, Prog.bind_op, Prog.bind_ret, Prog.pure_eq_ret]
  refine op_x ?_
  refine op_w ?_
  refine op_peek 43 rfl rfl fun _ => ?_
  refine op_put 43 rfl rfl rfl ?_
  refine op_snd 44 rfl rfl rfl ?_
  exact safe_ret h

theorem part22 {Q : _ → sProp 𝕄} {v42 v55 : BitVec 32}
    (h : St X W K N c (hist 48) ⊢ Q ⟨⟩) :
    Safe X W K N c 45 (onRefs (k0_part22 (F := F)) c v42 v55 (next X W 0 2 c)) Q := by
  rw [k0_part22_eq_skeleton]; unfold k0_part22_skel
  simp only [Prog.lift, Prog.bind_op, Prog.bind_ret, Prog.pure_eq_ret, semSignalWord, semWaitWord]
  refine op_rcv 45 rfl rfl rfl ?_
  refine op_cr 46 rfl rfl (dev_of k0_dev20 (by decide +kernel) c) rfl ?_
  refine op_got 47 (.ring 0 1) (by decide +kernel) rfl _ rfl ?_
  refine op_peek 47 rfl rfl fun _ => ?_
  refine op_put 47 rfl rfl rfl ?_
  exact safe_ret h

theorem part23 {Q : _ → sProp 𝕄} {v42 v55 : BitVec 32}
    (h : St X W K N c (hist 52) ⊢ Q (acc (ring1 X W 2 (prev 2 c)) (next X W 2 2 c))) :
    Safe X W K N c 48 (onRefs (k0_part23 (F := F)) c v42 v55 (next X W 2 2 c)) Q := by
  rw [k0_part23_eq_skeleton]; unfold k0_part23_skel
  simp only [Prog.lift, Prog.bind_op, Prog.bind_ret, Prog.pure_eq_ret, semSignalWord, semWaitWord]
  refine op_send 48 rfl ⟨_, rfl⟩ ⟨_, rfl⟩ rfl rfl (dev_of k0_dev21 (by decide +kernel) c) rfl ?_
  refine op_snd 49 rfl rfl rfl ?_
  refine op_rcv 50 rfl rfl rfl ?_
  refine op_cr 51 rfl rfl (dev_of k0_dev22 (by decide +kernel) c) rfl ?_
  refine op_got 52 (.ring 2 1) (by decide +kernel) rfl _ rfl ?_
  exact safe_ret h

theorem part24 {Q : _ → sProp 𝕄} {v42 v55 : BitVec 32}
    (h : St X W K N c (hist 55) ⊢ Q ⟨⟩) :
    Safe X W K N c 52 (onRefs (k0_part24 (F := F)) c v42 v55 (acc (ring1 X W 2 (prev 2 c)) (next X W 2 2 c))) Q := by
  rw [k0_part24_eq_skeleton]; unfold k0_part24_skel
  simp only [Prog.lift, Prog.bind_op, Prog.bind_ret, Prog.pure_eq_ret]
  refine op_peek 52 rfl rfl fun _ => ?_
  refine op_put 52 rfl rfl rfl ?_
  refine op_send 53 rfl ⟨_, rfl⟩ ⟨_, rfl⟩ rfl rfl (dev_of k0_dev23 (by decide +kernel) c) rfl ?_
  refine op_snd 54 rfl rfl rfl ?_
  exact safe_ret h

theorem part25 {Q : _ → sProp 𝕄} {v42 v55 : BitVec 32}
    (h : St X W K N c (hist 59) ⊢ Q ⟨⟩) :
    Safe X W K N c 55 (onRefs (k0_part25 (F := F)) c v42 v55 (next X W 1 2 c)) Q := by
  rw [k0_part25_eq_skeleton]; unfold k0_part25_skel
  simp only [Prog.lift, Prog.bind_op, Prog.bind_ret, Prog.pure_eq_ret, semSignalWord, semWaitWord]
  refine op_rcv 55 rfl rfl rfl ?_
  refine op_cr 56 rfl rfl (dev_of k0_dev24 (by decide +kernel) c) rfl ?_
  refine op_got 57 (.ring 1 1) (by decide +kernel) rfl _ rfl ?_
  refine op_peek 57 rfl rfl fun _ => ?_
  refine op_put 57 rfl rfl rfl ?_
  refine op_send 58 rfl ⟨_, rfl⟩ ⟨_, rfl⟩ rfl rfl (dev_of k0_dev25 (by decide +kernel) c) rfl ?_
  exact safe_ret h

theorem part26 {Q : _ → sProp 𝕄} {v42 v55 : BitVec 32}
    (h : ∀ (c1_i32_709 : BitVec 32), St X W K N c (hist 63) ⊢ Q c1_i32_709) :
    Safe X W K N c 59 (onRefs (k0_part26 (F := F)) c v42 v55 (next X W 3 2 c)) Q := by
  rw [k0_part26_eq_skeleton]; unfold k0_part26_skel
  simp only [Prog.lift, Prog.bind_op, Prog.bind_ret, Prog.pure_eq_ret, semSignalWord, semWaitWord]
  refine op_snd 59 rfl rfl rfl ?_
  refine op_rcv 60 rfl rfl rfl ?_
  refine op_cr 61 rfl rfl (dev_of k0_dev26 (by decide +kernel) c) rfl ?_
  refine op_got 62 (.ring 3 1) (by decide +kernel) rfl _ rfl ?_
  refine op_peek 62 rfl rfl fun _ => ?_
  refine op_put 62 rfl rfl rfl ?_
  exact safe_ret (h _)

end Cert.ReduceScatter
-- ==== Proof.PartsC.lean ====
/-
  The program, part by part: the last columns, and the streams' turn.
-/
module

public import proofs.«01_k».proof.Proof.Refs

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

theorem part27 {Q : _ → sProp 𝕄} {v29 v55 v66 v69 c1_i32_709 : BitVec 32}
    (h : St X W K N c (hist 65) ⊢ Q ⟨⟩) :
    Safe X W K N c 63 (onRefs (k0_part27 (F := F)) c v29 v55 v66 v69 c1_i32_709) Q := by
  rw [k0_part27_eq_skeleton]; unfold k0_part27_skel
  simp only [Prog.lift, Prog.bind_op, Prog.bind_ret, Prog.pure_eq_ret]
  refine op_send 63 rfl ⟨_, rfl⟩ ⟨_, rfl⟩ rfl rfl (dev_of k0_dev27 (by decide +kernel) c) rfl ?_
  refine op_rcv 64 rfl rfl rfl ?_
  exact safe_ret h

theorem part28 {Q : _ → sProp 𝕄} {v29 v42 : BitVec 32}
    (h : ∀ (v825 : BitVec 32) (v826 : BitVec 32) (v827 : BitVec 1) (v828 : BitVec 1) (v829 : BitVec 1), St X W K N c (hist 67) ⊢ Q ⟨v825, v826, v827, v828, v829⟩) :
    Safe X W K N c 65 (onRefs (k0_part28 (F := F)) c v29 v42) Q := by
  rw [k0_part28_eq_skeleton]; unfold k0_part28_skel
  simp only [Prog.lift, Prog.bind_op, Prog.bind_ret, Prog.pure_eq_ret]
  refine op_x ?_
  refine op_w ?_
  refine op_half 65 (.x 0) (by decide +kernel) (xr_place 0) (halfR 0).emb (xr_half 0 0) _ rfl ?_
  refine op_peek 65 rfl rfl fun _ => ?_
  refine op_put 65 rfl rfl rfl ?_
  refine op_send 66 rfl ⟨_, rfl⟩ ⟨_, rfl⟩ rfl rfl (dev_of k0_dev28 (by decide +kernel) c) rfl ?_
  exact safe_ret (h _ _ _ _ _)

theorem part29 {Q : _ → sProp 𝕄} {v55 v66 v69 v825 v826 : BitVec 32} {v827 v828 v829 : BitVec 1}
    (h : St X W K N c (hist 69) ⊢ Q ⟨⟩) :
    Safe X W K N c 67 (onRefs (k0_part29 (F := F)) c v55 v66 v69 v825 v826 v827 v828 v829) Q := by
  rw [k0_part29_eq_skeleton]; unfold k0_part29_skel
  simp only [Prog.lift, Prog.bind_op, Prog.bind_ret, Prog.pure_eq_ret]
  refine op_rcv 67 rfl rfl rfl ?_
  refine op_x ?_
  refine op_w ?_
  refine op_half 68 (.x 1) (by decide +kernel) (xr_place 1) (halfR 1).emb (xr_half 1 1) _ rfl ?_
  refine op_peek 68 rfl rfl fun _ => ?_
  refine op_put 68 rfl rfl rfl ?_
  exact safe_ret h

theorem part30 {Q : _ → sProp 𝕄} {v29 v68 : BitVec 32}
    (h : ∀ (v889 : BitVec 32) (v890 : BitVec 32) (v891 : BitVec 1) (v892 : BitVec 1) (c0_i32_815 : BitVec 32), St X W K N c (hist 70) ⊢ Q ⟨dot768 (rowsR c 3 (X c)) (wideR (W c)), v889, v890, v891, v892, c0_i32_815⟩) :
    Safe X W K N c 69 (onRefs (k0_part30 (F := F)) c v29 v68) Q := by
  rw [k0_part30_eq_skeleton]; unfold k0_part30_skel
  simp only [Prog.lift, Prog.bind_op, Prog.bind_ret, Prog.pure_eq_ret]
  refine op_send 69 rfl ⟨_, rfl⟩ ⟨_, rfl⟩ rfl rfl (dev_of k0_dev29 (by decide +kernel) c) rfl ?_
  refine op_x ?_
  refine op_w ?_
  exact safe_ret (h _ _ _ _ _)

theorem part31 {Q : _ → sProp 𝕄} {v42 v68 v889 v890 : BitVec 32} {v891 v892 : BitVec 1} {c0_i32_815 : BitVec 32}
    (h : St X W K N c (hist 71) ⊢ Q ⟨next X W 0 3 c, next X W 1 3 c, next X W 2 3 c, next X W 3 3 c⟩) :
    Safe X W K N c 70 (onRefs (k0_part31 (F := F)) c v42 v68 (dot768 (rowsR c 3 (X c)) (wideR (W c))) v889 v890 v891 v892 c0_i32_815) Q := by
  rw [k0_part31_eq_skeleton]; unfold k0_part31_skel
  simp only [Prog.lift, Prog.bind_op, Prog.bind_ret, Prog.pure_eq_ret]
  refine op_x ?_
  refine op_w ?_
  refine op_snd 70 rfl rfl rfl ?_
  exact safe_ret h

theorem part32 {Q : _ → sProp 𝕄} {v42 v55 v66 : BitVec 32}
    (h : St X W K N c (hist 76) ⊢ Q ⟨⟩) :
    Safe X W K N c 71 (onRefs (k0_part32 (F := F)) c v42 v55 v66 (next X W 0 3 c)) Q := by
  rw [k0_part32_eq_skeleton]; unfold k0_part32_skel
  simp only [Prog.lift, Prog.bind_op, Prog.bind_ret, Prog.pure_eq_ret, semSignalWord, semWaitWord]
  refine op_rcv 71 rfl rfl rfl ?_
  refine op_cr 72 rfl rfl (dev_of k0_dev30 (by decide +kernel) c) rfl ?_
  refine op_got 73 (.ring 0 2) (by decide +kernel) rfl _ rfl ?_
  refine op_peek 73 rfl rfl fun _ => ?_
  refine op_put 73 rfl rfl rfl ?_
  refine op_send 74 rfl ⟨_, rfl⟩ ⟨_, rfl⟩ rfl rfl (dev_of k0_dev31 (by decide +kernel) c) rfl ?_
  refine op_wcr 75 rfl rfl rfl ?_
  exact safe_ret h

theorem part33 {Q : _ → sProp 𝕄} {v42 v55 : BitVec 32}
    (h : St X W K N c (hist 79) ⊢ Q ⟨⟩) :
    Safe X W K N c 76 (onRefs (k0_part33 (F := F)) c v42 v55) Q := by
  rw [k0_part33_eq_skeleton]; unfold k0_part33_skel
  simp only [Prog.lift, Prog.bind_op, Prog.bind_ret, Prog.pure_eq_ret]
  refine op_send 76 rfl ⟨_, rfl⟩ ⟨_, rfl⟩ rfl rfl (dev_of k0_dev32 (by decide +kernel) c) rfl ?_
  refine op_snd 77 rfl rfl rfl ?_
  refine op_rcv 78 rfl rfl rfl ?_
  exact safe_ret h

theorem part34 {Q : _ → sProp 𝕄} {v55 v66 : BitVec 32}
    (h : St X W K N c (hist 83) ⊢ Q ⟨⟩) :
    Safe X W K N c 79 (onRefs (k0_part34 (F := F)) c v55 v66 (next X W 2 3 c)) Q := by
  rw [k0_part34_eq_skeleton]; unfold k0_part34_skel
  simp only [Prog.lift, Prog.bind_op, Prog.bind_ret, Prog.pure_eq_ret, semSignalWord, semWaitWord]
  refine op_cr 79 rfl rfl (dev_of k0_dev33 (by decide +kernel) c) rfl ?_
  refine op_got 80 (.ring 2 2) (by decide +kernel) rfl _ rfl ?_
  refine op_peek 80 rfl rfl fun _ => ?_
  refine op_put 80 rfl rfl rfl ?_
  refine op_send 81 rfl ⟨_, rfl⟩ ⟨_, rfl⟩ rfl rfl (dev_of k0_dev34 (by decide +kernel) c) rfl ?_
  refine op_wcr 82 rfl rfl rfl ?_
  exact safe_ret h

theorem part35 {Q : _ → sProp 𝕄} {v42 v55 : BitVec 32}
    (h : St X W K N c (hist 87) ⊢ Q (acc (ring2 X W 1 (prev 1 c)) (next X W 1 3 c))) :
    Safe X W K N c 83 (onRefs (k0_part35 (F := F)) c v42 v55 (next X W 1 3 c)) Q := by
  rw [k0_part35_eq_skeleton]; unfold k0_part35_skel
  simp only [Prog.lift, Prog.bind_op, Prog.bind_ret, Prog.pure_eq_ret, semSignalWord, semWaitWord]
  refine op_send 83 rfl ⟨_, rfl⟩ ⟨_, rfl⟩ rfl rfl (dev_of k0_dev35 (by decide +kernel) c) rfl ?_
  refine op_snd 84 rfl rfl rfl ?_
  refine op_rcv 85 rfl rfl rfl ?_
  refine op_cr 86 rfl rfl (dev_of k0_dev36 (by decide +kernel) c) rfl ?_
  refine op_got 87 (.ring 1 2) (by decide +kernel) rfl _ rfl ?_
  exact safe_ret h

theorem part36 {Q : _ → sProp 𝕄} {v42 v66 : BitVec 32}
    (h : St X W K N c (hist 91) ⊢ Q ⟨⟩) :
    Safe X W K N c 87 (onRefs (k0_part36 (F := F)) c v42 v66 (acc (ring2 X W 1 (prev 1 c)) (next X W 1 3 c))) Q := by
  rw [k0_part36_eq_skeleton]; unfold k0_part36_skel
  simp only [Prog.lift, Prog.bind_op, Prog.bind_ret, Prog.pure_eq_ret, semSignalWord, semWaitWord]
  refine op_peek 87 rfl rfl fun _ => ?_
  refine op_put 87 rfl rfl rfl ?_
  refine op_send 88 rfl ⟨_, rfl⟩ ⟨_, rfl⟩ rfl rfl (dev_of k0_dev37 (by decide +kernel) c) rfl ?_
  refine op_wcr 89 rfl rfl rfl ?_
  refine op_send 90 rfl ⟨_, rfl⟩ ⟨_, rfl⟩ rfl rfl (dev_of k0_dev38 (by decide +kernel) c) rfl ?_
  exact safe_ret h

theorem part37 {Q : _ → sProp 𝕄} {v42 v55 : BitVec 32}
    (h : St X W K N c (hist 95) ⊢ Q ⟨⟩) :
    Safe X W K N c 91 (onRefs (k0_part37 (F := F)) c v42 v55 (next X W 3 3 c)) Q := by
  rw [k0_part37_eq_skeleton]; unfold k0_part37_skel
  simp only [Prog.lift, Prog.bind_op, Prog.bind_ret, Prog.pure_eq_ret, semSignalWord, semWaitWord]
  refine op_snd 91 rfl rfl rfl ?_
  refine op_rcv 92 rfl rfl rfl ?_
  refine op_cr 93 rfl rfl (dev_of k0_dev39 (by decide +kernel) c) rfl ?_
  refine op_got 94 (.ring 3 2) (by decide +kernel) rfl _ rfl ?_
  refine op_peek 94 rfl rfl fun _ => ?_
  refine op_put 94 rfl rfl rfl ?_
  exact safe_ret h

theorem part38 {Q : _ → sProp 𝕄} {v29 v55 v66 : BitVec 32}
    (h : ∀ (v1097 : BitVec 32) (v1098 : BitVec 32) (v1099 : BitVec 1) (v1100 : BitVec 1), St X W K N c (hist 98) ⊢ Q ⟨v1097, v1098, v1099, v1100⟩) :
    Safe X W K N c 95 (onRefs (k0_part38 (F := F)) c v29 v55 v66) Q := by
  rw [k0_part38_eq_skeleton]; unfold k0_part38_skel
  simp only [Prog.lift, Prog.bind_op, Prog.bind_ret, Prog.pure_eq_ret, semSignalWord, semWaitWord]
  refine op_send 95 rfl ⟨_, rfl⟩ ⟨_, rfl⟩ rfl rfl (dev_of k0_dev40 (by decide +kernel) c) rfl ?_
  refine op_wcr 96 rfl rfl rfl ?_
  refine op_send 97 rfl ⟨_, rfl⟩ ⟨_, rfl⟩ rfl rfl (dev_of k0_dev41 (by decide +kernel) c) rfl ?_
  exact safe_ret (h _ _ _ _)

end Cert.ReduceScatter
-- ==== Proof.PartsD.lean ====
/-
  The program, part by part: the second half of the streams, the second rings.
-/
module

public import proofs.«01_k».proof.Proof.Refs

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

theorem part39 {Q : _ → sProp 𝕄} {v29 v69 v1097 v1098 : BitVec 32} {v1099 v1100 : BitVec 1}
    (h : St X W K N c (hist 98) ⊢ Q ⟨next' X W 0 1 c, next' X W 1 1 c, next' X W 2 1 c, next' X W 3 1 c⟩) :
    Safe X W K N c 98 (onRefs (k0_part39 (F := F)) c v29 v69 v1097 v1098 v1099 v1100) Q := by
  rw [k0_part39_eq_skeleton]; unfold k0_part39_skel
  simp only [Prog.lift, Prog.bind_op, Prog.bind_ret, Prog.pure_eq_ret]
  refine op_x ?_
  refine op_w ?_
  refine op_x ?_
  refine op_w ?_
  exact safe_ret h

theorem part40 {Q : _ → sProp 𝕄} {v42 : BitVec 32}
    (h : St X W K N c (hist 102) ⊢ Q ⟨⟩) :
    Safe X W K N c 98 (onRefs (k0_part40 (F := F)) v42 (next' X W 0 1 c)) Q := by
  rw [k0_part40_eq_skeleton]; unfold k0_part40_skel
  simp only [Prog.lift, Prog.bind_op, Prog.bind_ret, Prog.pure_eq_ret, semSignalWord, semWaitWord]
  refine op_snd 98 rfl rfl rfl ?_
  refine op_rcv 99 rfl rfl rfl ?_
  refine op_got 100 (.ring 0 3) (by decide +kernel) rfl _ rfl ?_
  refine op_peek 100 rfl rfl fun _ => ?_
  refine op_put 100 rfl rfl rfl ?_
  refine op_wcr 101 rfl rfl rfl ?_
  exact safe_ret h

theorem part41 {Q : _ → sProp 𝕄} {v42 v55 : BitVec 32}
    (h : St X W K N c (hist 105) ⊢ Q (ring3 X W 2 (prev 2 c))) :
    Safe X W K N c 102 (onRefs (k0_part41 (F := F)) c v42 v55) Q := by
  rw [k0_part41_eq_skeleton]; unfold k0_part41_skel
  simp only [Prog.lift, Prog.bind_op, Prog.bind_ret, Prog.pure_eq_ret]
  refine op_send 102 rfl ⟨_, rfl⟩ ⟨_, rfl⟩ rfl rfl (dev_of k0_dev42 (by decide +kernel) c) rfl ?_
  refine op_snd 103 rfl rfl rfl ?_
  refine op_rcv 104 rfl rfl rfl ?_
  refine op_got 105 (.ring 2 3) (by decide +kernel) rfl _ rfl ?_
  exact safe_ret h

theorem part42 {Q : _ → sProp 𝕄} {v55 : BitVec 32}
    (h : St X W K N c (hist 109) ⊢ Q ⟨⟩) :
    Safe X W K N c 105 (onRefs (k0_part42 (F := F)) c v55 (next' X W 2 1 c) (ring3 X W 2 (prev 2 c))) Q := by
  rw [k0_part42_eq_skeleton]; unfold k0_part42_skel
  simp only [Prog.lift, Prog.bind_op, Prog.bind_ret, Prog.pure_eq_ret, semSignalWord, semWaitWord]
  refine op_peek 105 rfl rfl fun _ => ?_
  refine op_put 105 rfl rfl rfl ?_
  refine op_wcr 106 rfl rfl rfl ?_
  refine op_send 107 rfl ⟨_, rfl⟩ ⟨_, rfl⟩ rfl rfl (dev_of k0_dev43 (by decide +kernel) c) rfl ?_
  refine op_snd 108 rfl rfl rfl ?_
  exact safe_ret h

theorem part43 {Q : _ → sProp 𝕄} {v42 : BitVec 32}
    (h : St X W K N c (hist 113) ⊢ Q ⟨⟩) :
    Safe X W K N c 109 (onRefs (k0_part43 (F := F)) c v42 (next' X W 1 1 c)) Q := by
  rw [k0_part43_eq_skeleton]; unfold k0_part43_skel
  simp only [Prog.lift, Prog.bind_op, Prog.bind_ret, Prog.pure_eq_ret, semSignalWord, semWaitWord]
  refine op_rcv 109 rfl rfl rfl ?_
  refine op_got 110 (.ring 1 3) (by decide +kernel) rfl _ rfl ?_
  refine op_peek 110 rfl rfl fun _ => ?_
  refine op_put 110 rfl rfl rfl ?_
  refine op_wcr 111 rfl rfl rfl ?_
  refine op_send 112 rfl ⟨_, rfl⟩ ⟨_, rfl⟩ rfl rfl (dev_of k0_dev44 (by decide +kernel) c) rfl ?_
  exact safe_ret h

theorem part44 {Q : _ → sProp 𝕄} {v55 : BitVec 32}
    (h : St X W K N c (hist 117) ⊢ Q ⟨⟩) :
    Safe X W K N c 113 (onRefs (k0_part44 (F := F)) v55 (next' X W 3 1 c)) Q := by
  rw [k0_part44_eq_skeleton]; unfold k0_part44_skel
  simp only [Prog.lift, Prog.bind_op, Prog.bind_ret, Prog.pure_eq_ret, semSignalWord, semWaitWord]
  refine op_snd 113 rfl rfl rfl ?_
  refine op_rcv 114 rfl rfl rfl ?_
  refine op_got 115 (.ring 3 3) (by decide +kernel) rfl _ rfl ?_
  refine op_peek 115 rfl rfl fun _ => ?_
  refine op_put 115 rfl rfl rfl ?_
  refine op_wcr 116 rfl rfl rfl ?_
  exact safe_ret h

theorem part45 {Q : _ → sProp 𝕄} {v42 v55 : BitVec 32}
    (h : St X W K N c (hist 120) ⊢ Q ⟨⟩) :
    Safe X W K N c 117 (onRefs (k0_part45 (F := F)) c v42 v55) Q := by
  rw [k0_part45_eq_skeleton]; unfold k0_part45_skel
  simp only [Prog.lift, Prog.bind_op, Prog.bind_ret, Prog.pure_eq_ret]
  refine op_send 117 rfl ⟨_, rfl⟩ ⟨_, rfl⟩ rfl rfl (dev_of k0_dev45 (by decide +kernel) c) rfl ?_
  refine op_snd 118 rfl rfl rfl ?_
  refine op_rcv 119 rfl rfl rfl ?_
  exact safe_ret h

theorem part46 {Q : _ → sProp 𝕄} {v29 v55 v66 v69 : BitVec 32}
    (h : St X W K N c (hist 122) ⊢ Q ⟨down256 (two0 X W 0 (prev2 0 c)), k0_pay61 (rowsR' c 1 (X c))⟩) :
    Safe X W K N c 120 (onRefs (k0_part46 (F := F)) c v29 v55 v66 v69) Q := by
  rw [k0_part46_eq_skeleton]; unfold k0_part46_skel
  simp only [Prog.lift, Prog.bind_op, Prog.bind_ret, Prog.pure_eq_ret, semSignalWord, semWaitWord]
  refine op_c2 120 rfl rfl (dev_of k0_dev46 (by decide +kernel) c) rfl ?_
  refine op_got 121 (.two 0 0) (by decide +kernel) rfl _ rfl ?_
  refine op_rcv 121 rfl rfl rfl ?_
  refine op_x ?_
  exact safe_ret h

theorem part47 {Q : _ → sProp 𝕄} {v42 : BitVec 32}
    (h : St X W K N c (hist 125) ⊢ Q ⟨⟩) :
    Safe X W K N c 122 (onRefs (k0_part47 (F := F)) c v42 (down256 (two0 X W 0 (prev2 0 c))) (k0_pay61 (rowsR' c 1 (X c)))) Q := by
  rw [k0_part47_eq_skeleton]; unfold k0_part47_skel
  simp only [Prog.lift, Prog.bind_op, Prog.bind_ret, Prog.pure_eq_ret]
  refine op_w ?_
  refine op_half 122 (.x 2) (by decide +kernel) (xr_place 2) (halfR 0).emb (xr_half 2 0) _ rfl ?_
  refine op_peek 122 rfl rfl fun _ => ?_
  refine op_put 122 rfl rfl rfl ?_
  refine op_send 123 rfl ⟨_, rfl⟩ ⟨_, rfl⟩ rfl rfl (dev_of k0_dev47 (by decide +kernel) c) rfl ?_
  refine op_snd 124 rfl rfl rfl ?_
  exact safe_ret h

theorem part48 {Q : _ → sProp 𝕄} {v29 v42 v55 v69 : BitVec 32}
    (h : St X W K N c (hist 127) ⊢ Q (down256 (two0 X W 1 (prev2 1 c)))) :
    Safe X W K N c 125 (onRefs (k0_part48 (F := F)) c v29 v42 v55 v69) Q := by
  rw [k0_part48_eq_skeleton]; unfold k0_part48_skel
  simp only [Prog.lift, Prog.bind_op, Prog.bind_ret, Prog.pure_eq_ret, semSignalWord, semWaitWord]
  refine op_rcv 125 rfl rfl rfl ?_
  refine op_c2 126 rfl rfl (dev_of k0_dev48 (by decide +kernel) c) rfl ?_
  refine op_got 127 (.two 1 0) (by decide +kernel) rfl _ rfl ?_
  exact safe_ret h

theorem part49 {Q : _ → sProp 𝕄} {v29 v55 : BitVec 32}
    (h : ∀ (v1391 : BitVec 32) (v1392 : BitVec 32) (v1393 : BitVec 1) (v1394 : BitVec 1) (c0_i32_1394 : BitVec 32), St X W K N c (hist 129) ⊢ Q ⟨v1391, v1392, v1393, v1394, c0_i32_1394⟩) :
    Safe X W K N c 127 (onRefs (k0_part49 (F := F)) c v29 v55 (down256 (two0 X W 1 (prev2 1 c)))) Q := by
  rw [k0_part49_eq_skeleton]; unfold k0_part49_skel
  simp only [Prog.lift, Prog.bind_op, Prog.bind_ret, Prog.pure_eq_ret]
  refine op_x ?_
  refine op_w ?_
  refine op_half 127 (.x 2) (by decide +kernel) (xr_place 2) (halfR 1).emb (xr_half 2 1) _ rfl ?_
  refine op_peek 127 rfl rfl fun _ => ?_
  refine op_put 127 rfl rfl rfl ?_
  refine op_send 128 rfl ⟨_, rfl⟩ ⟨_, rfl⟩ rfl rfl (dev_of k0_dev49 (by decide +kernel) c) rfl ?_
  exact safe_ret (h _ _ _ _ _)

end Cert.ReduceScatter
-- ==== Proof.PartsE.lean ====
/-
  The program, part by part: the last sends.
-/
module

public import proofs.«01_k».proof.Proof.Refs

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

theorem part50 {Q : _ → sProp 𝕄} {v29 v69 v1391 v1392 : BitVec 32} {v1393 v1394 : BitVec 1} {c0_i32_1394 : BitVec 32}
    (h : St X W K N c (hist 129) ⊢ Q ⟨next' X W 0 2 c, next' X W 1 2 c, next' X W 2 2 c, next' X W 3 2 c⟩) :
    Safe X W K N c 129 (onRefs (k0_part50 (F := F)) c v29 v69 v1391 v1392 v1393 v1394 c0_i32_1394) Q := by
  rw [k0_part50_eq_skeleton]; unfold k0_part50_skel
  simp only [Prog.lift, Prog.bind_op, Prog.bind_ret, Prog.pure_eq_ret]
  refine op_x ?_
  refine op_w ?_
  refine op_x ?_
  refine op_w ?_
  exact safe_ret h

theorem part51 {Q : _ → sProp 𝕄} {v42 : BitVec 32}
    (h : ∀ (c1_i32_1451 : BitVec 32), St X W K N c (hist 133) ⊢ Q c1_i32_1451) :
    Safe X W K N c 129 (onRefs (k0_part51 (F := F)) v42 (next' X W 0 2 c)) Q := by
  rw [k0_part51_eq_skeleton]; unfold k0_part51_skel
  simp only [Prog.lift, Prog.bind_op, Prog.bind_ret, Prog.pure_eq_ret, semSignalWord, semWaitWord]
  refine op_snd 129 rfl rfl rfl ?_
  refine op_rcv 130 rfl rfl rfl ?_
  refine op_got 131 (.ring 0 4) (by decide +kernel) rfl _ rfl ?_
  refine op_peek 131 rfl rfl fun _ => ?_
  refine op_put 131 rfl rfl rfl ?_
  refine op_wcr 132 rfl rfl rfl ?_
  exact safe_ret (h _)

theorem part52 {Q : _ → sProp 𝕄} {v42 v55 c1_i32_1451 : BitVec 32}
    (h : St X W K N c (hist 136) ⊢ Q (down384 (ring4 X W 2 (prev 2 c)))) :
    Safe X W K N c 133 (onRefs (k0_part52 (F := F)) c v42 v55 c1_i32_1451) Q := by
  rw [k0_part52_eq_skeleton]; unfold k0_part52_skel
  simp only [Prog.lift, Prog.bind_op, Prog.bind_ret, Prog.pure_eq_ret]
  refine op_send 133 rfl ⟨_, rfl⟩ ⟨_, rfl⟩ rfl rfl (dev_of k0_dev50 (by decide +kernel) c) rfl ?_
  refine op_snd 134 rfl rfl rfl ?_
  refine op_rcv 135 rfl rfl rfl ?_
  refine op_got 136 (.ring 2 4) (by decide +kernel) rfl _ rfl ?_
  exact safe_ret h

theorem part53 {Q : _ → sProp 𝕄} {v55 : BitVec 32}
    (h : St X W K N c (hist 140) ⊢ Q ⟨⟩) :
    Safe X W K N c 136 (onRefs (k0_part53 (F := F)) c v55 (next' X W 2 2 c) (down384 (ring4 X W 2 (prev 2 c)))) Q := by
  rw [k0_part53_eq_skeleton]; unfold k0_part53_skel
  simp only [Prog.lift, Prog.bind_op, Prog.bind_ret, Prog.pure_eq_ret, semSignalWord, semWaitWord]
  refine op_peek 136 rfl rfl fun _ => ?_
  refine op_put 136 rfl rfl rfl ?_
  refine op_wcr 137 rfl rfl rfl ?_
  refine op_send 138 rfl ⟨_, rfl⟩ ⟨_, rfl⟩ rfl rfl (dev_of k0_dev51 (by decide +kernel) c) rfl ?_
  refine op_snd 139 rfl rfl rfl ?_
  exact safe_ret h

theorem part54 {Q : _ → sProp 𝕄} {v42 : BitVec 32}
    (h : St X W K N c (hist 144) ⊢ Q ⟨⟩) :
    Safe X W K N c 140 (onRefs (k0_part54 (F := F)) c v42 (next' X W 1 2 c)) Q := by
  rw [k0_part54_eq_skeleton]; unfold k0_part54_skel
  simp only [Prog.lift, Prog.bind_op, Prog.bind_ret, Prog.pure_eq_ret, semSignalWord, semWaitWord]
  refine op_rcv 140 rfl rfl rfl ?_
  refine op_got 141 (.ring 1 4) (by decide +kernel) rfl _ rfl ?_
  refine op_peek 141 rfl rfl fun _ => ?_
  refine op_put 141 rfl rfl rfl ?_
  refine op_wcr 142 rfl rfl rfl ?_
  refine op_send 143 rfl ⟨_, rfl⟩ ⟨_, rfl⟩ rfl rfl (dev_of k0_dev52 (by decide +kernel) c) rfl ?_
  exact safe_ret h

theorem part55 {Q : _ → sProp 𝕄} {v55 : BitVec 32}
    (h : St X W K N c (hist 148) ⊢ Q ⟨⟩) :
    Safe X W K N c 144 (onRefs (k0_part55 (F := F)) v55 (next' X W 3 2 c)) Q := by
  rw [k0_part55_eq_skeleton]; unfold k0_part55_skel
  simp only [Prog.lift, Prog.bind_op, Prog.bind_ret, Prog.pure_eq_ret, semSignalWord, semWaitWord]
  refine op_snd 144 rfl rfl rfl ?_
  refine op_rcv 145 rfl rfl rfl ?_
  refine op_got 146 (.ring 3 4) (by decide +kernel) rfl _ rfl ?_
  refine op_peek 146 rfl rfl fun _ => ?_
  refine op_put 146 rfl rfl rfl ?_
  refine op_wcr 147 rfl rfl rfl ?_
  exact safe_ret h

theorem part56 {Q : _ → sProp 𝕄} {v42 v55 : BitVec 32}
    (h : St X W K N c (hist 151) ⊢ Q ⟨⟩) :
    Safe X W K N c 148 (onRefs (k0_part56 (F := F)) c v42 v55) Q := by
  rw [k0_part56_eq_skeleton]; unfold k0_part56_skel
  simp only [Prog.lift, Prog.bind_op, Prog.bind_ret, Prog.pure_eq_ret]
  refine op_send 148 rfl ⟨_, rfl⟩ ⟨_, rfl⟩ rfl rfl (dev_of k0_dev53 (by decide +kernel) c) rfl ?_
  refine op_snd 149 rfl rfl rfl ?_
  refine op_rcv 150 rfl rfl rfl ?_
  exact safe_ret h

theorem part57 {Q : _ → sProp 𝕄} {v29 v69 : BitVec 32}
    (h : St X W K N c (hist 153) ⊢ Q ⟨⟩) :
    Safe X W K N c 151 (onRefs (k0_part57 (F := F)) c v29 v69) Q := by
  rw [k0_part57_eq_skeleton]; unfold k0_part57_skel
  simp only [Prog.lift, Prog.bind_op, Prog.bind_ret, Prog.pure_eq_ret, semSignalWord, semWaitWord]
  refine op_got 151 (.two 0 1) (by decide +kernel) rfl _ rfl ?_
  refine op_x ?_
  refine op_w ?_
  refine op_half 151 (.x 1) (by decide +kernel) (xr_place 1) (halfR 0).emb (xr_half 1 0) _ rfl ?_
  refine op_peek 151 rfl rfl fun _ => ?_
  refine op_put 151 rfl rfl rfl ?_
  refine op_wc2 152 rfl rfl rfl ?_
  exact safe_ret h

theorem part58 {Q : _ → sProp 𝕄} {v42 v55 : BitVec 32}
    (h : St X W K N c (hist 156) ⊢ Q ⟨⟩) :
    Safe X W K N c 153 (onRefs (k0_part58 (F := F)) c v42 v55) Q := by
  rw [k0_part58_eq_skeleton]; unfold k0_part58_skel
  simp only [Prog.lift, Prog.bind_op, Prog.bind_ret, Prog.pure_eq_ret]
  refine op_send 153 rfl ⟨_, rfl⟩ ⟨_, rfl⟩ rfl rfl (dev_of k0_dev54 (by decide +kernel) c) rfl ?_
  refine op_snd 154 rfl rfl rfl ?_
  refine op_rcv 155 rfl rfl rfl ?_
  exact safe_ret h

theorem part59 {Q : _ → sProp 𝕄} {v29 v69 : BitVec 32}
    (h : St X W K N c (hist 158) ⊢ Q ⟨⟩) :
    Safe X W K N c 156 (onRefs (k0_part59 (F := F)) c v29 v69) Q := by
  rw [k0_part59_eq_skeleton]; unfold k0_part59_skel
  simp only [Prog.lift, Prog.bind_op, Prog.bind_ret, Prog.pure_eq_ret, semSignalWord, semWaitWord]
  refine op_got 156 (.two 1 1) (by decide +kernel) rfl _ rfl ?_
  refine op_x ?_
  refine op_w ?_
  refine op_half 156 (.x 0) (by decide +kernel) (xr_place 0) (halfR 1).emb (xr_half 0 1) _ rfl ?_
  refine op_peek 156 rfl rfl fun _ => ?_
  refine op_put 156 rfl rfl rfl ?_
  refine op_wc2 157 rfl rfl rfl ?_
  exact safe_ret h

theorem part60 {Q : _ → sProp 𝕄} {v29 v55 v69 : BitVec 32}
    (h : ∀ (v1691 : BitVec 32) (c4_i32_1724 : BitVec 32) (v1692 : BitVec 1) (c1_i32_1726 : BitVec 32), St X W K N c (hist 159) ⊢ Q ⟨dot768 (rowsR' c 3 (X c)) (wideR (W c)), v1691, c4_i32_1724, v1692, c1_i32_1726⟩) :
    Safe X W K N c 158 (onRefs (k0_part60 (F := F)) c v29 v55 v69) Q := by
  rw [k0_part60_eq_skeleton]; unfold k0_part60_skel
  simp only [Prog.lift, Prog.bind_op, Prog.bind_ret, Prog.pure_eq_ret]
  refine op_send 158 rfl ⟨_, rfl⟩ ⟨_, rfl⟩ rfl rfl (dev_of k0_dev55 (by decide +kernel) c) rfl ?_
  refine op_x ?_
  refine op_w ?_
  exact safe_ret (h _ _ _ _)

end Cert.ReduceScatter
-- ==== Proof.PartsF.lean ====
/-
  The program, part by part: the results.
-/
module

public import proofs.«01_k».proof.Proof.Refs

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

theorem part61 {Q : _ → sProp 𝕄} {v42 v69 v1691 c4_i32_1724 : BitVec 32} {v1692 : BitVec 1} {c1_i32_1726 : BitVec 32}
    (h : St X W K N c (hist 160) ⊢ Q ⟨next' X W 0 3 c, next' X W 1 3 c, next' X W 2 3 c, next' X W 3 3 c⟩) :
    Safe X W K N c 159 (onRefs (k0_part61 (F := F)) c v42 v69 (dot768 (rowsR' c 3 (X c)) (wideR (W c))) v1691 c4_i32_1724 v1692 c1_i32_1726) Q := by
  rw [k0_part61_eq_skeleton]; unfold k0_part61_skel
  simp only [Prog.lift, Prog.bind_op, Prog.bind_ret, Prog.pure_eq_ret]
  refine op_x ?_
  refine op_w ?_
  refine op_snd 159 rfl rfl rfl ?_
  exact safe_ret h

theorem part62 {Q : _ → sProp 𝕄} {v66 : BitVec 32}
    (h : St X W K N c (hist 163) ⊢ Q ⟨total X W 0 c, expNeg (total X W 0 c), Scalar.ofBits .f32 0x3F800000#32⟩) :
    Safe X W K N c 160 (onRefs (k0_part62 (F := F)) v66 (next' X W 0 3 c)) Q := by
  rw [k0_part62_eq_skeleton]; unfold k0_part62_skel
  simp only [Prog.lift, Prog.bind_op, Prog.bind_ret, Prog.pure_eq_ret]
  refine op_rcv 160 rfl rfl rfl ?_
  refine op_got 161 (.ring 0 5) (by decide +kernel) rfl _ rfl ?_
  refine op_snd 161 rfl rfl rfl ?_
  refine op_rcv 162 rfl rfl rfl ?_
  refine op_got 163 (.z 0) (by decide +kernel) rfl _ rfl ?_
  exact safe_ret h

theorem part63 {Q : _ → sProp 𝕄} {v55 : BitVec 32}
    (h : St X W K N c (hist 166) ⊢ Q (acc (ring5 X W 2 (prev 2 c)) (next' X W 2 3 c))) :
    Safe X W K N c 163 (onRefs (k0_part63 (F := F)) v55 (next' X W 2 3 c) (total X W 0 c) (expNeg (total X W 0 c)) (Scalar.ofBits .f32 0x3F800000#32)) Q := by
  rw [k0_part63_eq_skeleton]; unfold k0_part63_skel
  simp only [Prog.lift, Prog.bind_op, Prog.bind_ret, Prog.pure_eq_ret]
  refine op_peek_out fun _ => ?_
  refine op_out 163 rfl rfl rfl ?_
  refine op_snd 164 rfl rfl rfl ?_
  refine op_rcv 165 rfl rfl rfl ?_
  refine op_got 166 (.ring 2 5) (by decide +kernel) rfl _ rfl ?_
  exact safe_ret h

theorem part64 {Q : _ → sProp 𝕄} {v66 : BitVec 32}
    (h : St X W K N c (hist 169) ⊢ Q ⟨⟩) :
    Safe X W K N c 166 (onRefs (k0_part64 (F := F)) v66 (acc (ring5 X W 2 (prev 2 c)) (next' X W 2 3 c))) Q := by
  rw [k0_part64_eq_skeleton]; unfold k0_part64_skel
  simp only [Prog.lift, Prog.bind_op, Prog.bind_ret, Prog.pure_eq_ret]
  refine op_snd 166 rfl rfl rfl ?_
  refine op_rcv 167 rfl rfl rfl ?_
  refine op_got 168 (.z 2) (by decide +kernel) rfl _ rfl ?_
  refine op_peek_out fun _ => ?_
  refine op_out 168 rfl rfl rfl ?_
  exact safe_ret h

theorem part65 {Q : _ → sProp 𝕄} {v42 v66 : BitVec 32}
    (h : St X W K N c (hist 172) ⊢ Q (acc (ring5 X W 1 (prev 1 c)) (next' X W 1 3 c))) :
    Safe X W K N c 169 (onRefs (k0_part65 (F := F)) v42 v66 (next' X W 1 3 c)) Q := by
  rw [k0_part65_eq_skeleton]; unfold k0_part65_skel
  simp only [Prog.lift, Prog.bind_op, Prog.bind_ret, Prog.pure_eq_ret]
  refine op_snd 169 rfl rfl rfl ?_
  refine op_rcv 170 rfl rfl rfl ?_
  refine op_got 171 (.ring 1 5) (by decide +kernel) rfl _ rfl ?_
  refine op_snd 171 rfl rfl rfl ?_
  exact safe_ret h

theorem part66 {Q : _ → sProp 𝕄} {v55 : BitVec 32}
    (h : St X W K N c (hist 175) ⊢ Q ⟨⟩) :
    Safe X W K N c 172 (onRefs (k0_part66 (F := F)) v55 (acc (ring5 X W 1 (prev 1 c)) (next' X W 1 3 c))) Q := by
  rw [k0_part66_eq_skeleton]; unfold k0_part66_skel
  simp only [Prog.lift, Prog.bind_op, Prog.bind_ret, Prog.pure_eq_ret]
  refine op_rcv 172 rfl rfl rfl ?_
  refine op_got 173 (.z 1) (by decide +kernel) rfl _ rfl ?_
  refine op_peek_out fun _ => ?_
  refine op_out 173 rfl rfl rfl ?_
  refine op_snd 174 rfl rfl rfl ?_
  exact safe_ret h

theorem part67 {Q : _ → sProp 𝕄} {v66 : BitVec 32}
    (h : St X W K N c (hist 178) ⊢ Q ⟨total X W 3 c, broadcast S512x384 (Scalar.ofBits .f32 0x00000000#32)⟩) :
    Safe X W K N c 175 (onRefs (k0_part67 (F := F)) v66 (next' X W 3 3 c)) Q := by
  rw [k0_part67_eq_skeleton]; unfold k0_part67_skel
  simp only [Prog.lift, Prog.bind_op, Prog.bind_ret, Prog.pure_eq_ret]
  refine op_rcv 175 rfl rfl rfl ?_
  refine op_got 176 (.ring 3 5) (by decide +kernel) rfl _ rfl ?_
  refine op_snd 176 rfl rfl rfl ?_
  refine op_rcv 177 rfl rfl rfl ?_
  refine op_got 178 (.z 3) (by decide +kernel) rfl _ rfl ?_
  exact safe_ret h

theorem part68 {Q : _ → sProp 𝕄} {v29 v42 : BitVec 32}
    (h : ∀ (v1902 : BitVec 32) (c2_i32_1974 : BitVec 32), St X W K N c (hist 181) ⊢ Q ⟨down256 (two2 X W 0 (prev2 0 c)), v1902, c2_i32_1974⟩) :
    Safe X W K N c 178 (onRefs (k0_part68 (F := F)) v29 v42 (total X W 3 c) (broadcast S512x384 (Scalar.ofBits .f32 0x00000000#32))) Q := by
  rw [k0_part68_eq_skeleton]; unfold k0_part68_skel
  simp only [Prog.lift, Prog.bind_op, Prog.bind_ret, Prog.pure_eq_ret]
  refine op_peek_out fun _ => ?_
  refine op_out 178 rfl rfl rfl ?_
  refine op_snd 179 rfl rfl rfl ?_
  refine op_rcv 180 rfl rfl rfl ?_
  refine op_got 181 (.two 0 2) (by decide +kernel) rfl _ rfl ?_
  exact safe_ret (h _ _)

theorem part69 {Q : _ → sProp 𝕄} {v66 v69 v1902 c2_i32_1974 : BitVec 32}
    (h : St X W K N c (hist 182) ⊢ Q ⟨total2 X W 0 c, expNeg (total2 X W 0 c)⟩) :
    Safe X W K N c 181 (onRefs (k0_part69 (F := F)) c v66 v69 (down256 (two2 X W 0 (prev2 0 c))) v1902 c2_i32_1974) Q := by
  rw [k0_part69_eq_skeleton]; unfold k0_part69_skel
  simp only [Prog.lift, Prog.bind_op, Prog.bind_ret, Prog.pure_eq_ret]
  refine op_rcv 181 rfl rfl rfl ?_
  refine op_x ?_
  refine op_w ?_
  refine op_half 182 (.x 3) (by decide +kernel) (xr_place 3) (halfR 0).emb (xr_half 3 0) _ rfl ?_
  exact safe_ret h

theorem part70 {Q : _ → sProp 𝕄} {v29 v55 : BitVec 32}
    (h : ∀ (v1960 : BitVec 32) (c4_i32_2032 : BitVec 32), St X W K N c (hist 185) ⊢ Q ⟨down256 (two2 X W 1 (prev2 1 c)), v1960, c4_i32_2032⟩) :
    Safe X W K N c 182 (onRefs (k0_part70 (F := F)) v29 v55 (total2 X W 0 c) (expNeg (total2 X W 0 c))) Q := by
  rw [k0_part70_eq_skeleton]; unfold k0_part70_skel
  simp only [Prog.lift, Prog.bind_op, Prog.bind_ret, Prog.pure_eq_ret]
  refine op_peek_out fun _ => ?_
  refine op_out 182 rfl rfl rfl ?_
  refine op_snd 183 rfl rfl rfl ?_
  refine op_rcv 184 rfl rfl rfl ?_
  refine op_got 185 (.two 1 2) (by decide +kernel) rfl _ rfl ?_
  exact safe_ret (h _ _)

theorem part71 {Q : _ → sProp 𝕄} {v69 v1960 c4_i32_2032 : BitVec 32}
    (h : St X W K N c (hist 186) ⊢ Q ⟨⟩) :
    Safe X W K N c 185 (onRefs (k0_part71 (F := F)) c v69 (down256 (two2 X W 1 (prev2 1 c))) v1960 c4_i32_2032) Q := by
  rw [k0_part71_eq_skeleton]; unfold k0_part71_skel
  simp only [Prog.lift, Prog.bind_op, Prog.bind_ret, Prog.pure_eq_ret]
  refine op_x ?_
  refine op_w ?_
  refine op_half 185 (.x 3) (by decide +kernel) (xr_place 3) (halfR 1).emb (xr_half 3 1) _ rfl ?_
  refine op_peek_out fun _ => ?_
  refine op_out 185 rfl rfl rfl ?_
  exact safe_ret h

theorem part72 {Q : _ → sProp 𝕄} {v55 : BitVec 32}
    (h : St X W K N c (hist 191) ⊢ Q ⟨⟩) :
    Safe X W K N c 186 (onRefs (k0_part72 (F := F)) c v55) Q := by
  rw [k0_part72_eq_skeleton]; unfold k0_part72_skel
  simp only [Prog.lift, Prog.bind_op, Prog.bind_ret, Prog.pure_eq_ret, semSignalWord, semWaitWord]
  refine op_snd 186 rfl rfl rfl ?_
  refine op_snd 187 rfl rfl rfl ?_
  refine op_snd 188 rfl rfl rfl ?_
  refine op_snd 189 rfl rfl rfl ?_
  refine op_fin 190 rfl rfl (dev_of k0_dev56 (by decide +kernel) c) rfl ?_
  exact safe_ret h

end Cert.ReduceScatter
-- ==== Proof.Body.lean ====
/-
  The whole body: from the empty history to the whole script.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → XBuf F} {W : Dev nD → WBuf F} {K : GSem nD τ sig → ℕ} {N : Key → ℕ} {c : Dev nD}

theorem op_device {n : ℕ} {α : Type} {Q : α → sProp 𝕄} {k : Dev nD → Prog (TpuEff nD τ sig (Elt F) Λ₀ .tc) α}
    (hk : Safe X W K N c n (k c) Q) : Safe X W K N c n (.op .deviceId k) Q := by
  unfold Safe; rw [wp_deviceId]; exact hk

theorem part1 {Q : _ → sProp 𝕄}
    (h : ∀ (v2 v19 v29 v30 v33 v34 : BitVec 32) (v35 v36 : BitVec 1), St X W K N c (hist 0) ⊢ Q ⟨c, v2, v19, v29, v30, v33, v34, v35, v36⟩) :
    Safe X W K N c 0 (onRefs (k0_part1 (F := F))) Q := by
  rw [k0_part1_eq_skeleton]; unfold k0_part1_skel
  simp only [Prog.lift, Prog.bind_op, Prog.bind_ret, Prog.pure_eq_ret]
  refine op_device ?_
  exact safe_ret (h _ _ _ _ _ _ _ _)

theorem part73 {Q : _ → sProp 𝕄}
    (h : ∀ (v29 v42 v55 v66 v69 v1691 w : BitVec 32) (v1692 : BitVec 1) (w' : BitVec 32),
      St X W K N c (hist 159) ⊢ Q ⟨c, v29, v42, v55, v66, v69, dot768 (rowsR' c 3 (X c)) (wideR (W c)), v1691, w, v1692, w'⟩) :
    Safe X W K N c 0 (onRefs (k0_part73 (F := F))) Q := by
  rw [k0_part73_eq_skeleton]; unfold k0_part73_skel
  refine safe_bind (part1 fun _ _ _ _ _ _ _ _ => ?_)
  refine safe_bind (part2 fun _ _ _ _ _ => ?_)
  refine safe_bind (part3 fun _ _ _ _ _ _ _ => ?_)
  refine safe_bind (part4 fun _ _ _ _ _ _ => ?_)
  refine safe_bind (part5 ?_)
  refine safe_bind (part6 ?_)
  refine safe_bind (part7 ?_)
  refine safe_bind (part8 ?_)
  refine safe_bind (part9 ?_)
  refine safe_bind (part10 ?_)
  refine safe_bind (part11 fun _ => ?_)
  refine safe_bind (part12 fun _ _ => ?_)
  refine safe_bind (part13 ?_)
  refine safe_bind (part14 ?_)
  refine safe_bind (part15 fun _ => ?_)
  refine safe_bind (part16 ?_)
  refine safe_bind (part17 fun _ _ => ?_)
  refine safe_bind (part18 ?_)
  refine safe_bind (part19 fun _ => ?_)
  refine safe_bind (part20 ?_)
  refine safe_bind (part21 ?_)
  refine safe_bind (part22 ?_)
  refine safe_bind (part23 ?_)
  refine safe_bind (part24 ?_)
  refine safe_bind (part25 ?_)
  refine safe_bind (part26 fun _ => ?_)
  refine safe_bind (part27 ?_)
  refine safe_bind (part28 fun _ _ _ _ _ => ?_)
  refine safe_bind (part29 ?_)
  refine safe_bind (part30 fun _ _ _ _ _ => ?_)
  refine safe_bind (part31 ?_)
  refine safe_bind (part32 ?_)
  refine safe_bind (part33 ?_)
  refine safe_bind (part34 ?_)
  refine safe_bind (part35 ?_)
  refine safe_bind (part36 ?_)
  refine safe_bind (part37 ?_)
  refine safe_bind (part38 fun _ _ _ _ => ?_)
  refine safe_bind (part39 ?_)
  refine safe_bind (part40 ?_)
  refine safe_bind (part41 ?_)
  refine safe_bind (part42 ?_)
  refine safe_bind (part43 ?_)
  refine safe_bind (part44 ?_)
  refine safe_bind (part45 ?_)
  refine safe_bind (part46 ?_)
  refine safe_bind (part47 ?_)
  refine safe_bind (part48 ?_)
  refine safe_bind (part49 fun _ _ _ _ _ => ?_)
  refine safe_bind (part50 ?_)
  refine safe_bind (part51 fun _ => ?_)
  refine safe_bind (part52 ?_)
  refine safe_bind (part53 ?_)
  refine safe_bind (part54 ?_)
  refine safe_bind (part55 ?_)
  refine safe_bind (part56 ?_)
  refine safe_bind (part57 ?_)
  refine safe_bind (part58 ?_)
  refine safe_bind (part59 ?_)
  refine safe_bind (part60 fun _ _ _ _ => ?_)
  exact safe_ret (h _ _ _ _ _ _ _ _ _)

/-- The body runs through the script. -/
theorem body_safe : Safe X W K N c 0 (onRefs (cc0_body (F := F))) fun _ => St X W K N c (hist script.length) := by
  rw [cc0_body_eq_skeleton]; unfold cc0_body_skel
  refine safe_bind (part73 fun _ _ _ _ _ _ _ _ _ => ?_)
  refine safe_bind (part61 ?_)
  refine safe_bind (part62 ?_)
  refine safe_bind (part63 ?_)
  refine safe_bind (part64 ?_)
  refine safe_bind (part65 ?_)
  refine safe_bind (part66 ?_)
  refine safe_bind (part67 ?_)
  refine safe_bind (part68 fun _ _ => ?_)
  refine safe_bind (part69 ?_)
  refine safe_bind (part70 fun _ _ => ?_)
  refine safe_bind (part71 ?_)
  refine safe_bind (part72 ?_)
  simp only [Prog.lift, Prog.bind_op, Prog.bind_ret, Prog.pure_eq_ret, semSignalWord, semWaitWord]
  refine op_fin 191 rfl rfl (dev_of k0_dev57 (by decide +kernel) c) rfl ?_
  refine op_fin 192 rfl rfl (dev_of k0_dev58 (by decide +kernel) c) rfl ?_
  refine op_wfin 193 rfl rfl rfl ?_
  exact safe_ret (.rfl)

end Cert.ReduceScatter
-- ==== Proof.Funds.lean ====
/-
  The ghost state at launch: the semaphores' first rounds, the tokens of every contribution dealt to
  the device that makes it, the credited slots' records, and the credit every device starts with.
-/
module

public import proofs.«01_k».proof.Proof.State
public import Idealize.ShloMosaic.Lib.Pipeline.Launch
public import Idealize.ShloMosaic.Lib.Pipeline.Kit

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Cells and tokens -/

theorem cell_inj {c c' : Dev nD} {k k' : Kind} (h : cell c k = cell c' k') : c = c' ∧ k = k' :=
  ⟨congrArg (fun g : GSem nD τ sig => g.1.1) h, loc_inj (congrArg Prod.snd h)⟩

def cellAt (x : Dev nD × Kind) : GSem nD τ sig := cell x.1 x.2
theorem cellAt_inj : Function.Injective cellAt := fun x y h => by
  obtain ⟨h1, h2⟩ := cell_inj h
  exact Prod.ext h1 h2
def allCells : Finset (GSem nD τ sig) := Finset.univ.map ⟨cellAt, cellAt_inj⟩

/-- Semaphore, round and number of a contribution: to a neighbour, or to an own semaphore on which a copy leaves. -/
def tokName : Pay ⊕ Copy → Kind × ℕ × Fin 3
  | .inl p => (p.kind, p.rd, p.duty)
  | .inr e => (e.sndKind, e.rd, 0)
theorem tokName_inj : Function.Injective tokName := by
  have h : ∀ a b : Pay ⊕ Copy, tokName a = tokName b → a = b := by decide +kernel
  exact fun a b => h a b

def tokDev : Pay ⊕ Copy → Dev nD → Dev nD
  | .inl p => peer p.dir
  | .inr _ => id
theorem tokDev_inj (a : Pay ⊕ Copy) : Function.Injective (tokDev a) := by
  cases a with
  | inl p => exact Function.LeftInverse.injective (g := peer p.dir.opp) (peer_opp p.dir)
  | inr e => exact Function.injective_id

def tokAt (x : Dev nD × (Pay ⊕ Copy)) : GSem nD τ sig × ℕ × Fin 3 :=
  (cell (tokDev x.2 x.1) (tokName x.2).1, (tokName x.2).2)
theorem tokAt_inj : Function.Injective tokAt := by
  rintro ⟨c, a⟩ ⟨c', a'⟩ h
  have h1 := cell_inj (congrArg Prod.fst h)
  have h2 : a = a' := tokName_inj (Prod.ext h1.2 (show (tokName a).2 = (tokName a').2 from congrArg (fun x : GSem nD τ sig × ℕ × Fin 3 => x.2) h))
  subst h2
  have h3 : c = c' := tokDev_inj a h1.1
  rw [h3]
def allToks : Finset (GSem nD τ sig × ℕ × Fin 3) := Finset.univ.map ⟨tokAt, tokAt_inj⟩

theorem did_nil (a : Op) : ¬ did [] a = true := by simp [did]

variable (X : Dev nD → XBuf F) (W : Dev nD → WBuf F)

/-! ## The first rounds -/

/-- What the rounds' launch element deals device `c`. -/
def roundsG (c : Dev nD) : sProp 𝕄 :=
  iprop((bigSep Finset.univ fun k : Kind => roundState ER (Rd X W) (cell c k) 0)
    ∗ (bigSep Finset.univ fun k : Kind => reached ER (cell c k) 0)
    ∗ (bigSep Finset.univ fun k : Kind => atPos ER (cell c k) 0 ∅ 0)
    ∗ duty c [] ∗ sndDuty c [])

omit [FloatOps F] in
theorem cells_sum (Φ : GSem nD τ sig → sProp 𝕄) :
    bigSep allCells Φ = bigSep Finset.univ fun c : Dev nD => bigSep Finset.univ fun k : Kind => Φ (cell c k) := by
  unfold allCells; rw [bigSep_map, bigSep_univ_prod]; rfl

omit [FloatOps F] in
theorem toks_sum : bigSep allToks (fun x => (dutyTok ER x.1 x.2.1 x.2.2 : sProp 𝕄))
    = bigSep Finset.univ fun c : Dev nD => iprop(duty c [] ∗ sndDuty c []) := by
  unfold allToks; rw [bigSep_map, bigSep_univ_prod]
  refine bigSep_congr fun c _ => ?_
  rw [bigSep_univ_sum]
  unfold duty sndDuty
  congr 1 <;> exact bigSep_congr fun p _ => (if_neg (did_nil _)).symm

theorem fund_rounds : BI.own (ER (initOf allCells allToks)) ⊢ (|==> bigSep Finset.univ (roundsG X W) : sProp 𝕄) := by
  iintro HX
  imod (Rounds.fund ER (Rd X W) allCells allToks) $$ HX with ⟨Hst, Hr, Hat, Htok⟩
  imodintro
  ihave Hst' := (Entails.of_eq (cells_sum fun g => roundState ER (Rd X W) g 0)) $$ Hst
  ihave Hat' := (Entails.of_eq (cells_sum fun g => atPos ER g 0 ∅ 0)) $$ Hat
  ihave Hr' := (Entails.of_eq (cells_sum fun g => reached ER g 0)) $$ Hr
  ihave Htok' := (Entails.of_eq toks_sum) $$ Htok
  unfold roundsG; simp only [bigSep_sep']
  isplitl [Hst']; · iexact Hst'
  isplitl [Hr']; · iexact Hr'
  isplitl [Hat']; · iexact Hat'
  iexact Htok'

/-! ## The credited slots -/

/-- The slots a device writes, as their owners' keys. -/
def keyEquiv : Dev nD × (Fin 4 × Fin 3) ≃ Key where
  toFun x := (peer (streamDir x.2.1) x.1, x.2)
  invFun k := (peer (streamDir k.2.1).opp k.1, k.2)
  left_inv x := Prod.ext (peer_opp _ _) rfl
  right_inv k := Prod.ext (peer_opp' _ _) rfl

def slotsG (c : Dev nD) : sProp 𝕄 :=
  iprop(∃ N : Key → ℕ, (bigSep Finset.univ fun k : Key => slotInv ES (N k) k (slotIn X W k.1 (crSlot k.2.1 k.2.2) .any)) ∗ reader c [] ∗ writer c [])

theorem fund_slots : BI.own (ES (initSlots (Finset.univ : Finset Key) 1)) ⊢ (|={Set.univ}=> bigSep Finset.univ (slotsG X W) : sProp 𝕄) := by
  iintro H
  imod (slots_init ES (Finset.univ : Finset Key) 1 (fun k => slotIn X W k.1 (crSlot k.2.1 k.2.2) .any)) $$ H with ⟨%N, -, #Hi, Hr, Hw⟩
  imodintro
  have hr : bigSep Finset.univ (fun k : Key => (readerAt ES k 0 : sProp 𝕄)) = bigSep Finset.univ fun c : Dev nD => reader c [] := by
    rw [bigSep_univ_prod]
    refine bigSep_congr fun c _ => ?_
    unfold reader
    exact bigSep_congr fun p _ => (if_neg (did_nil _)).symm
  have hw : bigSep ((Finset.univ : Finset Key) ×ˢ Finset.range 1) (fun x => (writeTok ES x.1 (x.2 + 1) : sProp 𝕄)) = bigSep Finset.univ fun c : Dev nD => writer c [] := by
    have hp : (Finset.univ : Finset Key) ×ˢ Finset.range 1 = (Finset.univ : Finset Key).map ⟨fun k => (k, 0), fun a b h => congrArg Prod.fst h⟩ := by
      ext ⟨k, n⟩
      simp only [Finset.mem_product, Finset.mem_univ, true_and, Finset.mem_range, Nat.lt_one_iff, Finset.mem_map]
      exact ⟨fun h => ⟨k, by rw [h]; rfl⟩, fun ⟨_, h⟩ => (congrArg Prod.snd h).symm⟩
    rw [hp, bigSep_map, bigSep_univ_equiv keyEquiv, bigSep_univ_prod]
    refine bigSep_congr fun c _ => ?_
    unfold writer
    exact bigSep_congr fun p _ => (if_neg (did_nil _)).symm
  ihave Hr := (Entails.of_eq hr) $$ Hr
  ihave Hw := (Entails.of_eq hw) $$ Hw
  ihave Hrw := (Entails.of_eq (bigSep_sep' Finset.univ (fun c : Dev nD => reader (F := F) c []) fun c => writer c []).symm) $$ [Hr Hw]
  · isplitl [Hr] <;> iassumption
  have hone : ∀ c ∈ (Finset.univ : Finset (Dev nD)),
      iprop((bigSep Finset.univ fun k : Key => slotInv ES (N k) k (slotIn X W k.1 (crSlot k.2.1 k.2.2) .any)) ∗ reader c [] ∗ writer c []) ⊢ slotsG X W c := fun c _ => by
    unfold slotsG
    iintro H
    iexists N; iexact H
  iapply (bigSep_with_persistent hone)
  isplitr; · iexact Hi
  iexact Hrw

/-! ## The launch credit -/

/-- The wait a payment serves. -/
def payWait : Pay → Wait
  | .bar _ => .bar
  | .fin _ => .fin
  | .cr i j => .credit i j
  | .c2 i => .c2 i
  | .copy e => .rcv e

theorem payWait_kind (p : Pay) : (payWait p).kind = p.kind := by cases p <;> rfl
theorem payWait_rd (p : Pay) : (payWait p).rd = p.rd := by cases p <;> rfl
theorem payWait_amt (w : Wait) : (∑ p ∈ Finset.univ.filter (fun p : Pay => payWait p = w), p.kind.amt) = if credited? [] w then w.amt else 0 := by
  have h1 (w : Wait) (p : Pay) (h : ∀ q, payWait q = w ↔ q = p) : Finset.univ.filter (fun p : Pay => payWait p = w) = {p} := by
    ext q; simp [h q]
  have h3 (w : Wait) (f : Dir → Pay) (h : ∀ q, payWait q = w ↔ q = f .left ∨ q = f .right ∨ q = f .across) :
      Finset.univ.filter (fun p : Pay => payWait p = w) = {f .left, f .right, f .across} := by
    ext q; simp [h q]
  cases w with
  | bar =>
    rw [h3 .bar .bar (by intro q; rcases q with d | d | ⟨i, j⟩ | i | e <;> simp [payWait]; cases d <;> simp)]
    rfl
  | fin =>
    rw [h3 .fin .fin (by intro q; rcases q with d | d | ⟨i, j⟩ | i | e <;> simp [payWait]; cases d <;> simp)]
    rfl
  | credit i j =>
    rw [h1 _ (.cr i j) (by intro q; rcases q with d | d | ⟨i, j⟩ | i | e <;> simp [payWait]), Finset.sum_singleton]; rfl
  | c2 i =>
    rw [h1 _ (.c2 i) (by intro q; rcases q with d | d | ⟨i, j⟩ | i | e <;> simp [payWait]), Finset.sum_singleton]; rfl
  | snd e =>
    rw [Finset.filter_false_of_mem (by intro q _; rcases q with d | d | ⟨i, j⟩ | i | e <;> simp [payWait]), Finset.sum_empty]; rfl
  | rcv e =>
    rw [h1 _ (.copy e) (by intro q; rcases q with d | d | ⟨i, j⟩ | i | e <;> simp [payWait]), Finset.sum_singleton]; rfl

omit [FloatOps F] in
theorem cred_launch (c : Dev nD) : (Pipeline.launchCred (fun d => owed d []) c : sProp 𝕄) ⊢ credIn c [] := by
  have h0 : (fun d : Dev nD => owed d []) = fun d => ∑ p ∈ (Finset.univ : Finset Pay), tallyAt (cell (peer p.dir d) p.kind) p.rd p.kind.amt := by
    funext d
    unfold owed
    rw [Finset.filter_true_of_mem fun p _ => by simp [did]]
  have h1 : (bigSep Finset.univ fun p : Pay => (cred (tallyAt (cell c p.kind) p.rd p.kind.amt) : sProp 𝕄)) = credIn c [] := by
    rw [← Pipeline.cred_finsetSum]
    unfold credIn
    have hs : ∑ p : Pay, tallyAt (cell c p.kind) p.rd p.kind.amt
        = ∑ w : Wait, (tallyAt (cell c w.kind) w.rd (if credited? [] w then w.amt else 0) : CellTallies nD τ sig ℕ) := by
      rw [← Finset.sum_fiberwise Finset.univ payWait]
      refine Finset.sum_congr rfl fun w _ => ?_
      rw [← payWait_amt w]
      have ht (s : Finset Pay) (hs : ∀ p ∈ s, payWait p = w) :
          ∑ p ∈ s, tallyAt (cell c p.kind) p.rd p.kind.amt = (tallyAt (cell c w.kind) w.rd (∑ p ∈ s, p.kind.amt) : CellTallies nD τ sig ℕ) := by
        induction s using Finset.induction_on with
        | empty => simp
        | insert a s ha ih =>
          rw [Finset.sum_insert ha, Finset.sum_insert ha, ih fun p hp => hs p (Finset.mem_insert_of_mem hp), ← tallyAt_add,
            ← payWait_kind a, ← payWait_rd a, hs a (Finset.mem_insert_self _ _)]
      exact ht _ fun p hp => (Finset.mem_filter.mp hp).2
    rw [hs, Pipeline.cred_finsetSum]
    refine bigSep_congr fun w _ => ?_
    split
    · exact rfl
    · rw [tallyAt_zero, cred_zero]
  rw [h0, Pipeline.launchCred_sum, ← h1]
  exact bigSep_mono fun p _ => Pipeline.launchCred_tallyAt (loc p.kind) (peer p.dir) (peer p.dir.opp) (peer_opp' p.dir) (peer_opp p.dir) p.rd p.kind.amt c

end Cert.ReduceScatter
-- ==== Proof.Start.lean ====
/-
  The invariants allocated for all devices together, and what every device starts from.
-/
module

public import proofs.«01_k».proof.Proof.Funds

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## A device's semaphores -/

/-- The kernel's own semaphores: all but the barrier's. -/
abbrev OwnKind : Type := { k : Kind // k ≠ .bar }
abbrev ownSem (k : OwnKind) : SemLoc sig := loc k.1

theorem ownSem_facts : Pipeline.OwnSemFacts cfg0.spec ownSem := by
  refine ⟨fun k => ?_, fun a b h => Subtype.ext (loc_inj h), fun k w s => ?_⟩
  · obtain ⟨k, hk⟩ := k
    revert k; decide +kernel
  · have h : ∀ (k : Kind) (w : Fin cfg0.W) (s : Fin (cfg0.spec w).nbuf), loc k ≠ .dma ((cfg0.spec w).sem s) := by decide +kernel
    exact h k.1 w s

omit [FloatOps F] in
theorem ownSems_sum (c : Dev nD) :
    iprop(Pipeline.ownSems0 (Ix := ℕ) (Name := ℕ) (U := UU) (Lvl := ℕ) (Val := Elt F) (τ := τ) ownSem c ∗ unscopedSems0 c)
      = (bigSep Finset.univ fun k : Kind => semVal (cell c k) 0 : sProp 𝕄) := by
  have hf : (Finset.univ.filter fun sm : SemLoc sig => ¬ sm.isScoped .tc) = {loc .bar} := by decide +kernel
  have ho : (Pipeline.ownSems0 (Ix := ℕ) (Name := ℕ) (U := UU) (Lvl := ℕ) (Val := Elt F) (τ := τ) ownSem c : sProp 𝕄)
      = bigSep (Finset.univ.erase Kind.bar) fun k => semVal (cell c k) 0 := by
    unfold Pipeline.ownSems0
    exact bigSep_subtype_ne Kind.bar fun k => (semVal (cell c k) 0 : sProp 𝕄)
  have hu : (unscopedSems0 c : sProp 𝕄) = semVal (cell c .bar) 0 := by
    unfold unscopedSems0; rw [hf, bigSep_singleton]
  rw [ho, hu, bigSep_univ_at _ Kind.bar]
  refine BI.Entails.antisymm (show _ ⊢ (_ : sProp 𝕄) from ?_) (show _ ⊢ (_ : sProp 𝕄) from ?_) <;>
    (iintro ⟨H, H'⟩; isplitl [H'] <;> iassumption)

variable (X : Dev nD → XBuf F) (W : Dev nD → WBuf F)

/-! ## The invariants -/

/-- What the launch element deals device `c`. -/
def launchG (c : Dev nD) : sProp 𝕄 := iprop(roundsG X W c ∗ slotsG X W c)

/-- What device `c` is left with beside its invariants. -/
def ownG (c : Dev nD) : sProp 𝕄 :=
  iprop((bigSep Finset.univ fun k : Kind => atPos ER (cell c k) 0 ∅ 0) ∗ (duty c [] ∗ sndDuty c []) ∗ slotsG X W c)

/-- The invariants of all semaphores, and that all are in their first round. -/
def cellsG (K : GSem nD τ sig → ℕ) : sProp 𝕄 :=
  iprop((bigSep Finset.univ fun x : Dev nD × Kind => cellInv ER (Rd X W) (K (cell x.1 x.2)) (cell x.1 x.2))
    ∗ (bigSep Finset.univ fun x : Dev nD × Kind => reached ER (cell x.1 x.2) 0))

instance cellsG_persistent (K : GSem nD τ sig → ℕ) : BI.Persistent (cellsG X W K) := by unfold cellsG; infer_instance

def startG (c : Dev nD) : sProp 𝕄 := iprop(∃ K, cellsG X W K ∗ ownG X W c)

theorem open_core (c : Dev nD) :
    iprop(Pipeline.ownSems0 (Ix := ℕ) (Name := ℕ) (U := UU) (Lvl := ℕ) (Val := Elt F) (τ := τ) ownSem c ∗ unscopedSems0 c ∗ launchG X W c)
      ⊢ |={Set.univ}=> iprop((bigSep Finset.univ fun k : Kind => iprop(∃ κ : ℕ, cellInv ER (Rd X W) κ (cell c k)))
          ∗ (bigSep Finset.univ fun k : Kind => reached ER (cell c k) 0) ∗ ownG X W c) := by
  have hinv : iprop((bigSep Finset.univ fun k : Kind => semVal (cell c k) 0) ∗ bigSep Finset.univ fun k : Kind => roundState ER (Rd X W) (cell c k) 0)
      ⊢ (|={Set.univ}=> bigSep Finset.univ fun k : Kind => iprop(∃ κ : ℕ, cellInv ER (Rd X W) κ (cell c k)) : sProp 𝕄) := by
    rw [← bigSep_sep']
    exact (bigSep_mono fun k _ => (Rounds.body_intro ER (Rd X W) (cell c k)).trans inv_alloc).trans (bigSep_fupd _ _)
  unfold launchG roundsG ownG
  iintro ⟨Hos, Hus, ⟨Hst, Hr, Hat, Hd, Hs⟩, Hsl⟩
  ihave Hv := (Entails.of_eq (ownSems_sum (F := F) c)) $$ [Hos Hus]
  · isplitl [Hos] <;> iassumption
  imod hinv $$ [Hv Hst] with Hinv
  · isplitl [Hv] <;> iassumption
  imodintro
  isplitl [Hinv]; · iexact Hinv
  isplitl [Hr]; · iexact Hr
  isplitl [Hat]; · iexact Hat
  isplitl [Hd Hs]; · isplitl [Hd] <;> iassumption
  iexact Hsl

theorem regroup :
    (bigSep Finset.univ fun c : Dev nD => iprop((bigSep Finset.univ fun k : Kind => iprop(∃ κ : ℕ, cellInv ER (Rd X W) κ (cell c k)))
          ∗ (bigSep Finset.univ fun k : Kind => reached ER (cell c k) 0) ∗ ownG X W c) : sProp 𝕄)
      ⊢ bigSep Finset.univ (startG X W) := by
  rw [bigSep_sep', bigSep_sep', ← bigSep_univ_prod (fun x : Dev nD × Kind => iprop(∃ κ : ℕ, cellInv ER (Rd X W) κ (cell x.1 x.2))),
    ← bigSep_univ_prod (fun x : Dev nD × Kind => (reached ER (cell x.1 x.2) 0 : sProp 𝕄))]
  iintro ⟨HI, #HR, Ho⟩
  ihave HK := (BI.bigSep_exists_pi Finset.univ (fun (x : Dev nD × Kind) (κ : ℕ) => (cellInv ER (Rd X W) κ (cell x.1 x.2) : sProp 𝕄))) $$ HI
  icases HK with ⟨%K, #HI⟩
  have hK : (fun x : Dev nD × Kind => (cellInv ER (Rd X W) (K x) (cell x.1 x.2) : sProp 𝕄))
      = fun x => cellInv ER (Rd X W) ((fun g : GSem nD τ sig => K (g.1.1, (kindOf g.2).getD .bar)) (cell x.1 x.2)) (cell x.1 x.2) := by
    funext x
    dsimp only
    rw [kindOf_loc]
    rfl
  have hone : ∀ c ∈ (Finset.univ : Finset (Dev nD)),
      iprop(cellsG X W (fun g : GSem nD τ sig => K (g.1.1, (kindOf g.2).getD .bar)) ∗ ownG X W c) ⊢ startG X W c := fun c _ => by
    unfold startG
    iintro H
    iexists _; iexact H
  ihave HI' := (Entails.of_eq (congrArg (bigSep Finset.univ) hK)) $$ HI
  iapply (bigSep_with_persistent hone)
  isplitr
  · unfold cellsG
    isplitl; · iexact HI'
    iexact HR
  iexact Ho

theorem glob : (bigSep Finset.univ fun c => iprop(Pipeline.ownSems0 (Ix := ℕ) (Name := ℕ) (U := UU) (Lvl := ℕ) (Val := Elt F) (τ := τ) ownSem c
      ∗ unscopedSems0 c ∗ launchG X W c) : sProp 𝕄)
    ⊢ |={Set.univ}=> bigSep Finset.univ (startG X W) :=
  ((bigSep_mono fun c _ => open_core X W c).trans (bigSep_fupd _ _)).trans (BI.fupd_mono (regroup X W))

/-! ## The first state -/

omit [FloatOps F] in
theorem stands_init (c : Dev nD) :
    iprop((bigSep Finset.univ fun k : Kind => atPos ER (cell c k) 0 ∅ 0) ∗ bigSep Finset.univ fun k : Kind => reached ER (cell c k) 0)
      ⊢ (stands c [] : sProp 𝕄) := by
  rw [← bigSep_sep']
  unfold stands
  refine bigSep_mono fun k _ => ?_
  show _ ⊢ stand c k 0
  by_cases hk : ∀ i, k ≠ .cr i
  · rw [stand_plain hk]
  · push Not at hk
    obtain ⟨i, rfl⟩ := hk
    show _ ⊢ (if 0 = 3 then atPos ER (cell c (.cr i)) 1 ∅ 0
      else iprop(∃ S : Finset (Fin 3), ⌜0 ≤ S.card⌝ ∗ atPos ER (cell c (.cr i)) 0 S 0 ∗ bigSep S fun d => upTo c i d) : sProp 𝕄)
    rw [if_neg (by decide)]
    iintro ⟨H, -⟩
    iexists ∅
    isplitr; · ipureintro; exact Nat.zero_le _
    isplitl [H]; · iexact H
    rw [bigSep_empty]; iempintro

theorem farS_none (c : Dev nD) : (farS X W c fun _ => .none) = (BI.emp : sProp 𝕄) := by
  unfold farS; exact bigSep_emp_const _

/-- The device's first state, from what it starts with and its buffers. -/
theorem first_state (c : Dev nD) :
    iprop((startG X W c ∗ levAts Lv lv ∗ credIn c []) ∗ (∃ V, owes (c : Thread nD τ) (owed c []) V) ∗ ownS X W c (fun _ => .any)
        ∗ inX X c ∗ inW W c ∗ ∃ f : OBuf F, ((c : Thread nD τ).loc cc0_stg2_0) ↦{fullShare} f)
      ⊢ (iprop(∃ K N, St X W K N c (hist 0)) : sProp 𝕄) := by
  unfold startG ownG slotsG cellsG
  iintro ⟨⟨⟨%K, ⟨#Hi, #Hr⟩, Hat, ⟨Hd, Hs⟩, %N, #Hsl, Hre, Hwr⟩, #Hlv, Hcr⟩, Ho, Hown, Hx, Hw, %f, Hf⟩
  iexists K; iexists N
  have hr : (bigSep Finset.univ fun x : Dev nD × Kind => (reached ER (cell x.1 x.2) 0 : sProp 𝕄)) ⊢ bigSep Finset.univ fun k : Kind => reached ER (cell c k) 0 := by
    rw [bigSep_univ_prod]; exact bigSep_elim (Φ := fun c : Dev nD => bigSep Finset.univ fun k : Kind => (reached ER (cell c k) 0 : sProp 𝕄)) (Finset.mem_univ c)
  unfold St known
  isplitr
  · isplitr; · iexact Hi
    isplitr; · iexact Hsl
    isplitr; · iexact Hr
    iexact Hlv
  isplitl [Ho]; · iexact Ho
  isplitl [Hd]; · iexact Hd
  isplitl [Hs]; · iexact Hs
  isplitl [Hcr]; · iexact Hcr
  isplitl [Hat]
  · iapply (stands_init (F := F) c)
    isplitl [Hat]; · iexact Hat
    iapply hr; iexact Hr
  isplitl [Hre]; · iexact Hre
  isplitl [Hwr]; · iexact Hwr
  isplitl [Hown]; · iexact Hown
  isplitr
  · have hf := Entails.of_eq (farS_none X W c).symm
    iapply hf; iempintro
  isplitl [Hx]; · iexact Hx
  isplitl [Hw]; · iexact Hw
  unfold outS
  iexists f
  isplitr
  · ipureintro; intro q hq; exact absurd hq (did_nil _)
  iexact Hf

/-! ## The last state -/

theorem end_stand (K : GSem nD τ sig → ℕ) (N : Key → ℕ) (c : Dev nD) :
    iprop(known X W K N ∗ stands c (hist script.length)) ⊢ (|={Set.univ}=> bigSep Finset.univ fun k : Kind => semVal (cell c k) 0 : sProp 𝕄) := by
  refine .trans ?_ (bigSep_fupd _ _)
  refine bigSep_with_persistent fun k _ => ?_
  have hclose : iprop(cellInv ER (Rd X W) (K (cell c k)) (cell c k) ∗ atPos ER (cell c k) k.rounds ∅ 0) ⊢ (|={Set.univ}=> semVal (cell c k) 0 : sProp 𝕄) :=
    cell_close ER (Rd X W) (Set.mem_univ _) (fun h => h) (duties_late X W c k)
  have hst : stand c k (waits k (hist script.length)) ⊢ (atPos ER (cell c k) k.rounds ∅ 0 : sProp 𝕄) := by
    rw [end_waits]
    by_cases hk : ∀ i, k ≠ .cr i
    · rw [stand_plain hk]
      cases k <;> first | exact absurd rfl (hk _) | (iintro ⟨H, -⟩; iexact H)
    · push Not at hk
      obtain ⟨i, rfl⟩ := hk
      show (if 3 = 3 then atPos ER (cell c (.cr i)) 1 ∅ 0
        else iprop(∃ S : Finset (Fin 3), ⌜3 ≤ S.card⌝ ∗ atPos ER (cell c (.cr i)) 0 S 3 ∗ bigSep S fun d => upTo c i d) : sProp 𝕄) ⊢ _
      rw [if_pos rfl]
      exact BI.Entails.refl _
  iintro ⟨#Hk, Hs⟩
  iapply hclose
  isplitr; · iapply (known_cell X W K N c k); iexact Hk
  iapply hst; iexact Hs

end Cert.ReduceScatter
-- ==== Proof.Scratch.lean ====
/-
  The scratch buffers, whole and slot by slot.
-/
module

public import proofs.«01_k».proof.Proof.State
public import proofs.«01_k».proof.Proof.Gen.KernelIdeal.Launch

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## A buffer cut into slices -/

omit [FloatOps F] in
theorem join_any {ℓ : Loc nD τ sig} {n : ℕ} (S : Fin n → Finset (Idx ℓ)) (f₀ : Buf (Elt F) ℓ) (hd : ∀ k k', k ≠ k' → Disjoint (S k) (S k'))
    (hu : Finset.univ.biUnion S = Finset.univ) :
    (bigSep Finset.univ fun k => iprop(∃ f : Buf (Elt F) ℓ, ℓ ↦[S k]{fullShare} f) : sProp 𝕄) ⊢ iprop(∃ f : Buf (Elt F) ℓ, ℓ ↦{fullShare} f) := by
  haveI : Nonempty (Buf (Elt F) ℓ) := ⟨f₀⟩
  refine (bigSep_exists_pi Finset.univ _).trans ?_
  have h2 (fs : Fin n → Buf (Elt F) ℓ) : (bigSep Finset.univ fun k => (ℓ ↦[S k]{fullShare} fs k) : sProp 𝕄) ⊢ iprop(∃ f : Buf (Elt F) ℓ, ℓ ↦{fullShare} f) := by
    have h := pointsTo_biUnion_join (Ix := ℕ) (Name := ℕ) (U := UU) (Lvl := ℕ) (q := fullShare) Finset.univ S fs f₀ fun k _ k' _ hk => hd k k' hk
    rw [hu] at h
    refine h.trans ?_
    iintro ⟨%g, -, H⟩
    iexists g; iexact H
  iintro ⟨%fs, H⟩
  iapply (h2 fs); iexact H

section Cut
variable {s : Shape} {m : Memref sig .tc .vmem s .f32} {n : ℕ} {r : Fin n → Rect s}

theorem cut_disjoint (h0 : ∀ k k' j j', (r k).emb j = (r k').emb j' → k = k') (k k' : Fin n) (hk : k ≠ k') :
    Disjoint (m.access (r k)).set (m.access (r k')).set := by
  rw [Finset.disjoint_left]
  intro x hx hx'
  obtain ⟨j, -, rfl⟩ := Finset.mem_map.mp hx
  obtain ⟨j', -, e⟩ := Finset.mem_map.mp hx'
  exact hk (h0 k k' j j' (m.view.emb.injective e.symm))

theorem cut_cover (hm : m.view.set = Finset.univ) (hc : ∀ i, ∃ k j, (r k).emb j = i) :
    Finset.biUnion (β := m.view.ty.Idx) Finset.univ (fun k => (m.access (r k)).set) = Finset.univ := by
  refine Finset.eq_univ_iff_forall.mpr fun x => ?_
  have hx : x ∈ m.view.set := by rw [hm]; exact Finset.mem_univ x
  obtain ⟨i, -, rfl⟩ := Finset.mem_map.mp hx
  obtain ⟨k, j, rfl⟩ := hc i
  exact Finset.mem_biUnion.mpr ⟨k, Finset.mem_univ _, Finset.mem_map.mpr ⟨j, Finset.mem_univ _, rfl⟩⟩

omit [FloatOps F] in
theorem cut_split (hm : m.view.set = Finset.univ) (h0 : ∀ k k' j j', (r k).emb j = (r k').emb j' → k = k') (hc : ∀ i, ∃ k j, (r k).emb j = i) (c : Dev nD) :
    (iprop(∃ f : Buf (Elt F) (m.view.loc (c : Thread nD τ)), m.view.loc (c : Thread nD τ) ↦{fullShare} f) : sProp 𝕄)
      ⊢ bigSep Finset.univ fun k => pts ⟨_, m.access (r k)⟩ c fun _ => True := by
  iintro ⟨%f, H⟩
  have h : (m.view.loc (c : Thread nD τ) ↦{fullShare} f : sProp 𝕄)
      = bigSep Finset.univ fun k => (m.view.loc (c : Thread nD τ) ↦[(m.access (r k)).set]{fullShare} f) := by
    rw [← cut_cover hm hc]
    exact pointsTo_biUnion Finset.univ _ fun k _ k' _ hk => cut_disjoint h0 k k' hk
  have h' : (bigSep Finset.univ fun k => (m.view.loc (c : Thread nD τ) ↦[(m.access (r k)).set]{fullShare} f) : sProp 𝕄)
      ⊢ bigSep Finset.univ fun k => pts ⟨_, m.access (r k)⟩ c fun _ => True := by
    refine bigSep_mono fun k _ => (show _ ⊢ (_ : sProp 𝕄) from ?_)
    unfold pts
    iintro H
    iexists f
    isplitr; · ipureintro; trivial
    iexact H
  iapply h'
  ihave H := (Entails.of_eq h) $$ H
  iexact H

omit [FloatOps F] in
theorem cut_join (hm : m.view.set = Finset.univ) (h0 : ∀ k k' j j', (r k).emb j = (r k').emb j' → k = k') (hc : ∀ i, ∃ k j, (r k).emb j = i) (c : Dev nD)
    (f₀ : Buf (Elt F) (m.view.loc (c : Thread nD τ))) :
    (bigSep Finset.univ fun k => pts ⟨_, m.access (r k)⟩ c fun _ => True : sProp 𝕄)
      ⊢ iprop(∃ f : Buf (Elt F) (m.view.loc (c : Thread nD τ)), m.view.loc (c : Thread nD τ) ↦{fullShare} f) := by
  have h1 : (bigSep Finset.univ fun k => pts ⟨_, m.access (r k)⟩ c fun _ => True : sProp 𝕄)
      ⊢ bigSep Finset.univ fun k => iprop(∃ f : Buf (Elt F) (m.view.loc (c : Thread nD τ)), m.view.loc (c : Thread nD τ) ↦[(m.access (r k)).set]{fullShare} f) := by
    refine bigSep_mono fun k _ => (show _ ⊢ (_ : sProp 𝕄) from ?_)
    unfold pts
    iintro ⟨%f, -, H⟩
    iexists f; iexact H
  exact h1.trans (join_any _ f₀ (fun k k' hk => cut_disjoint h0 k k' hk) (cut_cover hm hc))

end Cut

/-! ## The five families of slices -/

theorem buf_one (k k' : Fin 5) (j : (bufR k).shape.Idx) (j' : (bufR k').shape.Idx) (h : (bufR k).emb j = (bufR k').emb j') : k = k' := by
  have h' := congrArg Fin.val (congrFun h 0)
  have h1 : (j 0).val < 1 := (j 0).isLt
  have h2 : (j' 0).val < 1 := (j' 0).isLt
  change k.val + 1 * (j 0).val = k'.val + 1 * (j' 0).val at h'
  exact Fin.ext (by omega)
theorem zr_one (k k' : Fin 4) (j : (zrR k).shape.Idx) (j' : (zrR k').shape.Idx) (h : (zrR k).emb j = (zrR k').emb j') : k = k' := by
  have h' := congrArg Fin.val (congrFun h 0)
  have h1 : (j 0).val < 1 := (j 0).isLt
  have h2 : (j' 0).val < 1 := (j' 0).isLt
  change k.val + 1 * (j 0).val = k'.val + 1 * (j' 0).val at h'
  exact Fin.ext (by omega)
theorem xr_one (k k' : Fin 4) (j : (xrR k).shape.Idx) (j' : (xrR k').shape.Idx) (h : (xrR k).emb j = (xrR k').emb j') : k = k' := by
  have h' := congrArg Fin.val (congrFun h 0)
  have h1 : (j 0).val < 1 := (j 0).isLt
  have h2 : (j' 0).val < 1 := (j' 0).isLt
  change k.val + 1 * (j 0).val = k'.val + 1 * (j' 0).val at h'
  exact Fin.ext (by omega)
theorem b2_one (k k' : Fin 3) (j : (b2R k).shape.Idx) (j' : (b2R k').shape.Idx) (h : (b2R k).emb j = (b2R k').emb j') : k = k' := by
  have h' := congrArg Fin.val (congrFun h 0)
  have h1 : (j 0).val < 1 := (j 0).isLt
  have h2 : (j' 0).val < 1 := (j' 0).isLt
  change k.val + 1 * (j 0).val = k'.val + 1 * (j' 0).val at h'
  exact Fin.ext (by omega)

theorem buf_all (i : S5x512x384.Idx) : ∃ k j, (bufR k).emb j = i := by
  refine ⟨i 0, fun | 0 => ⟨0, Nat.one_pos⟩ | 1 => i 1 | 2 => i 2, funext fun a => Fin.ext ?_⟩
  match a with
  | 0 => exact Nat.add_zero _
  | 1 => exact (Nat.zero_add _).trans (Nat.one_mul _)
  | 2 => exact (Nat.zero_add _).trans (Nat.one_mul _)
theorem zr_all (i : S4x512x384.Idx) : ∃ k j, (zrR k).emb j = i := by
  refine ⟨i 0, fun | 0 => ⟨0, Nat.one_pos⟩ | 1 => i 1 | 2 => i 2, funext fun a => Fin.ext ?_⟩
  match a with
  | 0 => exact Nat.add_zero _
  | 1 => exact (Nat.zero_add _).trans (Nat.one_mul _)
  | 2 => exact (Nat.zero_add _).trans (Nat.one_mul _)
theorem xr_all (i : S4x512x512.Idx) : ∃ k j, (xrR k).emb j = i := by
  refine ⟨i 0, fun | 0 => ⟨0, Nat.one_pos⟩ | 1 => i 1 | 2 => i 2, funext fun a => Fin.ext ?_⟩
  match a with
  | 0 => exact Nat.add_zero _
  | 1 => exact (Nat.zero_add _).trans (Nat.one_mul _)
  | 2 => exact (Nat.zero_add _).trans (Nat.one_mul _)
theorem b2_all (i : S3x512x256.Idx) : ∃ k j, (b2R k).emb j = i := by
  refine ⟨i 0, fun | 0 => ⟨0, Nat.one_pos⟩ | 1 => i 1 | 2 => i 2, funext fun a => Fin.ext ?_⟩
  match a with
  | 0 => exact Nat.add_zero _
  | 1 => exact (Nat.zero_add _).trans (Nat.one_mul _)
  | 2 => exact (Nat.zero_add _).trans (Nat.one_mul _)

/-! ## All the slots -/

/-- The slots by buffer. -/
def slotSum : ((Fin 4 × Fin 5) ⊕ Fin 4) ⊕ ((Fin 4 ⊕ Fin 4) ⊕ (Fin 2 × Fin 3)) ≃ Slot where
  toFun
    | .inl (.inl (i, k)) => .buf i k
    | .inl (.inr i) => .zr i
    | .inr (.inl (.inl i)) => .xb i
    | .inr (.inl (.inr i)) => .xr i
    | .inr (.inr (i, k)) => .b2 i k
  invFun
    | .buf i k => .inl (.inl (i, k))
    | .zr i => .inl (.inr i)
    | .xb i => .inr (.inl (.inl i))
    | .xr i => .inr (.inl (.inr i))
    | .b2 i k => .inr (.inr (i, k))
  left_inv x := by rcases x with (⟨i, k⟩ | i) | ((i | i) | ⟨i, k⟩) <;> rfl
  right_inv z := by cases z <;> rfl

omit [FloatOps F] in
theorem slots_sum (Φ : Slot → sProp 𝕄) : bigSep Finset.univ Φ
    = iprop(((bigSep Finset.univ fun i : Fin 4 => bigSep Finset.univ fun k : Fin 5 => Φ (.buf i k)) ∗ bigSep Finset.univ fun i : Fin 4 => Φ (.zr i))
      ∗ ((bigSep Finset.univ fun i : Fin 4 => Φ (.xb i)) ∗ bigSep Finset.univ fun i : Fin 4 => Φ (.xr i))
      ∗ bigSep Finset.univ fun i : Fin 2 => bigSep Finset.univ fun k : Fin 3 => Φ (.b2 i k)) := by
  rw [bigSep_univ_equiv slotSum, bigSep_univ_sum, bigSep_univ_sum, bigSep_univ_sum, bigSep_univ_sum, bigSep_univ_prod, bigSep_univ_prod]
  rfl

omit [FloatOps F] in
theorem four_sum (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem two_sum (Φ : Fin 2 → sProp 𝕄) : bigSep Finset.univ Φ = iprop(Φ 0 ∗ Φ 1) :=
  bigSep_univ_eq_bigSepL [0, 1] (by decide) (by decide) Φ

variable (X : Dev nD → XBuf F) (W : Dev nD → WBuf F)

/-- The scratch buffers of a device. -/
abbrev scratch (c : Dev nD) : sProp 𝕄 :=
  Pipeline.scopedRest (Ix := ℕ) (Name := ℕ) (U := UU) (Lvl := ℕ) (Val := Elt F) spec0 c

theorem scratch_split (c : Dev nD) : scratch c ⊢ ownS X W c fun _ => .any := by
  have h0 := cut_split (F := F) (m := bufM 0) (View.set_whole _) buf_one buf_all c
  have h1 := cut_split (F := F) (m := bufM 1) (View.set_whole _) buf_one buf_all c
  have h2 := cut_split (F := F) (m := bufM 2) (View.set_whole _) buf_one buf_all c
  have h3 := cut_split (F := F) (m := bufM 3) (View.set_whole _) buf_one buf_all c
  have h4 := cut_split (F := F) (m := zrM) (View.set_whole _) zr_one zr_all c
  have h5 := cut_split (F := F) (m := xbM) (View.set_whole _) xr_one xr_all c
  have h6 := cut_split (F := F) (m := xrM) (View.set_whole _) xr_one xr_all c
  have h7 := cut_split (F := F) (m := b2M 0) (View.set_whole _) b2_one b2_all c
  have h8 := cut_split (F := F) (m := b2M 1) (View.set_whole _) b2_one b2_all c
  unfold scratch
  rw [scopedRest0_eq]
  unfold ownS
  rw [slots_sum, four_sum, two_sum]
  iintro ⟨H0, H1, H2, H3, H4, H5, H6, H7, H8⟩
  isplitl [H0 H1 H2 H3 H4]
  · isplitr [H4]
    · isplitl [H0]; · iapply h0; iexact H0
      isplitl [H1]; · iapply h1; iexact H1
      isplitl [H2]; · iapply h2; iexact H2
      iapply h3; iexact H3
    · iapply h4; iexact H4
  isplitl [H5 H6]
  · isplitl [H5]
    · iapply h5; iexact H5
    · iapply h6; iexact H6
  isplitl [H7]; · iapply h7; iexact H7
  iapply h8; iexact H8

theorem scratch_join (c : Dev nD) : (ownS X W c fun _ => .any) ⊢ scratch c := by
  have h0 := cut_join (F := F) (m := bufM 0) (View.set_whole _) buf_one buf_all c fun _ => (FloatOps.ofBits (F := F) .f32 0 : F .f32)
  have h1 := cut_join (F := F) (m := bufM 1) (View.set_whole _) buf_one buf_all c fun _ => (FloatOps.ofBits (F := F) .f32 0 : F .f32)
  have h2 := cut_join (F := F) (m := bufM 2) (View.set_whole _) buf_one buf_all c fun _ => (FloatOps.ofBits (F := F) .f32 0 : F .f32)
  have h3 := cut_join (F := F) (m := bufM 3) (View.set_whole _) buf_one buf_all c fun _ => (FloatOps.ofBits (F := F) .f32 0 : F .f32)
  have h4 := cut_join (F := F) (m := zrM) (View.set_whole _) zr_one zr_all c fun _ => (FloatOps.ofBits (F := F) .f32 0 : F .f32)
  have h5 := cut_join (F := F) (m := xbM) (View.set_whole _) xr_one xr_all c fun _ => (FloatOps.ofBits (F := F) .f32 0 : F .f32)
  have h6 := cut_join (F := F) (m := xrM) (View.set_whole _) xr_one xr_all c fun _ => (FloatOps.ofBits (F := F) .f32 0 : F .f32)
  have h7 := cut_join (F := F) (m := b2M 0) (View.set_whole _) b2_one b2_all c fun _ => (FloatOps.ofBits (F := F) .f32 0 : F .f32)
  have h8 := cut_join (F := F) (m := b2M 1) (View.set_whole _) b2_one b2_all c fun _ => (FloatOps.ofBits (F := F) .f32 0 : F .f32)
  unfold scratch
  rw [scopedRest0_eq]
  unfold ownS
  rw [slots_sum, four_sum, two_sum]
  iintro ⟨⟨⟨H0, H1, H2, H3⟩, H4⟩, ⟨H5, H6⟩, H7, H8⟩
  isplitl [H0]; · iapply h0; iexact H0
  isplitl [H1]; · iapply h1; iexact H1
  isplitl [H2]; · iapply h2; iexact H2
  isplitl [H3]; · iapply h3; iexact H3
  isplitl [H4]; · iapply h4; iexact H4
  isplitl [H5]; · iapply h5; iexact H5
  isplitl [H6]; · iapply h6; iexact H6
  isplitl [H7]; · iapply h7; iexact H7
  iapply h8; iexact H8

/-- At the end every slot is back. -/
theorem ownS_end (c : Dev nD) : ownS X W c (hands (hist script.length)).own ⊢ scratch c := by
  refine .trans ?_ (scratch_join X W c)
  unfold ownS
  exact bigSep_mono fun z _ => slotIn_any X W c z _ (end_own z)

end Cert.ReduceScatter
-- ==== Proof.Out.lean ====
/-
  The result block: its six column groups, written one after the other, make up one block.
-/
module

public import proofs.«01_k».proof.Proof.State

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → XBuf F) (W : Dev nD → WBuf F)

/-- The result block of a device. -/
def outAt (c : Dev nD) : OBuf F := fun (j : S512x2048.Idx) =>
  if h : (j 1).val < 1536 then
    resA X W ⟨(j 1).val / 384, by omega⟩ c fun | 0 => j 0 | 1 => ⟨(j 1).val % 384, Nat.mod_lt _ (by decide)⟩
  else
    have hj : (j 1).val < 2048 := (j 1).isLt
    resB X W ⟨((j 1).val - 1536) / 256, by omega⟩ c fun | 0 => j 0 | 1 => ⟨((j 1).val - 1536) % 256, Nat.mod_lt _ (by decide)⟩

theorem end_out (q : Fin 6) : did (hist script.length) (.out q) = true := by revert q; decide +kernel

theorem groupA {c : Dev nD} {f : OBuf F} (hf : outOk X W c (hist script.length) f) (q : Fin 4) (i : S512x384.Idx) (j : S512x2048.Idx)
    (h0 : (j 0).val = (i 0).val) (h1 : (j 1).val = 384 * q.val + (i 1).val) : f j = resA X W q c i := by
  have key (o : ℕ) (inb : ∀ a, (![0, o] : Fin 2 → ℕ) a + S512x384.size a ≤ S512x2048.size a) (t : Vec F S512x384 .f32)
      (h : (⟨S512x384, (oM.access (Rect.unit (s := S512x2048) ![0, o] S512x384.size inb)).read (Elt F) f⟩ : Tensor F) = ⟨S512x384, t⟩)
      (h1 : (j 1).val = o + (i 1).val) : f j = t i := by
    have hj : (Rect.unit (s := S512x2048) ![0, o] S512x384.size inb).emb i = j := by
      refine funext fun a => Fin.ext ?_
      match a with
      | 0 => show 0 + 1 * (i 0).val = (j 0).val; omega
      | 1 => show o + 1 * (i 1).val = (j 1).val; omega
    rw [← eq_of_heq (Sigma.mk.inj h).2, ← hj]; rfl
  match q, h1 with
  | 0, h1 => exact key 0 inb_S512x2048_S512x384_0_0 _ (hf 0 (end_out 0)) h1
  | 1, h1 => exact key 384 inb_S512x2048_S512x384_0_384 _ (hf 1 (end_out 1)) h1
  | 2, h1 => exact key 768 inb_S512x2048_S512x384_0_768 _ (hf 2 (end_out 2)) h1
  | 3, h1 => exact key 1152 inb_S512x2048_S512x384_0_1152 _ (hf 3 (end_out 3)) h1

theorem groupB {c : Dev nD} {f : OBuf F} (hf : outOk X W c (hist script.length) f) (q : Fin 2) (i : S512x256.Idx) (j : S512x2048.Idx)
    (h0 : (j 0).val = (i 0).val) (h1 : (j 1).val = 1536 + 256 * q.val + (i 1).val) : f j = resB X W q c i := by
  have key (o : ℕ) (inb : ∀ a, (![0, o] : Fin 2 → ℕ) a + S512x256.size a ≤ S512x2048.size a) (t : Vec F S512x256 .f32)
      (h : (⟨S512x256, (oM.access (Rect.unit (s := S512x2048) ![0, o] S512x256.size inb)).read (Elt F) f⟩ : Tensor F) = ⟨S512x256, t⟩)
      (h1 : (j 1).val = o + (i 1).val) : f j = t i := by
    have hj : (Rect.unit (s := S512x2048) ![0, o] S512x256.size inb).emb i = j := by
      refine funext fun a => Fin.ext ?_
      match a with
      | 0 => show 0 + 1 * (i 0).val = (j 0).val; omega
      | 1 => show o + 1 * (i 1).val = (j 1).val; omega
    rw [← eq_of_heq (Sigma.mk.inj h).2, ← hj]; rfl
  match q, h1 with
  | 0, h1 => exact key 1536 inb_S512x2048_S512x256_0_1536 _ (hf 4 (end_out 4)) h1
  | 1, h1 => exact key 1792 inb_S512x2048_S512x256_0_1792 _ (hf 5 (end_out 5)) h1

/-- With all column groups written, the block is the result. -/
theorem outOk_end {c : Dev nD} {f : OBuf F} (hf : outOk X W c (hist script.length) f) : f = outAt X W c := by
  funext (j : S512x2048.Idx)
  have hj : (j 1).val < 2048 := (j 1).isLt
  unfold outAt
  split
  · exact groupA X W hf _ _ j rfl (Nat.div_add_mod _ _).symm
  · refine groupB X W hf _ _ j rfl ?_
    have := Nat.div_add_mod ((j 1).val - 1536) 256
    dsimp only
    omega

end Cert.ReduceScatter
-- ==== Proof.Run.lean ====
/-
  The launch: what each device starts from and ends with, and the run of the whole program.
-/
module

public import Idealize.ShloMosaic.Lib.Pipeline.CollectiveSegs
public import proofs.«01_k».proof.Proof.Body
public import proofs.«01_k».proof.Proof.Start
public import proofs.«01_k».proof.Proof.Scratch
public import proofs.«01_k».proof.Proof.Out

@[expose] public section

noncomputable section

namespace Cert.ReduceScatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The blocks the pipeline stages -/

def xstg (c : Dev nD) : XBuf F := (win0_0.blk (0 : Fin 1)).view.read (Elt F) ((s₀ m ρ).mem ((c : Thread nD τ).loc main_arg0))
def wstg (c : Dev nD) : WBuf F := (win0_1.blk (0 : Fin 1)).view.read (Elt F) ((s₀ m ρ).mem ((c : Thread nD τ).loc main_arg1))
/-- The result of device `c`. -/
def res (c : Dev nD) : OBuf F := outAt (xstg m ρ) (wstg m ρ) c

/-! ## Before and after the body -/

/-- What a device's body starts from, beside its buffers. -/
def start (c : Dev nD) : sProp 𝕄 := iprop(startG (xstg m ρ) (wstg m ρ) c ∗ levAts Lv lv ∗ credIn c [])
def Φ₀ (c : Dev nD) : sProp 𝕄 := iprop(start m ρ c ∗ scratch c)
/-- After the body: the scratch buffers and all semaphores at zero. -/
def Φ₁ (c : Dev nD) : sProp 𝕄 := iprop(scratch c ∗ bigSep Finset.univ fun k : Kind => semVal (cell c k) 0)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => res m ρ c
  Φ t := match t with
    | ⟨0, _⟩ => Φ₀ m ρ c
    | ⟨_ + 1, _⟩ => Φ₁ c
  q _ := fullShare
  owed t := match t with
    | ⟨0, _⟩ => owed c []
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole (c : Dev nD) (b : Ref sig .tc) (f : b.ty.Contents (Elt F)) :
    (owns (Ix := ℕ) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

omit [FloatOps F] in
theorem owed_end (c : Dev nD) : owed c (hist script.length) = 0 := by
  unfold owed
  rw [Finset.filter_false_of_mem fun p _ => by rw [end_pays p]; exact Bool.true_eq_false_eq_False, Finset.sum_empty]

def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt 0 t0_0.succ ∗ stg c cc0_stg0_0 (xstg m ρ c) ∗ stg c cc0_stg1_0 (wstg m ρ c) ∗ stg c cc0_stg2_0 (res m ρ c))

/-- The body takes its first state from what the launch and the pipeline hand over. -/
theorem body_first (c : Dev nD) : bodyPre m ρ c ⊢ (iprop(∃ K N, St (xstg m ρ) (wstg m ρ) K N c (hist 0)) : sProp 𝕄) := by
  have hs := scratch_split (xstg m ρ) (wstg m ρ) c
  refine .trans ?_ (first_state (xstg m ρ) (wstg m ρ) c)
  unfold bodyPre Φ₀ start
  iintro ⟨⟨Hst, Hscr⟩, Ho, ⟨%d0, %g0, %hg0, Hx⟩, ⟨%d1, %g1, %hg1, Hw⟩, ⟨%d2, %g2, %hg2, Hf⟩⟩
  have hx : g0 = xstg m ρ c := by rw [hg0]; unfold Pipeline.Dat.before; rw [if_pos (fetch_0 t0_0)]; rfl
  have hw : g1 = wstg m ρ c := by rw [hg1]; unfold Pipeline.Dat.before; rw [if_pos (fetch_1 t0_0)]; rfl
  subst hx hw
  unfold Pipeline.Dat.owesAt Pipeline.owesWithin
  icases Ho with ⟨%V, %hV, Ho⟩
  isplitl [Hst]; · iexact Hst
  isplitl [Ho]; · iexists V; iexact Ho
  isplitl [Hscr]; · iapply hs; iexact Hscr
  unfold inX inW
  isplitl [Hx]; · iexact Hx
  isplitl [Hw]; · iexact Hw
  iexists g2; iexact Hf

/-- The last state gives back the scratch buffers, the closed semaphores and the result. -/
theorem body_last (K : GSem nD τ sig → ℕ) (N : Key → ℕ) (c : Dev nD) :
    St (xstg m ρ) (wstg m ρ) K N c (hist script.length) ⊢ (|={Set.univ}=> bodyPost m ρ c : sProp 𝕄) := by
  have hown := ownS_end (xstg m ρ) (wstg m ρ) c
  have hsem := end_stand (xstg m ρ) (wstg m ρ) K N c
  unfold St
  rw [owed_end]
  iintro ⟨#Hk, ⟨%V, Ho⟩, -, -, -, Hst, -, -, Hown, -, Hx, Hw, Hout⟩
  imod hsem $$ [Hst] with Hz
  · isplitr; · iexact Hk
    iexact Hst
  imodintro
  unfold bodyPost Φ₁ Pipeline.Dat.owesAt Pipeline.owesWithin
  isplitl [Hown Hz]
  · isplitl [Hown]; · iapply hown; iexact Hown
    iexact Hz
  isplitl [Ho]
  · iexists V
    isplitr; · ipureintro; exact fun _ _ => Or.inl trivial
    iexact Ho
  unfold inX inW outS
  isplitl [Hx]
  · iexists _; isplitr; · (ipureintro; rfl)
    iexact Hx
  isplitl [Hw]
  · iexists _; isplitr; · (ipureintro; rfl)
    iexact Hw
  icases Hout with ⟨%f, %hf, Hf⟩
  iexists f
  isplitr; · ipureintro; exact outOk_end _ _ hf
  iexact Hf

/-- The body on the buffers it is called with. -/
def bodyProg : Prog (TpuEff nD τ sig (Elt F) Λ₀ .tc) PUnit := onRefs (cc0_body (F := F))

theorem bodyProg_safe {X : Dev nD → XBuf F} {W : Dev nD → WBuf F} {K : GSem nD τ sig → ℕ} {N : Key → ℕ} {c : Dev nD} :
    Safe X W K N c 0 bodyProg fun _ => St X W K N c (hist script.length) := body_safe

theorem body_entry : defs₀ (F := F) .tc cfg0.body (cfg0.bodyArgs t0_0 (cfg0.slots t0_0)) = bodyProg := rfl

theorem safe_last {X : Dev nD → XBuf F} {W : Dev nD → WBuf F} {K : GSem nD τ sig → ℕ} {N : Key → ℕ} {c : Dev nD} {α : Type}
    {p : Prog (TpuEff nD τ sig (Elt F) Λ₀ .tc) α} {Q Q' : α → sProp 𝕄} (h : Safe X W K N c 0 p Q) (hQ : ∀ a, Q a ⊢ (|={Set.univ}=> Q' a : sProp 𝕄)) :
    Safe X W K N c 0 p Q' := by
  unfold Safe at h ⊢
  exact (BI.Entails.trans h (wp_mono frame _ Set.univ hQ)).trans (wp_fupd frame _ Set.univ p Q')

theorem body_spec (c : Dev nD) : bodyPre m ρ c
    ⊢ wp frame (wpE (defs₀ (F := F)) 𝒱₀ (c : Thread nD τ) none) Set.univ bodyProg (fun _ => bodyPost m ρ c) := by
  have hsafe (K : GSem nD τ sig → ℕ) (N : Key → ℕ) : Safe (xstg m ρ) (wstg m ρ) K N c 0 bodyProg (fun _ => bodyPost m ρ c) :=
    safe_last bodyProg_safe fun _ => body_last m ρ K N c
  unfold Safe at hsafe
  refine BI.Entails.trans (body_first m ρ c) (show _ ⊢ (_ : sProp 𝕄) from ?_)
  iintro ⟨%K, %N, H⟩
  iapply (hsafe K N); iexact H

/-- The body meets the pipeline's obligation. -/
theorem body_obligation (c : Dev nD) : Pipeline.BodyObligation (dats (F := F) m ρ 0 c) (defs₀ (F := F)) 𝒱₀ 0 Set.univ := fun t => by
  have h := body_spec m ρ c
  rw [fin_N0 t]
  rw [bigSep_W0, bigSep_W0]
  simp only [owns_whole]
  rw [body_entry]
  revert h
  generalize bodyProg (F := F) = p
  exact fun h => h

/-! ## The launch -/

theorem share_eq (c : Dev nD) (w : Fin cfg0.W) : (dats m ρ 0 c).share w = fullShare := by unfold Pipeline.Dat.share; split <;> rfl

def u₀ : UU :=
  (initOf (Pipeline.cells cfgs cellOf_inj) (Pipeline.launchToks cfgs cellOf_inj), (initOf allCells allToks, initSlots Finset.univ 1))

theorem fund : (ownU (u₀ : UU) : sProp 𝕄)
    ⊢ |={Set.univ}=> iprop(own (EP (initOf (Pipeline.cells cfgs cellOf_inj) (Pipeline.launchToks cfgs cellOf_inj)))
        ∗ bigSep Finset.univ (launchG (xstg m ρ) (wstg m ρ))) := by
  have h2 := own_pair_emb (M' := 𝕄) embR (initOf allCells allToks) (initSlots (Finset.univ : Finset Key) 1)
  unfold u₀
  iintro Hu
  ihave H := (ownU_pair _ _) $$ Hu
  icases H with ⟨HP, HX⟩
  ihave H := h2 $$ HX
  icases H with ⟨HR, HS⟩
  imod (fund_rounds (xstg m ρ) (wstg m ρ)) $$ HR with HR
  imod (fund_slots (xstg m ρ) (wstg m ρ)) $$ HS with HS
  imodintro
  isplitl [HP]; · iexact HP
  ihave H := (Entails.of_eq (bigSep_sep' Finset.univ (roundsG (xstg m ρ) (wstg m ρ)) (slotsG (xstg m ρ) (wstg m ρ))).symm) $$ [HR HS]
  · isplitl [HR] <;> iassumption
  unfold launchG
  iexact H

theorem start_intro (c : Dev nD) :
    iprop(Pipeline.unscopedRestP Pipeline.Prefetch.none cfg0.spec c (fun b => m ((c : Thread nD τ).loc b)) ∗ levAts Lv lv
        ∗ Pipeline.launchCred (fun d => owed d []) c ∗ prngReg c (ρ c) ∗ startG (xstg m ρ) (wstg m ρ) c)
      ⊢ |={Set.univ}=> iprop(start m ρ c ∗ BI.emp) := by
  iintro ⟨-, Hlev, Hcr, -, HG⟩
  ihave Hc := (cred_launch (F := F) c) $$ Hcr
  imodintro
  unfold start
  isplitl
  · isplitl [HG]; · iexact HG
    isplitl [Hlev]; · iexact Hlev
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = Φ₁ c from rfl]
  unfold Φ₁
  rw [← ownSems_sum]
  iintro ⟨Hr, Ho, Hu⟩
  isplitl [Hu]; · iexact Hu
  isplitl [Ho]; · iexact Ho
  iexact Hr

/-- The staging semaphores are below every payment. -/
theorem stage_below (w : Fin cfg0.W) (s : Fin (cfg0.spec w).nbuf) (c : Dev nD) (p : Pay) :
    lv ((c : Thread nD τ), SemLoc.dma ((cfg0.spec w).sem s)) 0 < levelOf p.kind p.rd := by
  have hne : ∀ (k : Kind) (w : Fin cfg0.W) (s : Fin (cfg0.spec w).nbuf), loc k ≠ .dma ((cfg0.spec w).sem s) := by decide +kernel
  have h : kindOf (SemLoc.dma ((cfg0.spec w).sem s) : SemLoc sig) = none := by
    unfold kindOf
    rw [Finset.filter_false_of_mem fun k _ => hne k w s]
    simp
  have h' : ∀ p : Pay, 0 < levelOf p.kind p.rd := by decide +kernel
  unfold lv
  dsimp only
  rw [h]
  exact h' p

theorem waits_stage (c : Dev nD) : (levAts Lv lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 [] (Or.inl rfl) fun p _ => stage_below w s c p
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, the program ends, its arrays as computed and every counter zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSem_facts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => owed d []) (howed₀ := fun _ => rfl) (howedN := fun _ => rfl)
    (L := Lv) (lv := lv) (hL := Lv_ne) (hwaits := waits_stage m ρ)
    (G := launchG (xstg m ρ) (wstg m ρ)) (G' := startG (xstg m ρ) (wstg m ρ)) (u₀ := u₀)
    (hu₀ := fund m ρ)
    (hglob := glob (xstg m ρ) (wstg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are kept. -/
theorem finalA_x (c : Dev nD) : finalA m ρ c (0 : Fin 3) = m (win0_0.arr.view.loc (c : Thread nD τ)) :=
  (dats (F := F) m ρ 0 c).arrAt_in (0 : Fin 3) rfl _
theorem finalA_w (c : Dev nD) : finalA m ρ c (1 : Fin 3) = m (win0_1.arr.view.loc (c : Thread nD τ)) :=
  (dats (F := F) m ρ 0 c).arrAt_in (1 : Fin 3) rfl _

end Cert.ReduceScatter
-- ==== Proof.Frames.lean ====
/-
  The frames. The run of the kernel leaves every window's array at its final contents and every
  semaphore at zero; the two argument arrays are only read, so their final contents are the initial
  ones. The bit-exact program and the ideal one are the same text, so one run serves both. The
  reference is a straight line of host operations.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

noncomputable section

namespace Cert.ReduceScatter

open Idealize.ShloMosaic Idealize.SL.Sem

/-- The ideal program leaves its arguments as they were and its semaphores at zero. -/
theorem frame_kernelIdeal : Cert.quiescent_KernelIdeal := fun m ρ _ =>
  (θ_run Cert.KernelIdeal.defs _ _).mono
    (fun _ h => ⟨fun c => ⟨(h.1 c 0).trans (finalA_x m ρ c), (h.1 c 1).trans (finalA_w m ρ c)⟩, h.2⟩)
    (run_main (F := Ideal) m ρ)

/-- The bit-exact program's body table is the ideal program's: the two are one text. -/
theorem bodies_eq {F : FTy → Type} [FloatOps F] : Cert.Kernel.defs₀ (F := F) = Cert.KernelIdeal.defs₀ (F := F) :=
  congrArg (Defs.onTc (nD := Cert.KernelIdeal.nD) (τ := Cert.KernelIdeal.τ) (sig := Cert.KernelIdeal.sig)
    (Λ := Cert.KernelIdeal.Λ₀)) (by
      funext l a
      match l, a with
      | ⟨0, _⟩, (t, s) => rfl)

/-- And so is the table with the pipeline's labels. -/
theorem tables_eq {F : FTy → Type} [FloatOps F] : Cert.Kernel.defs (F := F) = Cert.KernelIdeal.defs (F := F) :=
  congrArg (Pipeline.defs (Cert.KernelIdeal.pcfgs (F := F))) bodies_eq

/-- The bit-exact program leaves its arguments as they were and its semaphores at zero. -/
theorem frame_kernel : Cert.quiescent_Kernel := fun m ρ _ =>
  (congrArg (fun d => θ_run d (onTc (τ := Cert.KernelIdeal.τ) (Cert.KernelIdeal.main (F := Bits))) (s₀ m ρ)
      (fun r => (∀ c : Dev Cert.KernelIdeal.nD,
        r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
        ∧ r.2.sem = fun _ => 0)) (tables_eq (F := Bits))).mpr
    ((θ_run Cert.KernelIdeal.defs _ _).mono
      (fun _ h => ⟨fun c => ⟨(h.1 c 0).trans (finalA_x m ρ c), (h.1 c 1).trans (finalA_w m ρ c)⟩, h.2⟩)
      (run_main (F := Bits) m ρ))

/-- The reference, one device's host program without semaphores, likewise. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.ReduceScatter

end
-- ==== Proof.Shares.lean ====
/-
  Over the extended reals: each product of the kernel is one device's share of a block of rows of
  the whole product, and the sums that travel the rings gather all eight shares of one block.
-/
module

public import proofs.«01_k».proof.Proof.Contents
public import Idealize.ShloMosaic.Lib.Pointwise

@[expose] public section

noncomputable section

namespace Cert.ReduceScatter

open Cert.KernelIdeal Cert.KernelIdeal.Gen
open Idealize.ShloMosaic
open Idealize.ShloMosaic.TcCoe

/-! ## Which rows a device reads -/

/-- The next device on stream `i`'s ring. -/
def fwd (i : Fin 4) (c : Dev nD) : Dev nD := peer (streamDir i) c
/-- The device whose result the `n`-th product of stream `i` on device `c` belongs to, in the second
    half of the journey: the stream ends there after `3 - n` more steps. -/
def goal (i n : Fin 4) (c : Dev nD) : Dev nD :=
  match n with
  | 0 => fwd i (fwd i (fwd i c))
  | 1 => fwd i (fwd i c)
  | 2 => fwd i c
  | 3 => c
/-- In the first half the stream still has to go across. -/
def goalX (i n : Fin 4) (c : Dev nD) : Dev nD := peer .across (goal i n c)
/-- The device that the `r`-th block sent across is for. -/
def goalL (r : Fin 4) (c : Dev nD) : Dev nD :=
  match r with
  | 0 => peer .across (goal 0 0 c)
  | 1 => peer .across (goal 2 0 c)
  | 2 => peer .across (goal 0 1 c)
  | 3 => peer .across c

/-- `v` is row block `e` of `x`. -/
def IsRows {F : FTy → Type} (v : Vec F S512x512 .f32) (x : XBuf F) (e : Dev nD) : Prop :=
  ∀ a k : Fin 512, v (ix2 a k) = x (ix2 (⟨512 * e.val + a.val, by have := e.isLt; change _ < 8 at this; omega⟩ : Fin 4096) k)

theorem rows_is {F : FTy → Type} {off : Fin 2 → ℕ} {h : ∀ i, off i + S512x512.size i ≤ S4096x512.size i} {e : Dev nD} (x : XBuf F)
    (ho : off = ![512 * e.val, 0]) : IsRows (rows off h x) x e := by
  subst ho
  intro a k
  refine congrArg x (funext fun d => Fin.ext ?_)
  match d with
  | 0 => show 512 * e.val + 1 * a.val = 512 * e.val + a.val; omega
  | 1 => show 0 + 1 * k.val = k.val; omega

theorem off1_goal : ∀ c : Dev nD, ∀ n : Fin 4, k0_off1 c (k0_off1_at n).1 (k0_off1_at n).2 = ![512 * (goalX 0 n c).val, 0] := by
  decide +kernel
theorem off2_goal : ∀ c : Dev nD, ∀ n : Fin 4, k0_off2 c (k0_off2_at n).1 (k0_off2_at n).2 = ![512 * (goalX 2 n c).val, 0] := by
  decide +kernel
theorem off5_goal : ∀ c : Dev nD, ∀ n : Fin 4, k0_off5 c (k0_off5_at n).1 (k0_off5_at n).2 = ![512 * (goal 0 n c).val, 0] := by
  decide +kernel
theorem off6_goal : ∀ c : Dev nD, ∀ n : Fin 4, k0_off6 c (k0_off6_at n).1 (k0_off6_at n).2 = ![512 * (goal 2 n c).val, 0] := by
  decide +kernel
theorem off3_goal : ∀ c : Dev nD, k0_off3 c 3#32 = ![512 * (goalL 0 c).val, 0] ∧ k0_off3 c 1#32 = ![512 * (goalL 1 c).val, 0]
    ∧ k0_off3 c 2#32 = ![512 * (goalL 2 c).val, 0] ∧ k0_off4 c = ![512 * (goalL 3 c).val, 0] := by
  decide +kernel

variable {F : FTy → Type}

theorem rowsR_is (c : Dev nD) (n : Fin 4) (x : XBuf F) : IsRows (rowsR c n x) x (goalX 0 n c) :=
  match n with
  | 0 => rows_is x (off1_goal c 0)
  | 1 => rows_is x (off1_goal c 1)
  | 2 => rows_is x (off1_goal c 2)
  | 3 => rows_is x (off1_goal c 3)
theorem rowsL_is (c : Dev nD) (n : Fin 4) (x : XBuf F) : IsRows (rowsL c n x) x (goalX 2 n c) :=
  match n with
  | 0 => rows_is x (off2_goal c 0)
  | 1 => rows_is x (off2_goal c 1)
  | 2 => rows_is x (off2_goal c 2)
  | 3 => rows_is x (off2_goal c 3)
theorem rowsR'_is (c : Dev nD) (n : Fin 4) (x : XBuf F) : IsRows (rowsR' c n x) x (goal 0 n c) :=
  match n with
  | 0 => rows_is x (off5_goal c 0)
  | 1 => rows_is x (off5_goal c 1)
  | 2 => rows_is x (off5_goal c 2)
  | 3 => rows_is x (off5_goal c 3)
theorem rowsL'_is (c : Dev nD) (n : Fin 4) (x : XBuf F) : IsRows (rowsL' c n x) x (goal 2 n c) :=
  match n with
  | 0 => rows_is x (off6_goal c 0)
  | 1 => rows_is x (off6_goal c 1)
  | 2 => rows_is x (off6_goal c 2)
  | 3 => rows_is x (off6_goal c 3)
theorem rowsX_is (c : Dev nD) (r : Fin 4) (x : XBuf F) : IsRows (rowsX c r x) x (goalL r c) :=
  match r with
  | 0 => rows_is x (off3_goal c).1
  | 1 => rows_is x (off3_goal c).2.1
  | 2 => rows_is x (off3_goal c).2.2.1
  | 3 => rows_is x (off3_goal c).2.2.2

end Cert.ReduceScatter

end
-- ==== Proof.Products.lean ====
/-
  Over the extended reals: each product of the kernel is, entry by entry, one device's share of the
  whole product.
-/
module

public import proofs.«01_k».proof.Proof.Shares

@[expose] public section

noncomputable section

namespace Cert.ReduceScatter

open Cert.KernelIdeal Cert.KernelIdeal.Gen
open Idealize.ShloMosaic
open Idealize.ShloMosaic.TcCoe

variable (X : Dev nD → XBuf Ideal) (W : Dev nD → WBuf Ideal)

/-- An entry of an input block, as an extended real. -/
def xAt (x : XBuf Ideal) (r : Fin 4096) (k : Fin 512) : EReal := x (ix2 r k)
def wAt (w : WBuf Ideal) (k : Fin 512) (n : Fin 2048) : EReal := w (ix2 k n)

/-- Device `d`'s share of entry `(a, n)` of row block `e`: the sum over the 512 inner coordinates that
    `d` holds. -/
def share (d e : Dev nD) (a : Fin 512) (n : Fin 2048) : EReal :=
  ∑ k : Fin 512, xAt (X d) ⟨512 * e.val + a.val, by have := e.isLt; change _ < 8 at this; omega⟩ k * wAt (W d) k n

/-- Column `b` of a stream's 384 columns, and of one of the last two groups of 256. -/
def colA (i : Fin 4) (b : Fin 384) : Fin 2048 := ⟨384 * i.val + b.val, by omega⟩
def colB (i : Fin 2) (b : Fin 256) : Fin 2048 := ⟨1536 + 256 * i.val + b.val, by omega⟩

theorem stripes_apply (i : Fin 4) (w : WBuf Ideal) (k : Fin 512) (b : Fin 384) : stripes i w (ix2 k b) = w (ix2 k (colA i b)) := by
  have key (o : ℕ) (inb : ∀ a, (![0, o] : Fin 2 → ℕ) a + S512x384.size a ≤ S512x2048.size a) (ho : o = 384 * i.val) :
      (wM.access (Rect.unit (s := S512x2048) ![0, o] S512x384.size inb)).read (Elt Ideal) w (ix2 k b) = w (ix2 k (colA i b)) := by
    refine congrArg w (funext fun d => Fin.ext ?_)
    match d with
    | 0 => show 0 + 1 * k.val = k.val; omega
    | 1 => show o + 1 * b.val = 384 * i.val + b.val; omega
  match i, key with
  | 0, key => exact key 0 inb_S512x2048_S512x384_0_0 rfl
  | 1, key => exact key 384 inb_S512x2048_S512x384_0_384 rfl
  | 2, key => exact key 768 inb_S512x2048_S512x384_0_768 rfl
  | 3, key => exact key 1152 inb_S512x2048_S512x384_0_1152 rfl

theorem wideR_apply (w : WBuf Ideal) (k : Fin 512) (b : Fin 768) : wideR w (ix2 k b) = w (ix2 k (⟨b.val, by omega⟩ : Fin 2048)) := by
  refine congrArg w (funext fun d => Fin.ext ?_)
  match d with
  | 0 => show 0 + 1 * k.val = k.val; omega
  | 1 => show 0 + 1 * b.val = b.val; omega
theorem wideL_apply (w : WBuf Ideal) (k : Fin 512) (b : Fin 768) : wideL w (ix2 k b) = w (ix2 k (⟨768 + b.val, by omega⟩ : Fin 2048)) := by
  refine congrArg w (funext fun d => Fin.ext ?_)
  match d with
  | 0 => show 0 + 1 * k.val = k.val; omega
  | 1 => show 768 + 1 * b.val = 768 + b.val; omega
theorem lastW_apply (w : WBuf Ideal) (k b : Fin 512) : lastW w (ix2 k b) = w (ix2 k (⟨1536 + b.val, by omega⟩ : Fin 2048)) := by
  refine congrArg w (funext fun d => Fin.ext ?_)
  match d with
  | 0 => show 0 + 1 * k.val = k.val; omega
  | 1 => show 1536 + 1 * b.val = 1536 + b.val; omega
theorem tail_apply (i : Fin 2) (w : WBuf Ideal) (k : Fin 512) (b : Fin 256) : tail i w (ix2 k b) = w (ix2 k (colB i b)) := by
  have key (o : ℕ) (inb : ∀ a, (![0, o] : Fin 2 → ℕ) a + S512x256.size a ≤ S512x2048.size a) (ho : o = 1536 + 256 * i.val) :
      (wM.access (Rect.unit (s := S512x2048) ![0, o] S512x256.size inb)).read (Elt Ideal) w (ix2 k b) = w (ix2 k (colB i b)) := by
    refine congrArg w (funext fun d => Fin.ext ?_)
    match d with
    | 0 => show 0 + 1 * k.val = k.val; omega
    | 1 => show o + 1 * b.val = 1536 + 256 * i.val + b.val; omega
  match i, key with
  | 0, key => exact key 1536 inb_S512x2048_S512x256_0_1536 rfl
  | 1, key => exact key 1792 inb_S512x2048_S512x256_0_1792 rfl

/-! ## The four widths of product -/

theorem dot384_apply (v : Vec Ideal S512x512 .f32) (u : Vec Ideal S512x384 .f32) (a : Fin 512) (b : Fin 384) :
    dot384 v u (ix2 a b) = ∑ k : Fin 512, v (ix2 a k) * u (ix2 k b) := by
  pointwise [dot384]
theorem dot768_apply (v : Vec Ideal S512x512 .f32) (u : Vec Ideal S512x768 .f32) (a : Fin 512) (b : Fin 768) :
    dot768 v u (ix2 a b) = ∑ k : Fin 512, v (ix2 a k) * u (ix2 k b) := by
  pointwise [dot768]
theorem dot512_apply (v u : Vec Ideal S512x512 .f32) (a b : Fin 512) :
    dot512 v u (ix2 a b) = ∑ k : Fin 512, v (ix2 a k) * u (ix2 k b) := by
  pointwise [dot512]
theorem dot256_apply (v : Vec Ideal S512x512 .f32) (u : Vec Ideal S512x256 .f32) (a : Fin 512) (b : Fin 256) :
    dot256 v u (ix2 a b) = ∑ k : Fin 512, v (ix2 a k) * u (ix2 k b) := by
  pointwise [dot256]

theorem lo_apply (v : FVec Ideal S512x768 .f32) (a : Fin 512) (b : Fin 384) : lo v (ix2 a b) = v (ix2 a (⟨b.val, by omega⟩ : Fin 768)) := by
  pointwise [lo]
theorem hi_apply (v : FVec Ideal S512x768 .f32) (a : Fin 512) (b : Fin 384) : hi v (ix2 a b) = v (ix2 a (⟨384 + b.val, by omega⟩ : Fin 768)) := by
  pointwise [hi]
theorem up384_apply (v : FVec Ideal S512x384 .f32) (a : Fin 512) (b : Fin 384) : down384 (up384 v) (ix2 a b) = v (ix2 a b) := by
  pointwise [up384, down384]
theorem up256_apply (v : FVec Ideal S512x256 .f32) (a : Fin 512) (b : Fin 256) : down256 (up256 v) (ix2 a b) = v (ix2 a b) := by
  pointwise [up256, down256]

/-- Half `i` of a block of 512 columns, received in one row more. -/
theorem xhalf_apply (i : Fin 2) (v : FVec Ideal S512x512 .f32) (a : Fin 512) (b : Fin 256) :
    down256 (xhalf i (up512 v)) (ix2 a b) = v (ix2 a (⟨256 * i.val + b.val, by omega⟩ : Fin 512)) := by
  have h : ∀ j : S1x512x256.Idx, xhalf i (up512 v) j = v (ix2 (j 1) (⟨256 * i.val + (j 2).val, by have : (j 2).val < 256 := (j 2).isLt; omega⟩ : Fin 512)) := by
    intro j
    have hj : (halfR i).emb j = ix3 (0 : Fin 1) (j 1) (⟨256 * i.val + (j 2).val, by have : (j 2).val < 256 := (j 2).isLt; omega⟩ : Fin 512) := by
      refine funext fun d => Fin.ext ?_
      match d with
      | 0 => show 0 + 1 * (j 0).val = 0; have : (j 0).val < 1 := (j 0).isLt; omega
      | 1 => show 0 + 1 * (j 1).val = (j 1).val; omega
      | 2 => show 256 * i.val + 1 * (j 2).val = 256 * i.val + (j 2).val; omega
    show up512 v ((halfR i).emb j) = _
    rw [hj]
    pointwise [up512]
  pointwise [down256]
  rw [h]
  rfl

/-! ## Products as shares -/

theorem share_of (d : Dev nD) {e : Dev nD} {v : Vec Ideal S512x512 .f32} (hv : IsRows v (X d) e) (a : Fin 512) (n : Fin 2048) :
    ∑ k : Fin 512, v (ix2 a k) * wAt (W d) k n = share X W d e a n := by
  unfold share
  exact Finset.sum_congr rfl fun k _ => by rw [hv a k]; rfl

theorem stripe_share (i : Fin 4) (d : Dev nD) {e : Dev nD} {v : Vec Ideal S512x512 .f32} (hv : IsRows v (X d) e) (a : Fin 512) (b : Fin 384) :
    dot384 v (stripes i (W d)) (ix2 a b) = share X W d e a (colA i b) := by
  rw [dot384_apply, ← share_of X W d hv]
  exact Finset.sum_congr rfl fun k _ => by rw [stripes_apply]; rfl

theorem wideR_share (d : Dev nD) {e : Dev nD} {v : Vec Ideal S512x512 .f32} (hv : IsRows v (X d) e) (a : Fin 512) (b : Fin 768) :
    dot768 v (wideR (W d)) (ix2 a b) = share X W d e a ⟨b.val, by omega⟩ := by
  rw [dot768_apply, ← share_of X W d hv]
  exact Finset.sum_congr rfl fun k _ => by rw [wideR_apply]; rfl
theorem wideL_share (d : Dev nD) {e : Dev nD} {v : Vec Ideal S512x512 .f32} (hv : IsRows v (X d) e) (a : Fin 512) (b : Fin 768) :
    dot768 v (wideL (W d)) (ix2 a b) = share X W d e a ⟨768 + b.val, by omega⟩ := by
  rw [dot768_apply, ← share_of X W d hv]
  exact Finset.sum_congr rfl fun k _ => by rw [wideL_apply]; rfl

theorem first_share (i : Fin 4) (c : Dev nD) (a : Fin 512) (b : Fin 384) :
    first X W i c (ix2 a b) = share X W c (goalX i 0 c) a (colA i b) :=
  match i with
  | 0 => stripe_share X W 0 c (rowsR_is c 0 (X c)) a b
  | 1 => stripe_share X W 1 c (rowsR_is c 0 (X c)) a b
  | 2 => stripe_share X W 2 c (rowsL_is c 0 (X c)) a b
  | 3 => stripe_share X W 3 c (rowsL_is c 0 (X c)) a b
theorem first'_share (i : Fin 4) (c : Dev nD) (a : Fin 512) (b : Fin 384) :
    first' X W i c (ix2 a b) = share X W c (goal i 0 c) a (colA i b) :=
  match i with
  | 0 => stripe_share X W 0 c (rowsR'_is c 0 (X c)) a b
  | 1 => stripe_share X W 1 c (rowsR'_is c 0 (X c)) a b
  | 2 => stripe_share X W 2 c (rowsL'_is c 0 (X c)) a b
  | 3 => stripe_share X W 3 c (rowsL'_is c 0 (X c)) a b

/-- A stream's half of 768 columns. -/
theorem half_share (d : Dev nD) {e eL : Dev nD} {v vL : Vec Ideal S512x512 .f32} (hv : IsRows v (X d) e) (hL : IsRows vL (X d) eL)
    (a : Fin 512) (b : Fin 384) :
    lo (dot768 v (wideR (W d))) (ix2 a b) = share X W d e a (colA 0 b) ∧ hi (dot768 v (wideR (W d))) (ix2 a b) = share X W d e a (colA 1 b)
      ∧ lo (dot768 vL (wideL (W d))) (ix2 a b) = share X W d eL a (colA 2 b)
      ∧ hi (dot768 vL (wideL (W d))) (ix2 a b) = share X W d eL a (colA 3 b) := by
  refine ⟨?_, ?_, ?_, ?_⟩
  · rw [lo_apply, wideR_share X W d hv]; congr 1; exact Fin.ext (by show b.val = 384 * 0 + b.val; omega)
  · rw [hi_apply, wideR_share X W d hv]; congr 1
  · rw [lo_apply, wideL_share X W d hL]; congr 1
  · rw [hi_apply, wideL_share X W d hL]; congr 1; exact Fin.ext (by show 768 + (384 + b.val) = 384 * 3 + b.val; omega)

theorem next_share (i n : Fin 4) (c : Dev nD) (a : Fin 512) (b : Fin 384) :
    next X W i n c (ix2 a b) = share X W c (goalX i n c) a (colA i b) :=
  have h := half_share X W c (rowsR_is c n (X c)) (rowsL_is c n (X c)) a b
  match i, n with
  | 0, _ => h.1
  | 1, 0 | 1, 1 | 1, 2 | 1, 3 => h.2.1
  | 2, _ => h.2.2.1
  | 3, 0 | 3, 1 | 3, 2 | 3, 3 => h.2.2.2
theorem next'_share (i n : Fin 4) (c : Dev nD) (a : Fin 512) (b : Fin 384) :
    next' X W i n c (ix2 a b) = share X W c (goal i n c) a (colA i b) :=
  have h := half_share X W c (rowsR'_is c n (X c)) (rowsL'_is c n (X c)) a b
  match i, n with
  | 0, _ => h.1
  | 1, 0 | 1, 1 | 1, 2 | 1, 3 => h.2.1
  | 2, _ => h.2.2.1
  | 3, 0 | 3, 1 | 3, 2 | 3, 3 => h.2.2.2

/-- What is sent across for the last columns. -/
theorem xval_share (i : Fin 2) (r : Fin 4) (c : Dev nD) (a : Fin 512) (b : Fin 256) :
    down256 (xhalf i (xval X W r c)) (ix2 a b) = share X W c (goalL r c) a (colB i b) := by
  unfold xval
  rw [xhalf_apply, dot512_apply, ← share_of X W c (rowsX_is c r (X c))]
  refine Finset.sum_congr rfl fun k _ => ?_
  rw [lastW_apply]
  refine congrArg (fun n => rowsX c r (X c) (ix2 a k) * wAt (W c) k n) ?_
  exact Fin.ext (by show 1536 + (256 * i.val + b.val) = 1536 + 256 * i.val + b.val; omega)

/-- The goal of the second ring's own products. -/
def goalT (i : Fin 2) (n : Fin 4) (c : Dev nD) : Dev nD := goal (if i.val = 0 then 0 else 2) n c

theorem tail_share (i : Fin 2) (n : Fin 4) (c : Dev nD) (a : Fin 512) (b : Fin 256) :
    dot256 (rowsT i c n (X c)) (tail i (W c)) (ix2 a b) = share X W c (goalT i n c) a (colB i b) := by
  have h : IsRows (rowsT i c n (X c)) (X c) (goalT i n c) :=
    match i with
    | 0 => rowsR'_is c n (X c)
    | 1 => rowsL'_is c n (X c)
  rw [dot256_apply, ← share_of X W c h]
  exact Finset.sum_congr rfl fun k _ => by rw [tail_apply]; rfl

end Cert.ReduceScatter

end
-- ==== Proof.Totals.lean ====
/-
  Over the extended reals: what a device stores is the activation of the sum of all eight devices'
  shares of its own row block.
-/
module

public import proofs.«01_k».proof.Proof.Products
public import proofs.«01_k».proof.Proof.Out

@[expose] public section

noncomputable section

namespace Cert.ReduceScatter

open Cert.KernelIdeal Cert.KernelIdeal.Gen
open Idealize.ShloMosaic
open Idealize.ShloMosaic.TcCoe

variable (X : Dev nD → XBuf Ideal) (W : Dev nD → WBuf Ideal)

/-- The kernel's activation of one number. -/
def actE (t : EReal) : EReal := t * Ideal.div 1 (1 + Ideal.exp (0 - t))

theorem act384_apply (t : FVec Ideal S512x384 .f32) (a : Fin 512) (b : Fin 384) : act t (ix2 a b) = actE (t (ix2 a b)) := by
  unfold actE
  pointwise [act]
theorem act256_apply (t : FVec Ideal S512x256 .f32) (a : Fin 512) (b : Fin 256) : act t (ix2 a b) = actE (t (ix2 a b)) := by
  unfold actE
  pointwise [act]

/-! ## Who adds to what -/

/-- The devices whose shares meet on stream `i`, in both halves of the journey. -/
theorem goals (i : Fin 4) (c : Dev nD) :
    goal i 0 (prev i (prev i (prev i c))) = c ∧ goal i 1 (prev i (prev i c)) = c ∧ goal i 2 (prev i c) = c
      ∧ goalX i 0 (prev i (prev i (prev i (peer .across c)))) = c ∧ goalX i 1 (prev i (prev i (peer .across c))) = c
      ∧ goalX i 2 (prev i (peer .across c)) = c ∧ goalX i 3 (peer .across c) = c := by
  revert i c; decide +kernel

theorem goals2 (i : Fin 2) (c : Dev nD) :
    goalT i 0 (prev2 i (prev2 i (prev2 i c))) = c ∧ goalT i 1 (prev2 i (prev2 i c)) = c ∧ goalT i 2 (prev2 i c) = c
      ∧ goalL (crossed i 0) (peer .across (prev2 i (prev2 i (prev2 i c)))) = c ∧ goalL (crossed i 1) (peer .across (prev2 i (prev2 i c))) = c
      ∧ goalL (crossed i 2) (peer .across (prev2 i c)) = c ∧ goalL 3 (peer .across c) = c := by
  revert i c; decide +kernel

/-- They are all the devices. -/
theorem everyone (i : Fin 4) (c : Dev nD) : (Finset.univ : Finset (Dev nD)).val
    = {prev i (prev i (prev i c)), prev i (prev i c), prev i c, c, prev i (prev i (prev i (peer .across c))),
        prev i (prev i (peer .across c)), prev i (peer .across c), peer .across c} := by
  revert i c; decide +kernel
theorem everyone2 (i : Fin 2) (c : Dev nD) : (Finset.univ : Finset (Dev nD)).val
    = {prev2 i (prev2 i (prev2 i c)), peer .across (prev2 i (prev2 i (prev2 i c))), prev2 i (prev2 i c),
        peer .across (prev2 i (prev2 i c)), prev2 i c, peer .across (prev2 i c), c, peer .across c} := by
  revert i c; decide +kernel

theorem sum_everyone (i : Fin 4) (c : Dev nD) (f : Dev nD → EReal) : ∑ d, f d
    = (((f (prev i (prev i (prev i c))) + f (prev i (prev i c))) + f (prev i c)) + f c)
      + (((f (prev i (prev i (prev i (peer .across c)))) + f (prev i (prev i (peer .across c)))) + f (prev i (peer .across c)))
        + f (peer .across c)) := by
  rw [Finset.sum_eq_multiset_sum, everyone i c]
  simp only [Multiset.insert_eq_cons, Multiset.map_cons, Multiset.map_singleton, Multiset.sum_cons, Multiset.sum_singleton]
  abel
theorem sum_everyone2 (i : Fin 2) (c : Dev nD) (f : Dev nD → EReal) : ∑ d, f d
    = (((f (prev2 i (prev2 i (prev2 i c))) + f (peer .across (prev2 i (prev2 i (prev2 i c)))))
        + (f (prev2 i (prev2 i c)) + f (peer .across (prev2 i (prev2 i c)))))
        + (f (prev2 i c) + f (peer .across (prev2 i c)))) + (f c + f (peer .across c)) := by
  rw [Finset.sum_eq_multiset_sum, everyone2 i c]
  simp only [Multiset.insert_eq_cons, Multiset.map_cons, Multiset.map_singleton, Multiset.sum_cons, Multiset.sum_singleton]
  abel

/-! ## The sums on the way -/

theorem acc_apply (v : Vec Ideal S1x512x384 .f32) (d : FVec Ideal S512x384 .f32) (a : Fin 512) (b : Fin 384) :
    acc v d (ix2 a b) = down384 v (ix2 a b) + d (ix2 a b) := rfl

/-- The first half of the journey, for the device across from `c`. -/
theorem across_sum (i : Fin 4) (c : Dev nD) (a : Fin 512) (b : Fin 384) :
    down384 (across X W i (peer .across c)) (ix2 a b)
      = ((share X W (prev i (prev i (prev i (peer .across c)))) c a (colA i b) + share X W (prev i (prev i (peer .across c))) c a (colA i b))
        + share X W (prev i (peer .across c)) c a (colA i b)) + share X W (peer .across c) c a (colA i b) := by
  obtain ⟨-, -, -, h0, h1, h2, h3⟩ := goals i c
  unfold across ring2 ring1 ring0
  rw [up384_apply, acc_apply, up384_apply, acc_apply, up384_apply, acc_apply, up384_apply, first_share, next_share, next_share, next_share,
    h0, h1, h2, h3]

/-- The second half. -/
theorem ring_sum (i : Fin 4) (c : Dev nD) (a : Fin 512) (b : Fin 384) :
    acc (ring5 X W i (prev i c)) (next' X W i 3 c) (ix2 a b)
      = ((share X W (prev i (prev i (prev i c))) c a (colA i b) + share X W (prev i (prev i c)) c a (colA i b))
        + share X W (prev i c) c a (colA i b)) + share X W c c a (colA i b) := by
  obtain ⟨h0, h1, h2, -⟩ := goals i c
  unfold ring5 ring4 ring3
  rw [acc_apply, up384_apply, acc_apply, up384_apply, acc_apply, up384_apply, first'_share, next'_share, next'_share, next'_share,
    h0, h1, h2]
  rfl

theorem resA_apply (i : Fin 4) (c : Dev nD) (a : Fin 512) (b : Fin 384) :
    resA X W i c (ix2 a b) = actE (∑ d, share X W d c a (colA i b)) := by
  unfold resA
  rw [act384_apply, sum_everyone i c, ← across_sum, ← ring_sum]
  rfl

theorem lastSum_apply (i : Fin 2) (n r : Fin 4) (c : Dev nD) (a : Fin 512) (b : Fin 256) :
    lastSum X W i n r c (ix2 a b)
      = share X W c (goalT i n c) a (colB i b) + share X W (peer .across c) (goalL r (peer .across c)) a (colB i b) := by
  rw [← tail_share, ← xval_share]
  rfl

theorem add256_apply (v w : FVec Ideal S512x256 .f32) (a : Fin 512) (b : Fin 256) : addf v w (ix2 a b) = v (ix2 a b) + w (ix2 a b) := rfl

theorem resB_apply (i : Fin 2) (c : Dev nD) (a : Fin 512) (b : Fin 256) :
    resB X W i c (ix2 a b) = actE (∑ d, share X W d c a (colB i b)) := by
  obtain ⟨h0, h1, h2, g0, g1, g2, g3⟩ := goals2 i c
  unfold resB two2 two1 two0
  rw [act256_apply, sum_everyone2 i c, add256_apply, up256_apply, add256_apply, up256_apply, add256_apply, up256_apply,
    lastSum_apply, lastSum_apply, lastSum_apply, lastSum_apply, h0, h1, h2, g0, g1, g2, g3]
  rfl

/-- Every entry of a device's result. -/
theorem outAt_apply (c : Dev nD) (a : Fin 512) (n : Fin 2048) :
    outAt X W c (ix2 a n) = actE (∑ d, share X W d c a n) := by
  unfold outAt
  split
  · rename_i h
    have h' : n.val < 1536 := h
    refine (show _ = resA X W ⟨n.val / 384, by omega⟩ c (ix2 a ⟨n.val % 384, Nat.mod_lt _ (by decide)⟩) from ?_).trans ((resA_apply X W _ c a _).trans ?_)
    · refine congrArg _ (funext fun d => ?_)
      match d with
      | 0 => rfl
      | 1 => rfl
    · rw [show colA ⟨n.val / 384, by omega⟩ ⟨n.val % 384, Nat.mod_lt _ (by decide)⟩ = n from Fin.ext (Nat.div_add_mod _ _)]
  · rename_i h
    have h' : ¬ n.val < 1536 := h
    refine (show _ = resB X W ⟨(n.val - 1536) / 256, by omega⟩ c (ix2 a ⟨(n.val - 1536) % 256, Nat.mod_lt _ (by decide)⟩) from ?_).trans
      ((resB_apply X W _ c a _).trans ?_)
    · refine congrArg (resB X W ⟨(n.val - 1536) / 256, by omega⟩ c) (funext fun d => ?_)
      match d with
      | 0 => rfl
      | 1 => rfl
    · rw [show colB ⟨(n.val - 1536) / 256, by omega⟩ ⟨(n.val - 1536) % 256, Nat.mod_lt _ (by decide)⟩ = n from
        Fin.ext (by have := Nat.div_add_mod (n.val - 1536) 256; simp only [colB]; omega)]

end Cert.ReduceScatter

end
-- ==== Proof.Silu.lean ====
/-
  The activation over the extended reals. The kernel computes `t * (1 / (1 + exp (0 - t)))`; the reference
  divides `t` by `1 + exp (-c)`, `c` being `t` clipped to the range from -60 to 60. Where `t` lies in that
  range the two agree; and it does where each of eight terms of `t` is at most 7.5 in size.
-/
module

public import proofs.«01_k».proof.Proof.Totals

@[expose] public section

noncomputable section

namespace Cert.ReduceScatter

open Idealize.ShloMosaic

/-! ## The constants -/

theorem bits_60 : Ideal.ofBits .f32 0x42700000#32 = ((60 : ℝ) : EReal) := by
  simp [Ideal.ofBits, Ideal.ieee, -EReal.coe_mul]; norm_num
theorem bits_neg60 : Ideal.ofBits .f32 0xC2700000#32 = ((-60 : ℝ) : EReal) := by
  simp [Ideal.ofBits, Ideal.ieee, -EReal.coe_mul, -EReal.coe_neg]; norm_num
theorem bits_7_5 : Ideal.ofBits .f32 0x40F00000#32 = ((7.5 : ℝ) : EReal) := by
  simp [Ideal.ofBits, Ideal.ieee, -EReal.coe_mul]; norm_num

/-! ## The range -/

/-- A number at most `b` in size is a real between `-b` and `b`. -/
theorem real_of_size_le {t : EReal} {b : ℝ} (h : max t (-t) ≤ (b : EReal)) : ∃ r : ℝ, t = (r : EReal) ∧ -b ≤ r ∧ r ≤ b := by
  have h1 : t ≤ (b : EReal) := (le_max_left _ _).trans h
  have h2 : -t ≤ (b : EReal) := (le_max_right _ _).trans h
  induction t using EReal.rec with
  | bot => simp at h2
  | top => simp at h1
  | coe r =>
    refine ⟨r, rfl, ?_, EReal.coe_le_coe_iff.mp h1⟩
    rw [← EReal.coe_neg] at h2
    linarith [EReal.coe_le_coe_iff.mp h2]

/-- Eight terms at most 7.5 in size have a sum between -60 and 60. -/
theorem sum_range (f : Fin 8 → EReal) (h : ∀ d, max (f d) (-f d) ≤ ((7.5 : ℝ) : EReal)) :
    ((-60 : ℝ) : EReal) ≤ ∑ d, f d ∧ ∑ d, f d ≤ ((60 : ℝ) : EReal) := by
  choose r hr using fun d => real_of_size_le (h d)
  have e : ∑ d, f d = ((∑ d, r d : ℝ) : EReal) :=
    (Finset.sum_congr rfl fun d _ => (hr d).1).trans
      (map_sum (⟨⟨fun x : ℝ => (x : EReal), EReal.coe_zero⟩, EReal.coe_add⟩ : ℝ →+ EReal) r Finset.univ).symm
  rw [e]
  constructor
  · refine EReal.coe_le_coe_iff.mpr ?_
    have := Finset.sum_le_sum (s := Finset.univ) fun d _ => (hr d).2.1
    simp at this; linarith
  · refine EReal.coe_le_coe_iff.mpr ?_
    have := Finset.sum_le_sum (s := Finset.univ) fun d _ => (hr d).2.2
    simp at this; linarith

/-! ## The two activations -/

theorem exp_nonneg (t : EReal) : 0 ≤ Ideal.exp t := by
  induction t using EReal.rec with
  | bot => exact le_refl _
  | top => exact le_top
  | coe r => exact EReal.coe_nonneg.mpr (Real.exp_pos r).le

/-- The reference's activation of one number. -/
def siluE (t : EReal) : EReal :=
  Ideal.div t (1 + Ideal.exp (-min ((60 : ℝ) : EReal) (max ((-60 : ℝ) : EReal) t)))

/-- Where the clip leaves its argument alone, the kernel's activation is the reference's. -/
theorem actE_eq {t : EReal} (h1 : ((-60 : ℝ) : EReal) ≤ t) (h2 : t ≤ ((60 : ℝ) : EReal)) : actE t = siluE t := by
  have hD : 1 + Ideal.exp (-t) ≠ 0 := by
    have h0 : (0 : EReal) < 1 + Ideal.exp (-t) :=
      lt_of_lt_of_le (by norm_num : (0 : EReal) < 1 + 0) (add_le_add (le_refl (1 : EReal)) (exp_nonneg (-t)))
    exact h0.ne'
  unfold actE siluE Ideal.div
  rw [max_eq_right h1, min_eq_right h2, sub_eq_add_neg, zero_add, if_neg hD, if_neg hD, one_mul]

end Cert.ReduceScatter

end
-- ==== Proof.Value.lean ====
/-
  The value claim: each device's result is its row block of the reference's result, for inputs whose
  partial products are small enough that the reference's clip leaves the whole product alone.
-/
module

public import proofs.«01_k».proof.Defs
public import proofs.«01_k».proof.Proof.Gen.ReferenceIdeal.Run
public import proofs.«01_k».proof.Proof.Gen.Pre_partials_small_KernelIdeal
public import proofs.«01_k».proof.Proof.Frames
public import proofs.«01_k».proof.Proof.Silu
public import Idealize.ShloMosaic.Lib.Pipeline.ValueKit
public import Idealize.ShloMosaic.Lib.ReduceAll
public import Idealize.ShloMosaic.Lib.Layout

@[expose] public section

noncomputable section

namespace Cert.ReduceScatter

open Cert.KernelIdeal Cert.KernelIdeal.Gen
open Idealize.ShloMosaic Idealize.SL.Sem
open Idealize.ShloMosaic.TcCoe

/-! ## The arrays behind the staged blocks -/

section Arrays

variable {F : FTy → Type} [FloatOps F] (m : (ℓ : Loc nD τ sig) → Buf (Elt F) ℓ) (ρ : Dev nD → PrngReg)

/-- The result array ends as the body left it. -/
theorem finalA_out (c : Dev nD) : finalA m ρ c (2 : Fin 3) = res m ρ c :=
  (dats (F := F) m ρ 0 c).arrAt_eq_of_after_last (2 : Fin 3) t0_0 (by decide +kernel) _ fun _ => rfl

/-- The staged blocks are the whole arrays. -/
theorem xstg_apply (c : Dev nD) (r : Fin 4096) (k : Fin 512) :
    xstg m ρ c (ix2 r k) = m ((c : Thread nD τ).loc main_arg0) (ix2 r k) := by
  refine congrArg (m ((c : Thread nD τ).loc main_arg0)) (funext fun d => Fin.ext ?_)
  match d with
  | 0 => show 0 + 1 * r.val = r.val; omega
  | 1 => show 0 + 1 * k.val = k.val; omega
theorem wstg_apply (c : Dev nD) (k : Fin 512) (n : Fin 2048) :
    wstg m ρ c (ix2 k n) = m ((c : Thread nD τ).loc main_arg1) (ix2 k n) := by
  refine congrArg (m ((c : Thread nD τ).loc main_arg1)) (funext fun d => Fin.ext ?_)
  match d with
  | 0 => show 0 + 1 * k.val = k.val; omega
  | 1 => show 0 + 1 * n.val = n.val; omega

end Arrays

/-! ## The precondition -/

/-- The precondition of one device's blocks, entry by entry. -/
theorem small_of_pre [Cert.Pre_partials_small_KernelIdeal.Facts] (x : FVec Ideal Cert.Pre_partials_small_KernelIdeal.S4096x512 .f32)
    (w : FVec Ideal Cert.Pre_partials_small_KernelIdeal.S512x2048 .f32)
    (h : Cert.Pre_partials_small_KernelIdeal.fn (F := Ideal) x w = fun _ => 1#1) (r : Fin 4096) (n : Fin 2048) :
    max (∑ k : Fin 512, xAt x r k * wAt w k n) (-∑ k : Fin 512, xAt x r k * wAt w k n) ≤ ((7.5 : ℝ) : EReal) := by
  dsimp only [Cert.Pre_partials_small_KernelIdeal.fn] at h
  have h1 := Host.reduce_andi_all _ _ _ _ _ (congrFun h default) (ix2 r n)
  have h2 : ((cmpf (F := Ideal) (φ := .f32) .ole (Host.absf (Host.dotGeneral Cert.Pre_partials_small_KernelIdeal.dot_S4096x512_S512x2048_S4096x2048_1_0_0_1_n_n none x w))
      (broadcastInDim Cert.Pre_partials_small_KernelIdeal.S4096x2048 ![] Cert.Pre_partials_small_KernelIdeal.Facts.bcast_S_S4096x2048
        (constant Cert.Pre_partials_small_KernelIdeal.S_ .f32 0x40F00000#32))) : IVec _ 1) (ix2 r n)
      = BitVec.ofBool (decide (max (∑ k : Fin 512, xAt x r k * wAt w k n) (-∑ k : Fin 512, xAt x r k * wAt w k n) ≤ Ideal.ofBits .f32 0x40F00000#32)) := by
    unfold xAt wAt
    pointwise [Cert.Pre_partials_small_KernelIdeal.dot_S4096x512_S512x2048_S4096x2048_1_0_0_1_n_n]
    rfl
  have h3 := h2.symm.trans h1
  rw [bits_7_5] at h3
  by_contra hn
  rw [decide_eq_false hn] at h3
  exact absurd h3 (by decide)

/-! ## The reference -/

/-- Where device `d`'s inner coordinate `k` lies among all 4096. -/
def innerAt (d : Dev nD) (k : Fin 512) : Fin 4096 := ⟨d.val * 512 + k.val, by have := d.isLt; change _ < 8 at this; omega⟩

/-- The reference's product, one entry. -/
def dotE (X : FVec Ideal ⟨2, ![4096, 4096]⟩ .f32) (W : FVec Ideal ⟨2, ![4096, 2048]⟩ .f32) (r : Fin 4096) (n : Fin 2048) : EReal :=
  ∑ K : Fin 4096, (X (ix2 r K) : EReal) * (W (ix2 K n) : EReal)

/-- The reference's result. -/
def refOut (X : FVec Ideal Cert.ReferenceIdeal.S4096x4096 .f32) (W : FVec Ideal Cert.ReferenceIdeal.S4096x2048 .f32) :
    FVec Ideal Cert.ReferenceIdeal.S4096x2048 .f32 :=
  Host.divf (Host.dotGeneral Cert.ReferenceIdeal.dot_S4096x4096_S4096x2048_S4096x2048_1_0_0_1_n_n none X W)
    (addf (broadcastInDim Cert.ReferenceIdeal.S4096x2048 ![] Cert.ReferenceIdeal.Gen.bcast_S_S4096x2048 (constant Cert.ReferenceIdeal.S_ .f32 0x3F800000#32))
      (Host.exp (Host.negf (minimumf
        (broadcastInDim Cert.ReferenceIdeal.S4096x2048 ![] Cert.ReferenceIdeal.Gen.bcast_S_S4096x2048 (id (constant Cert.ReferenceIdeal.S_ .f32 0x42700000#32)))
        (maximumf
          (broadcastInDim Cert.ReferenceIdeal.S4096x2048 ![] Cert.ReferenceIdeal.Gen.bcast_S_S4096x2048 (id (constant Cert.ReferenceIdeal.S_ .f32 0xC2700000#32)))
          (Host.dotGeneral Cert.ReferenceIdeal.dot_S4096x4096_S4096x2048_S4096x2048_1_0_0_1_n_n none X W))))))

/-- One entry of it: the activation of the product's entry. -/
theorem refOut_apply (X : FVec Ideal Cert.ReferenceIdeal.S4096x4096 .f32) (W : FVec Ideal Cert.ReferenceIdeal.S4096x2048 .f32)
    (r : Fin 4096) (n : Fin 2048) : refOut X W (ix2 r n) = siluE (dotE X W r n) := by
  unfold siluE dotE
  rw [← bits_60, ← bits_neg60]
  pointwise [refOut, Cert.ReferenceIdeal.dot_S4096x4096_S4096x2048_S4096x2048_1_0_0_1_n_n]
  rfl

/-! ## A device's result is a block of the reference's -/

section Blocks

variable (X : FVec Ideal Cert.ReferenceIdeal.S4096x4096 .f32) (W : FVec Ideal Cert.ReferenceIdeal.S4096x2048 .f32)
  (xs : Dev nD → XBuf Ideal) (ws : Dev nD → WBuf Ideal)

/-- The eight shares of an entry are the product's whole inner sum. -/
theorem shares_sum
    (hx : ∀ (d : Dev nD) (r : Fin 4096) (k : Fin 512), xAt (xs d) r k = X (ix2 r (innerAt d k)))
    (hw : ∀ (d : Dev nD) (k : Fin 512) (n : Fin 2048), wAt (ws d) k n = W (ix2 (innerAt d k) n))
    (c : Dev nD) (a : Fin 512) (n : Fin 2048) :
    ∑ d, share xs ws d c a n = dotE X W ⟨512 * c.val + a.val, by have := c.isLt; change _ < 8 at this; omega⟩ n := by
  unfold share dotE
  simp only [hx, hw]
  refine Eq.trans ?_ (Fin.sum_mul_add_fin (M := EReal) 8 512 (L := 4096) fun K => X (ix2 ⟨512 * c.val + a.val, by have := c.isLt; change _ < 8 at this; omega⟩ K) * W (ix2 K n))
  rfl

/-- A device's result, for small partial products, is its row block of the reference's. -/
theorem out_block
    (hx : ∀ (d : Dev nD) (r : Fin 4096) (k : Fin 512), xAt (xs d) r k = X (ix2 r (innerAt d k)))
    (hw : ∀ (d : Dev nD) (k : Fin 512) (n : Fin 2048), wAt (ws d) k n = W (ix2 (innerAt d k) n))
    (hs : ∀ (d : Dev nD) (r : Fin 4096) (n : Fin 2048),
      max (∑ k : Fin 512, xAt (xs d) r k * wAt (ws d) k n) (-∑ k : Fin 512, xAt (xs d) r k * wAt (ws d) k n) ≤ ((7.5 : ℝ) : EReal))
    (c : Dev nD) : outAt xs ws c = Layout.block ⟨2, ![512, 2048]⟩ ⟨2, ![4096, 2048]⟩ 0 8 c (refOut X W) := by
  funext j
  obtain ⟨a, n, rfl⟩ : ∃ (a : Fin 512) (n : Fin 2048), j = ix2 a n := ⟨j 0, j 1, funext fun d => match d with
    | 0 => rfl
    | 1 => rfl⟩
  have hr := sum_range (fun d => share xs ws d c a n) fun d => hs d _ n
  rw [outAt_apply, actE_eq hr.1 hr.2, shares_sum X W xs ws hx hw, ← refOut_apply, Layout.block_apply]
  refine congrArg (refOut X W) (funext fun d => Fin.ext ?_)
  match d with
  | 0 => show 512 * c.val + a.val = c.val * 512 + a.val; omega
  | 1 => rfl

end Blocks

/-- The value claim. -/
theorem algebraic_kernelIdeal : Cert.algebraic_KernelIdeal_ReferenceIdeal_pre_partials_small_KernelIdeal := by
  intro m g m' g' hpre hblk
  have hx (d : Dev nD) (r : Fin 4096) (k : Fin 512) : xAt (xstg m g d) r k
      = (m' ((((0 : Dev Cert.ReferenceIdeal.nD).tc : Thread Cert.ReferenceIdeal.nD Cert.ReferenceIdeal.τ)).loc Cert.ReferenceIdeal.main_arg0) : FVec Ideal Cert.ReferenceIdeal.S4096x4096 .f32)
        (ix2 r (innerAt d k)) := by
    refine (xstg_apply m g d r k).trans ((congrFun (hblk d).1 (ix2 r k)).trans ?_)
    refine congrArg (m' (((0 : Dev Cert.ReferenceIdeal.nD).tc : Thread Cert.ReferenceIdeal.nD Cert.ReferenceIdeal.τ).loc Cert.ReferenceIdeal.main_arg0)) (funext fun e => Fin.ext ?_)
    match e with
    | 0 => rfl
    | 1 => rfl
  have hw (d : Dev nD) (k : Fin 512) (n : Fin 2048) : wAt (wstg m g d) k n
      = (m' ((((0 : Dev Cert.ReferenceIdeal.nD).tc : Thread Cert.ReferenceIdeal.nD Cert.ReferenceIdeal.τ)).loc Cert.ReferenceIdeal.main_arg1) : FVec Ideal Cert.ReferenceIdeal.S4096x2048 .f32)
        (ix2 (innerAt d k) n) := by
    refine (wstg_apply m g d k n).trans ((congrFun (hblk d).2 (ix2 k n)).trans ?_)
    refine congrArg (m' (((0 : Dev Cert.ReferenceIdeal.nD).tc : Thread Cert.ReferenceIdeal.nD Cert.ReferenceIdeal.τ).loc Cert.ReferenceIdeal.main_arg1)) (funext fun e => Fin.ext ?_)
    match e with
    | 0 => rfl
    | 1 => rfl
  have hs (d : Dev nD) (r : Fin 4096) (n : Fin 2048) :
      max (∑ k : Fin 512, xAt (xstg m g d) r k * wAt (wstg m g d) k n) (-∑ k : Fin 512, xAt (xstg m g d) r k * wAt (wstg m g d) k n)
        ≤ ((7.5 : ℝ) : EReal) := by
    have e : ∑ k : Fin 512, xAt (xstg m g d) r k * wAt (wstg m g d) k n
        = ∑ k : Fin 512, xAt (m (d.tc.loc main_arg0)) r k * wAt (m (d.tc.loc main_arg1)) k n :=
      Finset.sum_congr rfl fun k _ => congrArg₂ (fun p q : EReal => p * q) (xstg_apply m g d r k) (wstg_apply m g d k n)
    rw [e]
    exact small_of_pre _ _ (hpre d) r n
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c 2).trans ((finalA_out m g c).trans (out_block _ _ (xstg m g) (wstg m g) hx hw hs c)),
        (h.1 c 0).trans (finalA_x m g c), (h.1 c 1).trans (finalA_w m g c)⟩)
      (run_main (F := Ideal) m g)
  · exact (θ_run Cert.ReferenceIdeal.defs _ _).mono (fun _ h => h 0) (Cert.ReferenceIdeal.Value.run (F := Ideal) m' g')

end Cert.ReduceScatter

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_partials_small_KernelIdeal
public import proofs.«01_k».proof.Proof.Gen.Pre_partials_small_ReferenceIdeal
public import proofs.«01_k».proof.Proof.Frames
public import proofs.«01_k».proof.Proof.Value
public import Idealize.ShloMosaic.Adequacy
public import Idealize.ShloMosaic.Init

@[expose] public section

noncomputable section

namespace Cert.Proof

open Cert.ReduceScatter

theorem claim : Cert.Claim :=
  ⟨Cert.Kernel.Gen.facts, Cert.KernelIdeal.Gen.facts, Cert.ReferenceIdeal.Gen.facts,
    Cert.Pre_partials_small_KernelIdeal.Gen.facts, Cert.Pre_partials_small_ReferenceIdeal.Gen.facts,
    frame_kernel, frame_kernelIdeal, fun m ρ _ => frame_kernelIdeal m ρ trivial,
    frame_referenceIdeal, fun m ρ _ => frame_referenceIdeal m ρ trivial, trivial, algebraic_kernelIdeal⟩

end Cert.Proof

end
